-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v9) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v13) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v7)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v25) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v11_0)) (v1 : (c : Dev Cert.Kernel10Ideal.nD) → Buf (Elt Ideal) ((c.tc : Thread Cert.Kernel10Ideal.nD Cert.Kernel10Ideal.τ).loc Cert.Kernel10Ideal.main_v11_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v11_0) = v0 c
          ∧ r.2.mem ((c.tc : Thread Cert.Kernel10Ideal.nD Cert.Kernel10Ideal.τ).loc Cert.Kernel10Ideal.main_v11_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v15_0)) (v1 : (c : Dev Cert.Kernel11Ideal.nD) → Buf (Elt Ideal) ((c.tc : Thread Cert.Kernel11Ideal.nD Cert.Kernel11Ideal.τ).loc Cert.Kernel11Ideal.main_v15_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v15_0) = v0 c
          ∧ r.2.mem ((c.tc : Thread Cert.Kernel11Ideal.nD Cert.Kernel11Ideal.τ).loc Cert.Kernel11Ideal.main_v15_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v11) = v0 c
          ∧ r.2.mem ((c.tc : Thread Cert.Reference11Ideal.nD Cert.Reference11Ideal.τ).loc Cert.Reference11Ideal.main_v14) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)) →
    ∃ (v0 : (c : Dev Cert.Kernel12Ideal.nD) → Buf (Elt Ideal) ((c.tc : Thread Cert.Kernel12Ideal.nD Cert.Kernel12Ideal.τ).loc Cert.Kernel12Ideal.main_v15_0)) (v1 : (c : Dev Cert.Kernel12Ideal.nD) → Buf (Elt Ideal) ((c.tc : Thread Cert.Kernel12Ideal.nD Cert.Kernel12Ideal.τ).loc Cert.Kernel12Ideal.main_v15_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v15_0) = v0 c
          ∧ r.2.mem ((c.tc : Thread Cert.Kernel12Ideal.nD Cert.Kernel12Ideal.τ).loc Cert.Kernel12Ideal.main_v15_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v10) = v0 c
          ∧ r.2.mem ((c.tc : Thread Cert.Reference12Ideal.nD Cert.Reference12Ideal.τ).loc Cert.Reference12Ideal.main_v13) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v7) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v11) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S4x2048x2048 : Shape := ⟨3, ![4, 2048, 2048]⟩
abbrev S32x513 : Shape := ⟨2, ![32, 513]⟩
abbrev S_ : Shape := ⟨0, ![]⟩

class Facts : Prop where
  bitsLt_bf16_f32 : FTy.bits .bf16 < FTy.bits .f32
  bcast_S_S4x2048x2048 : S_.BroadcastsInDim S4x2048x2048 (![] : Fin 0 → Fin S4x2048x2048.rank)
  bcast_S_S32x513 : S_.BroadcastsInDim S32x513 (![] : Fin 0 → Fin S32x513.rank)

variable [Facts]

def fn {F : FTy → Type} [FloatOps F] (main_arg0 : FVec F S4x2048x2048 .bf16) (main_arg1 : FVec F S4x2048x2048 .bf16) (main_arg2 : FVec F S4x2048x2048 .bf16) (main_arg3 : FVec F S32x513 .f32) : IVec S4x2048x2048 1 × IVec S4x2048x2048 1 × IVec S32x513 1 :=
  let main_v0 : FVec F S4x2048x2048 .f32 := (extf .f32 · bitsLt_bf16_f32) main_arg0
  let main_v1 : FVec F S4x2048x2048 .f32 := Host.absf main_v0
  let main_cst : FVec F S_ .f32 := constant S_ .f32 0x7F800000#32
  let main_v2 : FVec F S4x2048x2048 .f32 := broadcastInDim S4x2048x2048 ![] bcast_S_S4x2048x2048 main_cst
  let main_v3 : IVec S4x2048x2048 1 := cmpf .olt main_v1 main_v2
  let main_v4 : FVec F S4x2048x2048 .f32 := (extf .f32 · bitsLt_bf16_f32) main_arg1
  let main_v5 : FVec F S4x2048x2048 .f32 := Host.absf main_v4
  let main_cst_0 : FVec F S_ .f32 := constant S_ .f32 0x7F800000#32
  let main_v6 : FVec F S4x2048x2048 .f32 := broadcastInDim S4x2048x2048 ![] bcast_S_S4x2048x2048 main_cst_0
  let main_v7 : IVec S4x2048x2048 1 := cmpf .olt main_v5 main_v6
  let main_v8 : FVec F S32x513 .f32 := Host.absf main_arg3
  let main_cst_1 : FVec F S_ .f32 := constant S_ .f32 0x7F800000#32
  let main_v9 : FVec F S32x513 .f32 := broadcastInDim S32x513 ![] bcast_S_S32x513 main_cst_1
  let main_v10 : IVec S32x513 1 := cmpf .olt main_v8 main_v9
  (main_v3, main_v7, main_v10)
-- ==== Kernel.lean ====
abbrev S4x2048x2048 : Shape := ⟨3, ![4, 2048, 2048]⟩
abbrev S32x513 : Shape := ⟨2, ![32, 513]⟩
abbrev S4x2048x4096 : Shape := ⟨3, ![4, 2048, 4096]⟩
abbrev S_ : Shape := ⟨0, ![]⟩
abbrev S4x2560x4096 : Shape := ⟨3, ![4, 2560, 4096]⟩
abbrev S32x1 : Shape := ⟨2, ![32, 1]⟩
abbrev S32x383 : Shape := ⟨2, ![32, 383]⟩
abbrev S32x257 : Shape := ⟨2, ![32, 257]⟩
abbrev S32x128 : Shape := ⟨2, ![32, 128]⟩
abbrev S32x768 : Shape := ⟨2, ![32, 768]⟩
abbrev S32x1x768 : Shape := ⟨3, ![32, 1, 768]⟩
abbrev S32x128x640 : Shape := ⟨3, ![32, 128, 640]⟩
abbrev S1x1x768 : Shape := ⟨3, ![1, 1, 768]⟩
abbrev S1x128x640 : Shape := ⟨3, ![1, 128, 640]⟩
abbrev S128x768 : Shape := ⟨2, ![128, 768]⟩
abbrev S1x768 : Shape := ⟨2, ![1, 768]⟩
abbrev S128x640 : Shape := ⟨2, ![128, 640]⟩
abbrev S1x2048x128 : Shape := ⟨3, ![1, 2048, 128]⟩
abbrev S1x2560x128 : Shape := ⟨3, ![1, 2560, 128]⟩
abbrev S2x128x640 : Shape := ⟨3, ![2, 128, 640]⟩
abbrev S128x128 : Shape := ⟨2, ![128, 128]⟩
abbrev S256x640 : Shape := ⟨2, ![256, 640]⟩
abbrev S1x128x128 : Shape := ⟨3, ![1, 128, 128]⟩
abbrev S1x640x128 : Shape := ⟨3, ![1, 640, 128]⟩
abbrev S640x128 : Shape := ⟨2, ![640, 128]⟩
abbrev S256x128 : Shape := ⟨2, ![256, 128]⟩
abbrev S256 : Shape := ⟨1, ![256]⟩
abbrev S256x1 : Shape := ⟨2, ![256, 1]⟩

abbrev nBuf : Space → Nat
  | .hbm => 17
  | .vmem => 14
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x2048, .bf16⟩
  | .hbm, ⟨3, _⟩ => ⟨S32x513, .f32⟩
  | .hbm, ⟨4, _⟩ => ⟨S4x2048x4096, .bf16⟩
  | .hbm, ⟨5, _⟩ => ⟨S_, .i32⟩
  | .hbm, ⟨6, _⟩ => ⟨S_, .bf16⟩
  | .hbm, ⟨7, _⟩ => ⟨S4x2560x4096, .bf16⟩
  | .hbm, ⟨8, _⟩ => ⟨S32x1, .f32⟩
  | .hbm, ⟨9, _⟩ => ⟨S32x383, .f32⟩
  | .hbm, ⟨10, _⟩ => ⟨S32x383, .f32⟩
  | .hbm, ⟨11, _⟩ => ⟨S32x257, .f32⟩
  | .hbm, ⟨12, _⟩ => ⟨S32x128, .f32⟩
  | .hbm, ⟨13, _⟩ => ⟨S32x768, .f32⟩
  | .hbm, ⟨14, _⟩ => ⟨S32x1x768, .f32⟩
  | .hbm, ⟨15, _⟩ => ⟨S32x128x640, .f32⟩
  | .hbm, ⟨16, _⟩ => ⟨S4x2048x2048, .bf16⟩
  | .local _ .vmem, ⟨0, _⟩ => ⟨S1x1x768, .f32⟩
  | .local _ .vmem, ⟨1, _⟩ => ⟨S1x1x768, .f32⟩
  | .local _ .vmem, ⟨2, _⟩ => ⟨S1x128x640, .f32⟩
  | .local _ .vmem, ⟨3, _⟩ => ⟨S1x128x640, .f32⟩
  | .local _ .vmem, ⟨4, _⟩ => ⟨S1x2048x128, .bf16⟩
  | .local _ .vmem, ⟨5, _⟩ => ⟨S1x2048x128, .bf16⟩
  | .local _ .vmem, ⟨6, _⟩ => ⟨S1x2560x128, .bf16⟩
  | .local _ .vmem, ⟨7, _⟩ => ⟨S1x2560x128, .bf16⟩
  | .local _ .vmem, ⟨8, _⟩ => ⟨S1x2560x128, .bf16⟩
  | .local _ .vmem, ⟨9, _⟩ => ⟨S1x2560x128, .bf16⟩
  | .local _ .vmem, ⟨10, _⟩ => ⟨S2x128x640, .f32⟩
  | .local _ .vmem, ⟨11, _⟩ => ⟨S2x128x640, .f32⟩
  | .local _ .vmem, ⟨12, _⟩ => ⟨S1x2048x128, .bf16⟩
  | .local _ .vmem, ⟨13, _⟩ => ⟨S1x2048x128, .bf16⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![4, 16], ![false, false]⟩

def k1_mult1 : BitVec 32 :=
  let c0_i32 : BitVec 32 := 0#32
  let c128_i32 : BitVec 32 := 128#32
  let v14 : BitVec 32 := Scalar.muli c0_i32 c128_i32
  v14
def k1_off1 (c0_i32 : BitVec 32) : Fin 3 → Nat :=
  let c0 : Index := 0#32
  let c128_i32 : BitVec 32 := 128#32
  let v14 : BitVec 32 := Scalar.muli c0_i32 c128_i32
  let v15 : BitVec 32 := v14
  let v16 : Index := Scalar.indexCast v15
  let c0_4 : Index := 0#32
  ![0, v16.toNat, 0]
def k1_off2 (c0_i32 : BitVec 32) : Fin 3 → Nat :=
  let c0_5 : Index := 0#32
  let c128_i32 : BitVec 32 := 128#32
  let v14 : BitVec 32 := Scalar.muli c0_i32 c128_i32
  let v15 : BitVec 32 := v14
  let v19 : Index := Scalar.indexCast v15
  let c0_6 : Index := 0#32
  ![0, v19.toNat, 0]
def k1_mult2 : BitVec 32 :=
  let c1_i32 : BitVec 32 := 1#32
  let c128_i32_20 : BitVec 32 := 128#32
  let v60 : BitVec 32 := Scalar.muli c1_i32 c128_i32_20
  v60
def k1_mult3 : BitVec 32 :=
  let c2_i32 : BitVec 32 := 2#32
  let c128_i32_39 : BitVec 32 := 128#32
  let v106 : BitVec 32 := Scalar.muli c2_i32 c128_i32_39
  v106
def k1_mult4 : BitVec 32 :=
  let c3_i32 : BitVec 32 := 3#32
  let c128_i32_58 : BitVec 32 := 128#32
  let v152 : BitVec 32 := Scalar.muli c3_i32 c128_i32_58
  v152
@[reducible] def k1_t1_loop : Scf.Loop 32 :=
  let c4_i32_77 : BitVec 32 := 4#32
  let c12_i32 : BitVec 32 := 12#32
  let v198 : BitVec 32 := Scalar.addi c4_i32_77 c12_i32
  let c1_i32_78 : BitVec 32 := 1#32
  ⟨c4_i32_77, v198, c1_i32_78⟩
def k1_mult5 (k1_t1 : Fin k1_t1_loop.trips) : BitVec 32 :=
  let c4_i32_77 : BitVec 32 := 4#32
  let c1_i32_78 : BitVec 32 := 1#32
  let arg7 : BitVec 32 := Scf.iv c4_i32_77 c1_i32_78 k1_t1
  let c128_i32_80 : BitVec 32 := 128#32
  let v199 : BitVec 32 := Scalar.muli arg7 c128_i32_80
  v199
def k1_off3 (k1_t1 : Fin k1_t1_loop.trips) : Fin 3 → Nat :=
  let c0_81 : Index := 0#32
  let c4_i32_77 : BitVec 32 := 4#32
  let c1_i32_78 : BitVec 32 := 1#32
  let arg7 : BitVec 32 := Scf.iv c4_i32_77 c1_i32_78 k1_t1
  let c128_i32_80 : BitVec 32 := 128#32
  let v199 : BitVec 32 := Scalar.muli arg7 c128_i32_80
  let v200 : BitVec 32 := v199
  let v201 : Index := Scalar.indexCast v200
  let c0_82 : Index := 0#32
  ![0, v201.toNat, 0]
def k1_off4 (k1_t1 : Fin k1_t1_loop.trips) : Fin 3 → Nat :=
  let c0_83 : Index := 0#32
  let c4_i32_77 : BitVec 32 := 4#32
  let c1_i32_78 : BitVec 32 := 1#32
  let arg7 : BitVec 32 := Scf.iv c4_i32_77 c1_i32_78 k1_t1
  let c128_i32_80 : BitVec 32 := 128#32
  let v199 : BitVec 32 := Scalar.muli arg7 c128_i32_80
  let v200 : BitVec 32 := v199
  let v204 : Index := Scalar.indexCast v200
  let c0_84 : Index := 0#32
  ![0, v204.toNat, 0]
def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg1 c16_i32
  let c0_i32 : BitVec 32 := 0#32
  let c0_i32_0 : BitVec 32 := 0#32
  ![arg0.toNat, c0_i32.toNat, v0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x2560x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2560x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S2x128x640 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x2048x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S4x2048x2048 : Shape := ⟨3, ![4, 2048, 2048]⟩
abbrev S32x513 : Shape := ⟨2, ![32, 513]⟩
abbrev S4x2048x32x64 : Shape := ⟨4, ![4, 2048, 32, 64]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S2048x2048x1 : Shape := ⟨3, ![2048, 2048, 1]⟩
abbrev S32x2048x2048 : Shape := ⟨3, ![32, 2048, 2048]⟩
abbrev S4x32x2048x2048 : Shape := ⟨4, ![4, 32, 2048, 2048]⟩
abbrev S1x32x2048x2048 : Shape := ⟨4, ![1, 32, 2048, 2048]⟩
abbrev S4x32x2048 : Shape := ⟨3, ![4, 32, 2048]⟩
abbrev S4x32x2048x1 : Shape := ⟨4, ![4, 32, 2048, 1]⟩
abbrev S4x32x64x2048 : Shape := ⟨4, ![4, 32, 64, 2048]⟩

abbrev nBuf : Space → Nat
  | .hbm => 96
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S4x2048x2048, .bf16⟩
  | .hbm, ⟨2, _⟩ => ⟨S4x2048x2048, .bf16⟩
  | .hbm, ⟨3, _⟩ => ⟨S32x513, .f32⟩
  | .hbm, ⟨4, _⟩ => ⟨S4x2048x2048, .f32⟩
  | .hbm, ⟨5, _⟩ => ⟨S4x2048x32x64, .f32⟩
  | .hbm, ⟨6, _⟩ => ⟨S4x2048x2048, .f32⟩
  | .hbm, ⟨7, _⟩ => ⟨S4x2048x32x64, .f32⟩
  | .hbm, ⟨8, _⟩ => ⟨S4x2048x2048, .f32⟩
  | .hbm, ⟨9, _⟩ => ⟨S4x2048x32x64, .f32⟩
  | .hbm, ⟨10, _⟩ => ⟨S2048, .i32⟩
  | .hbm, ⟨11, _⟩ => ⟨S2048x1, .i32⟩
  | .hbm, ⟨12, _⟩ => ⟨S1x2048, .i32⟩
  | .hbm, ⟨13, _⟩ => ⟨S2048x2048, .i32⟩
  | .hbm, ⟨14, _⟩ => ⟨S2048x2048, .i32⟩
  | .hbm, ⟨15, _⟩ => ⟨S2048x2048, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i32⟩
  | .hbm, ⟨24, _⟩ => ⟨S_, .i32⟩
  | .hbm, ⟨25, _⟩ => ⟨S2048x2048, .i32⟩
  | .hbm, ⟨26, _⟩ => ⟨S2048x2048, .i32⟩
  | .hbm, ⟨27, _⟩ => ⟨S_, .i32⟩
  | .hbm, ⟨28, _⟩ => ⟨S2048x2048, .i32⟩
  | .hbm, ⟨29, _⟩ => ⟨S2048x2048, .i1⟩
  | .hbm, ⟨30, _⟩ => ⟨S_, .i32⟩
  | .hbm, ⟨31, _⟩ => ⟨S2048x2048, .i32⟩
  | .hbm, ⟨32, _⟩ => ⟨S2048x2048, .i32⟩
  | .hbm, ⟨33, _⟩ => ⟨S2048x2048, .i32⟩
  | .hbm, ⟨34, _⟩ => ⟨S2048x2048x1, .i32⟩
  | .hbm, ⟨35, _⟩ => ⟨S32x2048x2048, .f32⟩
  | .hbm, ⟨36, _⟩ => ⟨S4x32x2048x2048, .f32⟩
  | .hbm, ⟨37, _⟩ => ⟨S_, .f32⟩
  | .hbm, ⟨38, _⟩ => ⟨S4x32x2048x2048, .f32⟩
  | .hbm, ⟨39, _⟩ => ⟨S4x32x2048x2048, .f32⟩
  | .hbm, ⟨40, _⟩ => ⟨S1x32x2048x2048, .f32⟩
  | .hbm, ⟨41, _⟩ => ⟨S4x32x2048x2048, .f32⟩
  | .hbm, ⟨42, _⟩ => ⟨S4x32x2048x2048, .f32⟩
  | .hbm, ⟨43, _⟩ => ⟨S_, .i32⟩
  | .hbm, ⟨44, _⟩ => ⟨S_, .i32⟩
  | .hbm, ⟨45, _⟩ => ⟨S2048, .i32⟩
  | .hbm, ⟨46, _⟩ => ⟨S2048, .i32⟩
  | .hbm, ⟨47, _⟩ => ⟨S2048, .i32⟩
  | .hbm, ⟨48, _⟩ => ⟨S_, .i32⟩
  | .hbm, ⟨49, _⟩ => ⟨S2048, .i32⟩
  | .hbm, ⟨50, _⟩ => ⟨S2048, .i1⟩
  | .hbm, ⟨51, _⟩ => ⟨S2048, .i32⟩
  | .hbm, ⟨52, _⟩ => ⟨S2048, .i32⟩
  | .hbm, ⟨53, _⟩ => ⟨S_, .i32⟩
  | .hbm, ⟨54, _⟩ => ⟨S2048, .i32⟩
  | .hbm, ⟨55, _⟩ => ⟨S2048, .i1⟩
  | .hbm, ⟨56, _⟩ => ⟨S2048, .i1⟩
  | .hbm, ⟨57, _⟩ => ⟨S_, .i32⟩
  | .hbm, ⟨58, _⟩ => ⟨S2048, .i32⟩
  | .hbm, ⟨59, _⟩ => ⟨S2048, .i32⟩
  | .hbm, ⟨60, _⟩ => ⟨S2048, .i32⟩
  | .hbm, ⟨61, _⟩ => ⟨S2048x1, .i32⟩
  | .hbm, ⟨62, _⟩ => ⟨S1x2048, .i32⟩
  | .hbm, ⟨63, _⟩ => ⟨S2048x2048, .i32⟩
  | .hbm, ⟨64, _⟩ => ⟨S2048x2048, .i32⟩
  | .hbm, ⟨65, _⟩ => ⟨S2048x2048, .i32⟩
  | .hbm, ⟨66, _⟩ => ⟨S_, .i32⟩
  | .hbm, ⟨67, _⟩ => ⟨S2048x2048, .i32⟩
  | .hbm, ⟨68, _⟩ => ⟨S2048x2048, .i1⟩
  | .hbm, ⟨69, _⟩ => ⟨S_, .i32⟩
  | .hbm, ⟨70, _⟩ => ⟨S2048x2048, .i32⟩
  | .hbm, ⟨71, _⟩ => ⟨S2048x2048, .i1⟩
  | .hbm, ⟨72, _⟩ => ⟨S2048x2048, .i1⟩
  | .hbm, ⟨73, _⟩ => ⟨S_, .f32⟩
  | .hbm, ⟨74, _⟩ => ⟨S_, .f32⟩
  | .hbm, ⟨75, _⟩ => ⟨S4x32x2048x2048, .i1⟩
  | .hbm, ⟨76, _⟩ => ⟨S4x32x2048x2048, .f32⟩
  | .hbm, ⟨77, _⟩ => ⟨S4x32x2048x2048, .f32⟩
  | .hbm, ⟨78, _⟩ => ⟨S_, .f32⟩
  | .hbm, ⟨79, _⟩ => ⟨S4x32x2048, .f32⟩
  | .hbm, ⟨80, _⟩ => ⟨S_, .f32⟩
  | .hbm, ⟨81, _⟩ => ⟨S4x32x2048, .f32⟩
  | .hbm, ⟨82, _⟩ => ⟨S4x32x2048, .f32⟩
  | .hbm, ⟨83, _⟩ => ⟨S4x32x2048x1, .f32⟩
  | .hbm, ⟨84, _⟩ => ⟨S4x32x2048x2048, .f32⟩
  | .hbm, ⟨85, _⟩ => ⟨S4x32x2048x2048, .f32⟩
  | .hbm, ⟨86, _⟩ => ⟨S4x32x2048x2048, .f32⟩
  | .hbm, ⟨87, _⟩ => ⟨S_, .f32⟩
  | .hbm, ⟨88, _⟩ => ⟨S4x32x2048, .f32⟩
  | .hbm, ⟨89, _⟩ => ⟨S4x32x2048x1, .f32⟩
  | .hbm, ⟨90, _⟩ => ⟨S4x32x2048x2048, .f32⟩
  | .hbm, ⟨91, _⟩ => ⟨S4x32x2048x2048, .f32⟩
  | .hbm, ⟨92, _⟩ => ⟨S4x32x64x2048, .f32⟩
  | .hbm, ⟨93, _⟩ => ⟨S4x2048x32x64, .f32⟩
  | .hbm, ⟨94, _⟩ => ⟨S4x2048x2048, .f32⟩
  | .hbm, ⟨95, _⟩ => ⟨S4x2048x2048, .bf16⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_c : Ref sig .tc := ⟨.hbm, 16, rfl⟩
abbrev main_c_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v12 : Ref sig .tc := ⟨.hbm, 23, rfl⟩
abbrev main_c_1 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_4 : Ref sig .tc := ⟨.hbm, 43, rfl⟩
abbrev main_call1_v0 : Ref sig .tc := ⟨.hbm, 44, rfl⟩
abbrev main_call1_v1 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_c : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_0 : Ref sig .tc := ⟨.hbm, 57, rfl⟩
abbrev main_call1_v12 : Ref sig .tc := ⟨.hbm, 58, rfl⟩
abbrev main_call1_v13 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_5 : Ref sig .tc := ⟨.hbm, 66, rfl⟩
abbrev main_v34 : Ref sig .tc := ⟨.hbm, 67, rfl⟩
abbrev main_v35 : Ref sig .tc := ⟨.hbm, 68, rfl⟩
abbrev main_c_6 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_cst_7 : Ref sig .tc := ⟨.hbm, 73, rfl⟩
abbrev main_call2_v0 : Ref sig .tc := ⟨.hbm, 74, rfl⟩
abbrev main_call2_v1 : Ref sig .tc := ⟨.hbm, 75, rfl⟩
abbrev main_call2_v2 : Ref sig .tc := ⟨.hbm, 76, rfl⟩
abbrev main_v39 : Ref sig .tc := ⟨.hbm, 77, rfl⟩
abbrev main_cst_8 : Ref sig .tc := ⟨.hbm, 78, rfl⟩
abbrev main_v40 : Ref sig .tc := ⟨.hbm, 79, rfl⟩
abbrev main_cst_9 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩

abbrev nD : Nat := 1
abbrev τ : Topo := Topo.v7x

variable {F : FTy → Type} [FloatOps F]
-- ==== Kernel2.lean ====
abbrev S4x2048x2048 : Shape := ⟨3, ![4, 2048, 2048]⟩
abbrev S2048 : Shape := ⟨1, ![2048]⟩
abbrev S4x2048 : Shape := ⟨2, ![4, 2048]⟩
abbrev S2x2048x8192 : Shape := ⟨3, ![2, 2048, 8192]⟩
abbrev S8192x2048 : Shape := ⟨2, ![8192, 2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S8192x8192 : Shape := ⟨2, ![8192, 8192]⟩
abbrev S1x2048x2048 : Shape := ⟨3, ![1, 2048, 2048]⟩
abbrev S8x128 : Shape := ⟨2, ![8, 128]⟩
abbrev S2048x2048 : Shape := ⟨2, ![2048, 2048]⟩

abbrev nBuf : Space → Nat
  | .hbm => 12
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x8192, .f32⟩
  | .hbm, ⟨5, _⟩ => ⟨S8192x2048, .f32⟩
  | .hbm, ⟨6, _⟩ => ⟨S4x1x2048, .f32⟩
  | .hbm, ⟨7, _⟩ => ⟨S4x1x2048, .f32⟩
  | .hbm, ⟨8, _⟩ => ⟨S1x2048, .f32⟩
  | .hbm, ⟨9, _⟩ => ⟨S8192x2048, .bf16⟩
  | .hbm, ⟨10, _⟩ => ⟨S2x2048x8192, .bf16⟩
  | .hbm, ⟨11, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S1x2048x2048, .bf16⟩
  | .local _ .vmem, ⟨12, _⟩ => ⟨S1x2048x2048, .bf16⟩
  | .local _ .vmem, ⟨13, _⟩ => ⟨S1024x2048, .bf16⟩
  | .local _ .vmem, ⟨14, _⟩ => ⟨S1024x2048, .bf16⟩
  | .local _ .vmem, ⟨15, _⟩ => ⟨S8x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 4, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1x2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference2Ideal.lean ====
abbrev S4x2048x2048 : Shape := ⟨3, ![4, 2048, 2048]⟩
abbrev S2048 : Shape := ⟨1, ![2048]⟩
abbrev S4x2048 : Shape := ⟨2, ![4, 2048]⟩
abbrev S2x2048x8192 : Shape := ⟨3, ![2, 2048, 8192]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S1x2048x8192 : Shape := ⟨3, ![1, 2048, 8192]⟩
abbrev S2048x8192 : Shape := ⟨2, ![2048, 8192]⟩
abbrev S4x2048x8192 : Shape := ⟨3, ![4, 2048, 8192]⟩
abbrev S8192x8192 : Shape := ⟨2, ![8192, 8192]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2x2048x8192, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S1x2048x8192, .f32⟩
  | .hbm, ⟨31, _⟩ => ⟨S2048x8192, .f32⟩
  | .hbm, ⟨32, _⟩ => ⟨S4x2048x8192, .f32⟩
  | .hbm, ⟨33, _⟩ => ⟨S_, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S8192x8192, .f32⟩
  | .hbm, ⟨38, _⟩ => ⟨S8192x8192, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_call0_cst : Ref sig .tc := ⟨.hbm, 33, rfl⟩
abbrev main_call0_v0 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== Kernel3.lean ====
abbrev S8192x8192 : Shape := ⟨2, ![8192, 8192]⟩
abbrev S2x8192x2048 : Shape := ⟨3, ![2, 8192, 2048]⟩
abbrev S4x2048x2048 : Shape := ⟨3, ![4, 2048, 2048]⟩
abbrev S4x2048 : Shape := ⟨2, ![4, 2048]⟩
abbrev S8192x2048 : Shape := ⟨2, ![8192, 2048]⟩
abbrev S4x1x2048 : Shape := ⟨3, ![4, 1, 2048]⟩
abbrev S1024x2048 : Shape := ⟨2, ![1024, 2048]⟩
abbrev S1x2048x1024 : Shape := ⟨3, ![1, 2048, 1024]⟩
abbrev S1024x1024 : Shape := ⟨2, ![1024, 1024]⟩
abbrev S1x1x1024 : Shape := ⟨3, ![1, 1, 1024]⟩
abbrev S2048x1024 : Shape := ⟨2, ![2048, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S4x2048x2048, .f32⟩
  | .hbm, ⟨3, _⟩ => ⟨S4x2048, .f32⟩
  | .hbm, ⟨4, _⟩ => ⟨S2x8192x2048, .bf16⟩
  | .hbm, ⟨5, _⟩ => ⟨S8192x2048, .f32⟩
  | .hbm, ⟨6, _⟩ => ⟨S4x1x2048, .f32⟩
  | .hbm, ⟨7, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def k0_cond3 (i : grid0.Coords) : BitVec 1 :=
  let arg2 : BitVec 32 := BitVec.ofNat 32 (i 2).val
  let c3_i32_7 : BitVec 32 := 3#32
  let v12 : BitVec 1 := Scalar.cmpi .eq arg2 c3_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![c1_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x8192 : Shape := ⟨2, ![8192, 8192]⟩
abbrev S2x8192x2048 : Shape := ⟨3, ![2, 8192, 2048]⟩
abbrev S4x2048x2048 : Shape := ⟨3, ![4, 2048, 2048]⟩
abbrev S4x2048 : Shape := ⟨2, ![4, 2048]⟩
abbrev S4x2048x8192 : Shape := ⟨3, ![4, 2048, 8192]⟩
abbrev S1x8192x2048 : Shape := ⟨3, ![1, 8192, 2048]⟩
abbrev S8192x2048 : Shape := ⟨2, ![8192, 2048]⟩
abbrev S4x1x2048 : Shape := ⟨3, ![4, 1, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S2x8192x2048, .f32⟩
  | .hbm, ⟨2, _⟩ => ⟨S4x2048x2048, .f32⟩
  | .hbm, ⟨3, _⟩ => ⟨S4x2048, .f32⟩
  | .hbm, ⟨4, _⟩ => ⟨S8192x8192, .f32⟩
  | .hbm, ⟨5, _⟩ => ⟨S4x2048x8192, .f32⟩
  | .hbm, ⟨6, _⟩ => ⟨S1x8192x2048, .f32⟩
  | .hbm, ⟨7, _⟩ => ⟨S8192x2048, .f32⟩
  | .hbm, ⟨8, _⟩ => ⟨S4x2048x2048, .f32⟩
  | .hbm, ⟨9, _⟩ => ⟨S4x1x2048, .f32⟩
  | .hbm, ⟨10, _⟩ => ⟨S4x2048x2048, .f32⟩
  | .hbm, ⟨11, _⟩ => ⟨S4x2048x2048, .f32⟩
  | .hbm, ⟨12, _⟩ => ⟨S4x2048x2048, .f32⟩
  | .hbm, ⟨13, _⟩ => ⟨S8192x2048, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel4.lean ====
abbrev S4x2048x2048 : Shape := ⟨3, ![4, 2048, 2048]⟩
abbrev S2048 : Shape := ⟨1, ![2048]⟩
abbrev S8192x2048 : Shape := ⟨2, ![8192, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 5
  | .vmem => 5
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S8192x2048, .f32⟩
  | .hbm, ⟨3, _⟩ => ⟨S1x2048, .f32⟩
  | .hbm, ⟨4, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference4Ideal.lean ====
abbrev S4x2048x2048 : Shape := ⟨3, ![4, 2048, 2048]⟩
abbrev S2048 : Shape := ⟨1, ![2048]⟩
abbrev S_ : Shape := ⟨0, ![]⟩
abbrev S4x2048 : Shape := ⟨2, ![4, 2048]⟩
abbrev S4x2048x1 : Shape := ⟨3, ![4, 2048, 1]⟩
abbrev S1x1x2048 : Shape := ⟨3, ![1, 1, 2048]⟩
abbrev S8192x2048 : Shape := ⟨2, ![8192, 2048]⟩

abbrev nBuf : Space → Nat
  | .hbm => 19
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048x2048, .f32⟩
  | .hbm, ⟨3, _⟩ => ⟨S_, .f32⟩
  | .hbm, ⟨4, _⟩ => ⟨S4x2048, .f32⟩
  | .hbm, ⟨5, _⟩ => ⟨S4x2048x1, .f32⟩
  | .hbm, ⟨6, _⟩ => ⟨S_, .f32⟩
  | .hbm, ⟨7, _⟩ => ⟨S4x2048x1, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S4x2048x1, .f32⟩
  | .hbm, ⟨13, _⟩ => ⟨S4x2048x2048, .f32⟩
  | .hbm, ⟨14, _⟩ => ⟨S4x2048x2048, .f32⟩
  | .hbm, ⟨15, _⟩ => ⟨S1x1x2048, .f32⟩
  | .hbm, ⟨16, _⟩ => ⟨S4x2048x2048, .f32⟩
  | .hbm, ⟨17, _⟩ => ⟨S4x2048x2048, .f32⟩
  | .hbm, ⟨18, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S4x2048x2048 : Shape := ⟨3, ![4, 2048, 2048]⟩
abbrev S2048 : Shape := ⟨1, ![2048]⟩
abbrev S4x2048 : Shape := ⟨2, ![4, 2048]⟩
abbrev S2048x2048 : Shape := ⟨2, ![2048, 2048]⟩
abbrev S8192x2048 : Shape := ⟨2, ![8192, 2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S512x2048 : Shape := ⟨2, ![512, 2048]⟩
abbrev S8x128 : Shape := ⟨2, ![8, 128]⟩

abbrev nBuf : Space → Nat
  | .hbm => 12
  | .vmem => 15
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S8192x2048, .f32⟩
  | .hbm, ⟨6, _⟩ => ⟨S4x1x2048, .f32⟩
  | .hbm, ⟨7, _⟩ => ⟨S4x1x2048, .f32⟩
  | .hbm, ⟨8, _⟩ => ⟨S1x2048, .f32⟩
  | .hbm, ⟨9, _⟩ => ⟨S8192x2048, .bf16⟩
  | .hbm, ⟨10, _⟩ => ⟨S2048x2048, .bf16⟩
  | .hbm, ⟨11, _⟩ => ⟨S8192x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S512x2048, .bf16⟩
  | .local _ .vmem, ⟨10, _⟩ => ⟨S512x2048, .bf16⟩
  | .local _ .vmem, ⟨11, _⟩ => ⟨S2048x2048, .bf16⟩
  | .local _ .vmem, ⟨12, _⟩ => ⟨S512x2048, .bf16⟩
  | .local _ .vmem, ⟨13, _⟩ => ⟨S512x2048, .bf16⟩
  | .local _ .vmem, ⟨14, _⟩ => ⟨S8x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![16, 1, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 1 → Memref sig .tc .vmem S2048x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, true, true]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference5Ideal.lean ====
abbrev S4x2048x2048 : Shape := ⟨3, ![4, 2048, 2048]⟩
abbrev S2048 : Shape := ⟨1, ![2048]⟩
abbrev S4x2048 : Shape := ⟨2, ![4, 2048]⟩
abbrev S2048x2048 : Shape := ⟨2, ![2048, 2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S8192x2048 : Shape := ⟨2, ![8192, 2048]⟩

abbrev nBuf : Space → Nat
  | .hbm => 33
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S4x2048x2048, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x2048, .f32⟩
  | .hbm, ⟨17, _⟩ => ⟨S4x2048x2048, .f32⟩
  | .hbm, ⟨18, _⟩ => ⟨S1x1x2048, .f32⟩
  | .hbm, ⟨19, _⟩ => ⟨S4x2048x2048, .f32⟩
  | .hbm, ⟨20, _⟩ => ⟨S4x2048x2048, .f32⟩
  | .hbm, ⟨21, _⟩ => ⟨S4x1x2048, .f32⟩
  | .hbm, ⟨22, _⟩ => ⟨S_, .f32⟩
  | .hbm, ⟨23, _⟩ => ⟨S4x1x2048, .f32⟩
  | .hbm, ⟨24, _⟩ => ⟨S4x1x2048, .f32⟩
  | .hbm, ⟨25, _⟩ => ⟨S4x2048x2048, .f32⟩
  | .hbm, ⟨26, _⟩ => ⟨S4x2048x2048, .f32⟩
  | .hbm, ⟨27, _⟩ => ⟨S4x1x2048, .f32⟩
  | .hbm, ⟨28, _⟩ => ⟨S4x2048x2048, .f32⟩
  | .hbm, ⟨29, _⟩ => ⟨S4x2048x2048, .f32⟩
  | .hbm, ⟨30, _⟩ => ⟨S4x2048x2048, .f32⟩
  | .hbm, ⟨31, _⟩ => ⟨S8192x2048, .f32⟩
  | .hbm, ⟨32, _⟩ => ⟨S8192x2048, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== Kernel6.lean ====
abbrev S4x2048x2048 : Shape := ⟨3, ![4, 2048, 2048]⟩
abbrev S2048 : Shape := ⟨1, ![2048]⟩
abbrev S4x2048 : Shape := ⟨2, ![4, 2048]⟩
abbrev S2048x2048 : Shape := ⟨2, ![2048, 2048]⟩
abbrev S8192x2048 : Shape := ⟨2, ![8192, 2048]⟩
abbrev S4x1x2048 : Shape := ⟨3, ![4, 1, 2048]⟩
abbrev S1x2048 : Shape := ⟨2, ![1, 2048]⟩
abbrev S1024x2048 : Shape := ⟨2, ![1024, 2048]⟩
abbrev S1x1x2048 : Shape := ⟨3, ![1, 1, 2048]⟩
abbrev S1024 : Shape := ⟨1, ![1024]⟩
abbrev S1024x1 : Shape := ⟨2, ![1024, 1]⟩
abbrev S2048x4096 : Shape := ⟨2, ![2048, 4096]⟩
abbrev S8192x4096 : Shape := ⟨2, ![8192, 4096]⟩
abbrev S8x128 : Shape := ⟨2, ![8, 128]⟩

abbrev nBuf : Space → Nat
  | .hbm => 14
  | .vmem => 16
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S2048x2048, .f32⟩
  | .hbm, ⟨6, _⟩ => ⟨S8192x2048, .f32⟩
  | .hbm, ⟨7, _⟩ => ⟨S4x1x2048, .f32⟩
  | .hbm, ⟨8, _⟩ => ⟨S4x1x2048, .f32⟩
  | .hbm, ⟨9, _⟩ => ⟨S1x2048, .f32⟩
  | .hbm, ⟨10, _⟩ => ⟨S8192x2048, .bf16⟩
  | .hbm, ⟨11, _⟩ => ⟨S2048x4096, .f32⟩
  | .hbm, ⟨12, _⟩ => ⟨S2048x4096, .bf16⟩
  | .hbm, ⟨13, _⟩ => ⟨S8192x4096, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1024x2048, .bf16⟩
  | .local _ .vmem, ⟨8, _⟩ => ⟨S1024x2048, .bf16⟩
  | .local _ .vmem, ⟨9, _⟩ => ⟨S1024x2048, .bf16⟩
  | .local _ .vmem, ⟨10, _⟩ => ⟨S1024x2048, .bf16⟩
  | .local _ .vmem, ⟨11, _⟩ => ⟨S2048x2048, .bf16⟩
  | .local _ .vmem, ⟨12, _⟩ => ⟨S2048x2048, .bf16⟩
  | .local _ .vmem, ⟨13, _⟩ => ⟨S1024x2048, .bf16⟩
  | .local _ .vmem, ⟨14, _⟩ => ⟨S1024x2048, .bf16⟩
  | .local _ .vmem, ⟨15, _⟩ => ⟨S8x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 3 → Nat :=
  let arg0 : BitVec 32 := BitVec.ofNat 32 (i 0).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨3, ![8, 2, 1], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]
-- ==== Reference6Ideal.lean ====
abbrev S4x2048x2048 : Shape := ⟨3, ![4, 2048, 2048]⟩
abbrev S2048 : Shape := ⟨1, ![2048]⟩
abbrev S4x2048 : Shape := ⟨2, ![4, 2048]⟩
abbrev S2048x2048 : Shape := ⟨2, ![2048, 2048]⟩
abbrev S_ : Shape := ⟨0, ![]⟩
abbrev S4x2048x1 : Shape := ⟨3, ![4, 2048, 1]⟩
abbrev S1x1x2048 : Shape := ⟨3, ![1, 1, 2048]⟩
abbrev S4x1x2048 : Shape := ⟨3, ![4, 1, 2048]⟩
abbrev S4x2048x4096 : Shape := ⟨3, ![4, 2048, 4096]⟩
abbrev S8192x4096 : Shape := ⟨2, ![8192, 4096]⟩

abbrev nBuf : Space → Nat
  | .hbm => 36
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S4x2048, .f32⟩
  | .hbm, ⟨3, _⟩ => ⟨S4x2048, .f32⟩
  | .hbm, ⟨4, _⟩ => ⟨S2048x2048, .f32⟩
  | .hbm, ⟨5, _⟩ => ⟨S2048x2048, .f32⟩
  | .hbm, ⟨6, _⟩ => ⟨S4x2048x2048, .f32⟩
  | .hbm, ⟨7, _⟩ => ⟨S_, .f32⟩
  | .hbm, ⟨8, _⟩ => ⟨S4x2048, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S_, .f32⟩
  | .hbm, ⟨14, _⟩ => ⟨S4x2048x1, .f32⟩
  | .hbm, ⟨15, _⟩ => ⟨S4x2048x1, .f32⟩
  | .hbm, ⟨16, _⟩ => ⟨S4x2048x1, .f32⟩
  | .hbm, ⟨17, _⟩ => ⟨S4x2048x2048, .f32⟩
  | .hbm, ⟨18, _⟩ => ⟨S4x2048x2048, .f32⟩
  | .hbm, ⟨19, _⟩ => ⟨S1x1x2048, .f32⟩
  | .hbm, ⟨20, _⟩ => ⟨S4x2048x2048, .f32⟩
  | .hbm, ⟨21, _⟩ => ⟨S4x2048x2048, .f32⟩
  | .hbm, ⟨22, _⟩ => ⟨S4x1x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x2048x2048, .f32⟩
  | .hbm, ⟨27, _⟩ => ⟨S4x2048x2048, .f32⟩
  | .hbm, ⟨28, _⟩ => ⟨S4x1x2048, .f32⟩
  | .hbm, ⟨29, _⟩ => ⟨S4x2048x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel7.lean ====
abbrev S4x2048x2048 : Shape := ⟨3, ![4, 2048, 2048]⟩
abbrev S2048x2048 : Shape := ⟨2, ![2048, 2048]⟩
abbrev S4x2048 : Shape := ⟨2, ![4, 2048]⟩
abbrev S8192x2048 : Shape := ⟨2, ![8192, 2048]⟩
abbrev S4x1x2048 : Shape := ⟨3, ![4, 1, 2048]⟩
abbrev S512x2048 : Shape := ⟨2, ![512, 2048]⟩
abbrev S1x1x2048 : Shape := ⟨3, ![1, 1, 2048]⟩
abbrev S8x128 : Shape := ⟨2, ![8, 128]⟩
abbrev S1x2048 : Shape := ⟨2, ![1, 2048]⟩

abbrev nBuf : Space → Nat
  | .hbm => 9
  | .vmem => 10
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S4x2048, .f32⟩
  | .hbm, ⟨4, _⟩ => ⟨S8192x2048, .bf16⟩
  | .hbm, ⟨5, _⟩ => ⟨S2048x2048, .bf16⟩
  | .hbm, ⟨6, _⟩ => ⟨S8192x2048, .f32⟩
  | .hbm, ⟨7, _⟩ => ⟨S4x1x2048, .f32⟩
  | .hbm, ⟨8, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S8x128, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference7Ideal.lean ====
abbrev S4x2048x2048 : Shape := ⟨3, ![4, 2048, 2048]⟩
abbrev S2048x2048 : Shape := ⟨2, ![2048, 2048]⟩
abbrev S4x2048 : Shape := ⟨2, ![4, 2048]⟩
abbrev S4x1x2048 : Shape := ⟨3, ![4, 1, 2048]⟩
abbrev S8192x2048 : Shape := ⟨2, ![8192, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .f32⟩
  | .hbm, ⟨3, _⟩ => ⟨S4x2048, .f32⟩
  | .hbm, ⟨4, _⟩ => ⟨S4x1x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S8192x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel10.lean ====
abbrev S4x2048x2048 : Shape := ⟨3, ![4, 2048, 2048]⟩
abbrev S2048x2048 : Shape := ⟨2, ![2048, 2048]⟩
abbrev S2048x256 : Shape := ⟨2, ![2048, 256]⟩
abbrev S256x2048 : Shape := ⟨2, ![256, 2048]⟩
abbrev S2048x32x16x4 : Shape := ⟨4, ![2048, 32, 16, 4]⟩
abbrev S2048x16x4x32 : Shape := ⟨4, ![2048, 16, 4, 32]⟩
abbrev S256x32x16x4 : Shape := ⟨4, ![256, 32, 16, 4]⟩
abbrev S256x16x4x32 : Shape := ⟨4, ![256, 16, 4, 32]⟩
abbrev S_ : Shape := ⟨0, ![]⟩
abbrev S2048 : Shape := ⟨1, ![2048]⟩
abbrev S1x2048 : Shape := ⟨2, ![1, 2048]⟩
abbrev S64x2048x128 : Shape := ⟨3, ![64, 2048, 128]⟩
abbrev S4x128x2048 : Shape := ⟨3, ![4, 128, 2048]⟩
abbrev S64x128x128 : Shape := ⟨3, ![64, 128, 128]⟩
abbrev S512x2048 : Shape := ⟨2, ![512, 2048]⟩
abbrev S128x128 : Shape := ⟨2, ![128, 128]⟩
abbrev S1x128x128 : Shape := ⟨3, ![1, 128, 128]⟩
abbrev S512x256 : Shape := ⟨2, ![512, 256]⟩

abbrev nBuf : Space → Nat
  | .hbm => 19
  | .vmem => 12
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x256, .f32⟩
  | .hbm, ⟨4, _⟩ => ⟨S256x2048, .f32⟩
  | .hbm, ⟨5, _⟩ => ⟨S2048x32x16x4, .f32⟩
  | .hbm, ⟨6, _⟩ => ⟨S2048x16x4x32, .f32⟩
  | .hbm, ⟨7, _⟩ => ⟨S2048x2048, .f32⟩
  | .hbm, ⟨8, _⟩ => ⟨S2048x2048, .bf16⟩
  | .hbm, ⟨9, _⟩ => ⟨S256x32x16x4, .f32⟩
  | .hbm, ⟨10, _⟩ => ⟨S256x16x4x32, .f32⟩
  | .hbm, ⟨11, _⟩ => ⟨S256x2048, .f32⟩
  | .hbm, ⟨12, _⟩ => ⟨S2048x256, .bf16⟩
  | .hbm, ⟨13, _⟩ => ⟨S256x2048, .bf16⟩
  | .hbm, ⟨14, _⟩ => ⟨S_, .f32⟩
  | .hbm, ⟨15, _⟩ => ⟨S2048, .f32⟩
  | .hbm, ⟨16, _⟩ => ⟨S1x2048, .f32⟩
  | .hbm, ⟨17, _⟩ => ⟨S64x2048x128, .f32⟩
  | .hbm, ⟨18, _⟩ => ⟨S4x2048x2048, .f32⟩
  | .local _ .vmem, ⟨0, _⟩ => ⟨S4x128x2048, .bf16⟩
  | .local _ .vmem, ⟨1, _⟩ => ⟨S4x128x2048, .bf16⟩
  | .local _ .vmem, ⟨2, _⟩ => ⟨S2048x2048, .bf16⟩
  | .local _ .vmem, ⟨3, _⟩ => ⟨S4x128x2048, .bf16⟩
  | .local _ .vmem, ⟨4, _⟩ => ⟨S4x128x2048, .bf16⟩
  | .local _ .vmem, ⟨5, _⟩ => ⟨S2048x256, .bf16⟩
  | .local _ .vmem, ⟨6, _⟩ => ⟨S256x2048, .bf16⟩
  | .local _ .vmem, ⟨7, _⟩ => ⟨S1x2048, .f32⟩
  | .local _ .vmem, ⟨8, _⟩ => ⟨S64x128x128, .f32⟩
  | .local _ .vmem, ⟨9, _⟩ => ⟨S64x128x128, .f32⟩
  | .local _ .vmem, ⟨10, _⟩ => ⟨S4x128x2048, .f32⟩
  | .local _ .vmem, ⟨11, _⟩ => ⟨S4x128x2048, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4x2048x2048 : Shape := ⟨3, ![4, 2048, 2048]⟩
abbrev S2048x2048 : Shape := ⟨2, ![2048, 2048]⟩
abbrev S2048x256 : Shape := ⟨2, ![2048, 256]⟩
abbrev S256x2048 : Shape := ⟨2, ![256, 2048]⟩
abbrev S4x2048x256 : Shape := ⟨3, ![4, 2048, 256]⟩
abbrev S_ : Shape := ⟨0, ![]⟩
abbrev S4x2048x32x16x4 : Shape := ⟨5, ![4, 2048, 32, 16, 4]⟩
abbrev S4x16x2048x4x32 : Shape := ⟨5, ![4, 16, 2048, 4, 32]⟩
abbrev S64x2048x128 : Shape := ⟨3, ![64, 2048, 128]⟩
abbrev S4x2048x16x4x32 : Shape := ⟨5, ![4, 2048, 16, 4, 32]⟩

abbrev nBuf : Space → Nat
  | .hbm => 24
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x256, .f32⟩
  | .hbm, ⟨4, _⟩ => ⟨S256x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x256, .f32⟩
  | .hbm, ⟨9, _⟩ => ⟨S4x2048x256, .f32⟩
  | .hbm, ⟨10, _⟩ => ⟨S4x2048x256, .f32⟩
  | .hbm, ⟨11, _⟩ => ⟨S_, .f32⟩
  | .hbm, ⟨12, _⟩ => ⟨S4x2048x256, .f32⟩
  | .hbm, ⟨13, _⟩ => ⟨S4x2048x256, .f32⟩
  | .hbm, ⟨14, _⟩ => ⟨S_, .f32⟩
  | .hbm, ⟨15, _⟩ => ⟨S4x2048x256, .f32⟩
  | .hbm, ⟨16, _⟩ => ⟨S4x2048x256, .f32⟩
  | .hbm, ⟨17, _⟩ => ⟨S4x2048x2048, .f32⟩
  | .hbm, ⟨18, _⟩ => ⟨S4x2048x32x16x4, .f32⟩
  | .hbm, ⟨19, _⟩ => ⟨S4x16x2048x4x32, .f32⟩
  | .hbm, ⟨20, _⟩ => ⟨S64x2048x128, .f32⟩
  | .hbm, ⟨21, _⟩ => ⟨S4x2048x32x16x4, .f32⟩
  | .hbm, ⟨22, _⟩ => ⟨S4x2048x16x4x32, .f32⟩
  | .hbm, ⟨23, _⟩ => ⟨S4x2048x2048, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel11.lean ====
abbrev S4x2048x2048 : Shape := ⟨3, ![4, 2048, 2048]⟩
abbrev S2048x2048 : Shape := ⟨2, ![2048, 2048]⟩
abbrev S2048x96 : Shape := ⟨2, ![2048, 96]⟩
abbrev S96x2048 : Shape := ⟨2, ![96, 2048]⟩
abbrev S2048 : Shape := ⟨1, ![2048]⟩
abbrev S2048x32x16x4 : Shape := ⟨4, ![2048, 32, 16, 4]⟩
abbrev S2048x16x4x32 : Shape := ⟨4, ![2048, 16, 4, 32]⟩
abbrev S96x32x16x4 : Shape := ⟨4, ![96, 32, 16, 4]⟩
abbrev S96x16x4x32 : Shape := ⟨4, ![96, 16, 4, 32]⟩
abbrev S_ : Shape := ⟨0, ![]⟩
abbrev S2048x128 : Shape := ⟨2, ![2048, 128]⟩
abbrev S128x2048 : Shape := ⟨2, ![128, 2048]⟩
abbrev S32x16x4 : Shape := ⟨3, ![32, 16, 4]⟩
abbrev S16x4x32 : Shape := ⟨3, ![16, 4, 32]⟩
abbrev S1x2048 : Shape := ⟨2, ![1, 2048]⟩
abbrev S64x2048x128 : Shape := ⟨3, ![64, 2048, 128]⟩
abbrev S4x128x2048 : Shape := ⟨3, ![4, 128, 2048]⟩
abbrev S64x128x128 : Shape := ⟨3, ![64, 128, 128]⟩
abbrev S512x2048 : Shape := ⟨2, ![512, 2048]⟩
abbrev S128x128 : Shape := ⟨2, ![128, 128]⟩
abbrev S1x128x128 : Shape := ⟨3, ![1, 128, 128]⟩
abbrev S512x128 : Shape := ⟨2, ![512, 128]⟩

abbrev nBuf : Space → Nat
  | .hbm => 27
  | .vmem => 12
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x32x16x4, .f32⟩
  | .hbm, ⟨7, _⟩ => ⟨S2048x16x4x32, .f32⟩
  | .hbm, ⟨8, _⟩ => ⟨S2048x2048, .f32⟩
  | .hbm, ⟨9, _⟩ => ⟨S2048x2048, .bf16⟩
  | .hbm, ⟨10, _⟩ => ⟨S96x32x16x4, .f32⟩
  | .hbm, ⟨11, _⟩ => ⟨S96x16x4x32, .f32⟩
  | .hbm, ⟨12, _⟩ => ⟨S96x2048, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S_, .f32⟩
  | .hbm, ⟨18, _⟩ => ⟨S128x2048, .f32⟩
  | .hbm, ⟨19, _⟩ => ⟨S2048x128, .bf16⟩
  | .hbm, ⟨20, _⟩ => ⟨S128x2048, .bf16⟩
  | .hbm, ⟨21, _⟩ => ⟨S32x16x4, .f32⟩
  | .hbm, ⟨22, _⟩ => ⟨S16x4x32, .f32⟩
  | .hbm, ⟨23, _⟩ => ⟨S2048, .f32⟩
  | .hbm, ⟨24, _⟩ => ⟨S1x2048, .f32⟩
  | .hbm, ⟨25, _⟩ => ⟨S64x2048x128, .f32⟩
  | .hbm, ⟨26, _⟩ => ⟨S64x2048x128, .f32⟩
  | .local _ .vmem, ⟨0, _⟩ => ⟨S4x128x2048, .bf16⟩
  | .local _ .vmem, ⟨1, _⟩ => ⟨S4x128x2048, .bf16⟩
  | .local _ .vmem, ⟨2, _⟩ => ⟨S2048x2048, .bf16⟩
  | .local _ .vmem, ⟨3, _⟩ => ⟨S4x128x2048, .bf16⟩
  | .local _ .vmem, ⟨4, _⟩ => ⟨S4x128x2048, .bf16⟩
  | .local _ .vmem, ⟨5, _⟩ => ⟨S2048x128, .bf16⟩
  | .local _ .vmem, ⟨6, _⟩ => ⟨S128x2048, .bf16⟩
  | .local _ .vmem, ⟨7, _⟩ => ⟨S1x2048, .f32⟩
  | .local _ .vmem, ⟨8, _⟩ => ⟨S64x128x128, .f32⟩
  | .local _ .vmem, ⟨9, _⟩ => ⟨S64x128x128, .f32⟩
  | .local _ .vmem, ⟨10, _⟩ => ⟨S64x128x128, .f32⟩
  | .local _ .vmem, ⟨11, _⟩ => ⟨S64x128x128, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4x2048x2048 : Shape := ⟨3, ![4, 2048, 2048]⟩
abbrev S2048x2048 : Shape := ⟨2, ![2048, 2048]⟩
abbrev S2048x96 : Shape := ⟨2, ![2048, 96]⟩
abbrev S96x2048 : Shape := ⟨2, ![96, 2048]⟩
abbrev S2048 : Shape := ⟨1, ![2048]⟩
abbrev S4x2048x96 : Shape := ⟨3, ![4, 2048, 96]⟩
abbrev S1x1x2048 : Shape := ⟨3, ![1, 1, 2048]⟩
abbrev S4x2048x32x16x4 : Shape := ⟨5, ![4, 2048, 32, 16, 4]⟩
abbrev S4x16x2048x4x32 : Shape := ⟨5, ![4, 16, 2048, 4, 32]⟩
abbrev S64x2048x128 : Shape := ⟨3, ![64, 2048, 128]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x96, .f32⟩
  | .hbm, ⟨10, _⟩ => ⟨S4x2048x96, .f32⟩
  | .hbm, ⟨11, _⟩ => ⟨S4x2048x2048, .f32⟩
  | .hbm, ⟨12, _⟩ => ⟨S1x1x2048, .f32⟩
  | .hbm, ⟨13, _⟩ => ⟨S4x2048x2048, .f32⟩
  | .hbm, ⟨14, _⟩ => ⟨S4x2048x2048, .f32⟩
  | .hbm, ⟨15, _⟩ => ⟨S4x2048x32x16x4, .f32⟩
  | .hbm, ⟨16, _⟩ => ⟨S4x16x2048x4x32, .f32⟩
  | .hbm, ⟨17, _⟩ => ⟨S64x2048x128, .f32⟩
  | .hbm, ⟨18, _⟩ => ⟨S4x2048x32x16x4, .f32⟩
  | .hbm, ⟨19, _⟩ => ⟨S4x16x2048x4x32, .f32⟩
  | .hbm, ⟨20, _⟩ => ⟨S64x2048x128, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Kernel12.lean ====
abbrev S4x2048x2048 : Shape := ⟨3, ![4, 2048, 2048]⟩
abbrev S2048x2048 : Shape := ⟨2, ![2048, 2048]⟩
abbrev S2048x96 : Shape := ⟨2, ![2048, 96]⟩
abbrev S96x2048 : Shape := ⟨2, ![96, 2048]⟩
abbrev S2048 : Shape := ⟨1, ![2048]⟩
abbrev S2048x32x16x4 : Shape := ⟨4, ![2048, 32, 16, 4]⟩
abbrev S2048x16x4x32 : Shape := ⟨4, ![2048, 16, 4, 32]⟩
abbrev S96x32x16x4 : Shape := ⟨4, ![96, 32, 16, 4]⟩
abbrev S96x16x4x32 : Shape := ⟨4, ![96, 16, 4, 32]⟩
abbrev S_ : Shape := ⟨0, ![]⟩
abbrev S2048x128 : Shape := ⟨2, ![2048, 128]⟩
abbrev S128x2048 : Shape := ⟨2, ![128, 2048]⟩
abbrev S32x16x4 : Shape := ⟨3, ![32, 16, 4]⟩
abbrev S16x4x32 : Shape := ⟨3, ![16, 4, 32]⟩
abbrev S1x2048 : Shape := ⟨2, ![1, 2048]⟩
abbrev S64x2048x128 : Shape := ⟨3, ![64, 2048, 128]⟩
abbrev S4x128x2048 : Shape := ⟨3, ![4, 128, 2048]⟩
abbrev S64x128x128 : Shape := ⟨3, ![64, 128, 128]⟩
abbrev S512x2048 : Shape := ⟨2, ![512, 2048]⟩
abbrev S128x128 : Shape := ⟨2, ![128, 128]⟩
abbrev S1x128x128 : Shape := ⟨3, ![1, 128, 128]⟩
abbrev S512x128 : Shape := ⟨2, ![512, 128]⟩

abbrev nBuf : Space → Nat
  | .hbm => 27
  | .vmem => 12
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S2048x32x16x4, .f32⟩
  | .hbm, ⟨7, _⟩ => ⟨S2048x16x4x32, .f32⟩
  | .hbm, ⟨8, _⟩ => ⟨S2048x2048, .f32⟩
  | .hbm, ⟨9, _⟩ => ⟨S2048x2048, .bf16⟩
  | .hbm, ⟨10, _⟩ => ⟨S96x32x16x4, .f32⟩
  | .hbm, ⟨11, _⟩ => ⟨S96x16x4x32, .f32⟩
  | .hbm, ⟨12, _⟩ => ⟨S96x2048, .f32⟩
  | .hbm, ⟨13, _⟩ => ⟨S_, .i32⟩
  | .hbm, ⟨14, _⟩ => ⟨S_, .f32⟩
  | .hbm, ⟨15, _⟩ => ⟨S2048x128, .f32⟩
  | .hbm, ⟨16, _⟩ => ⟨S_, .i32⟩
  | .hbm, ⟨17, _⟩ => ⟨S_, .f32⟩
  | .hbm, ⟨18, _⟩ => ⟨S128x2048, .f32⟩
  | .hbm, ⟨19, _⟩ => ⟨S2048x128, .bf16⟩
  | .hbm, ⟨20, _⟩ => ⟨S128x2048, .bf16⟩
  | .hbm, ⟨21, _⟩ => ⟨S32x16x4, .f32⟩
  | .hbm, ⟨22, _⟩ => ⟨S16x4x32, .f32⟩
  | .hbm, ⟨23, _⟩ => ⟨S2048, .f32⟩
  | .hbm, ⟨24, _⟩ => ⟨S1x2048, .f32⟩
  | .hbm, ⟨25, _⟩ => ⟨S64x2048x128, .f32⟩
  | .hbm, ⟨26, _⟩ => ⟨S64x2048x128, .f32⟩
  | .local _ .vmem, ⟨0, _⟩ => ⟨S4x128x2048, .bf16⟩
  | .local _ .vmem, ⟨1, _⟩ => ⟨S4x128x2048, .bf16⟩
  | .local _ .vmem, ⟨2, _⟩ => ⟨S2048x2048, .bf16⟩
  | .local _ .vmem, ⟨3, _⟩ => ⟨S4x128x2048, .bf16⟩
  | .local _ .vmem, ⟨4, _⟩ => ⟨S4x128x2048, .bf16⟩
  | .local _ .vmem, ⟨5, _⟩ => ⟨S2048x128, .bf16⟩
  | .local _ .vmem, ⟨6, _⟩ => ⟨S128x2048, .bf16⟩
  | .local _ .vmem, ⟨7, _⟩ => ⟨S1x2048, .f32⟩
  | .local _ .vmem, ⟨8, _⟩ => ⟨S64x128x128, .f32⟩
  | .local _ .vmem, ⟨9, _⟩ => ⟨S64x128x128, .f32⟩
  | .local _ .vmem, ⟨10, _⟩ => ⟨S64x128x128, .f32⟩
  | .local _ .vmem, ⟨11, _⟩ => ⟨S64x128x128, .f32⟩
  | _, _ => ⟨S4x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_v7 : Ref sig .tc := ⟨.hbm, 15, rfl⟩
abbrev main_c_0 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S4x2048x2048 : Shape := ⟨3, ![4, 2048, 2048]⟩
abbrev S2048x2048 : Shape := ⟨2, ![2048, 2048]⟩
abbrev S2048x96 : Shape := ⟨2, ![2048, 96]⟩
abbrev S96x2048 : Shape := ⟨2, ![96, 2048]⟩
abbrev S2048 : Shape := ⟨1, ![2048]⟩
abbrev S4x2048x96 : Shape := ⟨3, ![4, 2048, 96]⟩
abbrev S1x1x2048 : Shape := ⟨3, ![1, 1, 2048]⟩
abbrev S4x2048x32x16x4 : Shape := ⟨5, ![4, 2048, 32, 16, 4]⟩
abbrev S4x16x2048x4x32 : Shape := ⟨5, ![4, 16, 2048, 4, 32]⟩
abbrev S64x2048x128 : Shape := ⟨3, ![64, 2048, 128]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x2048, .bf16⟩
  | .hbm, ⟨1, _⟩ => ⟨S2048x2048, .f32⟩
  | .hbm, ⟨2, _⟩ => ⟨S4x2048x2048, .bf16⟩
  | .hbm, ⟨3, _⟩ => ⟨S2048x96, .f32⟩
  | .hbm, ⟨4, _⟩ => ⟨S96x2048, .f32⟩
  | .hbm, ⟨5, _⟩ => ⟨S2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x96, .f32⟩
  | .hbm, ⟨10, _⟩ => ⟨S4x2048x2048, .f32⟩
  | .hbm, ⟨11, _⟩ => ⟨S1x1x2048, .f32⟩
  | .hbm, ⟨12, _⟩ => ⟨S4x2048x2048, .f32⟩
  | .hbm, ⟨13, _⟩ => ⟨S4x2048x2048, .f32⟩
  | .hbm, ⟨14, _⟩ => ⟨S4x2048x32x16x4, .f32⟩
  | .hbm, ⟨15, _⟩ => ⟨S4x16x2048x4x32, .f32⟩
  | .hbm, ⟨16, _⟩ => ⟨S64x2048x128, .f32⟩
  | .hbm, ⟨17, _⟩ => ⟨S4x2048x32x16x4, .f32⟩
  | .hbm, ⟨18, _⟩ => ⟨S4x16x2048x4x32, .f32⟩
  | .hbm, ⟨19, _⟩ => ⟨S64x2048x128, .f32⟩
  | _, _ => ⟨S4x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel13.lean ====
abbrev S64x2048x128 : Shape := ⟨3, ![64, 2048, 128]⟩
abbrev S4x2048x2048 : Shape := ⟨3, ![4, 2048, 2048]⟩
abbrev S2048x2048 : Shape := ⟨2, ![2048, 2048]⟩
abbrev S4x2048 : Shape := ⟨2, ![4, 2048]⟩
abbrev S2048x32x16x4 : Shape := ⟨4, ![2048, 32, 16, 4]⟩
abbrev S2048x16x4x32 : Shape := ⟨4, ![2048, 16, 4, 32]⟩
abbrev S4x1x2048 : Shape := ⟨3, ![4, 1, 2048]⟩
abbrev S64x64x128 : Shape := ⟨3, ![64, 64, 128]⟩
abbrev S4x64x2048 : Shape := ⟨3, ![4, 64, 2048]⟩
abbrev S1x64x128 : Shape := ⟨3, ![1, 64, 128]⟩
abbrev S64x128 : Shape := ⟨2, ![64, 128]⟩
abbrev S64x2048 : Shape := ⟨2, ![64, 2048]⟩
abbrev S1x64x2048 : Shape := ⟨3, ![1, 64, 2048]⟩
abbrev S256x2048 : Shape := ⟨2, ![256, 2048]⟩

abbrev nBuf : Space → Nat
  | .hbm => 13
  | .vmem => 10
  | .smem => 0
  | _ => 0

abbrev bufTy : (tb : Table) → Fin (tcTables nBuf tb) → BufTy
  | .hbm, ⟨0, _⟩ => ⟨S64x2048x128, .f32⟩
  | .hbm, ⟨1, _⟩ => ⟨S4x2048x2048, .f32⟩
  | .hbm, ⟨2, _⟩ => ⟨S2048x2048, .f32⟩
  | .hbm, ⟨3, _⟩ => ⟨S4x2048x2048, .f32⟩
  | .hbm, ⟨4, _⟩ => ⟨S4x2048, .f32⟩
  | .hbm, ⟨5, _⟩ => ⟨S2048x2048, .f32⟩
  | .hbm, ⟨6, _⟩ => ⟨S2048x32x16x4, .f32⟩
  | .hbm, ⟨7, _⟩ => ⟨S2048x16x4x32, .f32⟩
  | .hbm, ⟨8, _⟩ => ⟨S2048x2048, .f32⟩
  | .hbm, ⟨9, _⟩ => ⟨S2048x2048, .f32⟩
  | .hbm, ⟨10, _⟩ => ⟨S2048x2048, .bf16⟩
  | .hbm, ⟨11, _⟩ => ⟨S4x1x2048, .f32⟩
  | .hbm, ⟨12, _⟩ => ⟨S4x2048x2048, .f32⟩
  | .local _ .vmem, ⟨0, _⟩ => ⟨S64x64x128, .f32⟩
  | .local _ .vmem, ⟨1, _⟩ => ⟨S64x64x128, .f32⟩
  | .local _ .vmem, ⟨2, _⟩ => ⟨S4x64x2048, .f32⟩
  | .local _ .vmem, ⟨3, _⟩ => ⟨S4x64x2048, .f32⟩
  | .local _ .vmem, ⟨4, _⟩ => ⟨S2048x2048, .bf16⟩
  | .local _ .vmem, ⟨5, _⟩ => ⟨S4x64x2048, .f32⟩
  | .local _ .vmem, ⟨6, _⟩ => ⟨S4x64x2048, .f32⟩
  | .local _ .vmem, ⟨7, _⟩ => ⟨S4x1x2048, .f32⟩
  | .local _ .vmem, ⟨8, _⟩ => ⟨S4x64x2048, .f32⟩
  | .local _ .vmem, ⟨9, _⟩ => ⟨S4x64x2048, .f32⟩
  | _, _ => ⟨S64x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S64x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x64x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x64x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S64x2048x128 : Shape := ⟨3, ![64, 2048, 128]⟩
abbrev S4x2048x2048 : Shape := ⟨3, ![4, 2048, 2048]⟩
abbrev S2048x2048 : Shape := ⟨2, ![2048, 2048]⟩
abbrev S4x2048 : Shape := ⟨2, ![4, 2048]⟩
abbrev S4x1x2048 : Shape := ⟨3, ![4, 1, 2048]⟩
abbrev S4x16x2048x4x32 : Shape := ⟨5, ![4, 16, 2048, 4, 32]⟩
abbrev S4x2048x32x16x4 : Shape := ⟨5, ![4, 2048, 32, 16, 4]⟩
abbrev S4x2048x16x4x32 : Shape := ⟨5, ![4, 2048, 16, 4, 32]⟩

abbrev nBuf : Space → Nat
  | .hbm => 17
  | .vmem => 0
  | .smem => 0
  | _ => 0

abbrev bufTy : (tb : Table) → Fin (tcTables nBuf tb) → BufTy
  | .hbm, ⟨0, _⟩ => ⟨S64x2048x128, .f32⟩
  | .hbm, ⟨1, _⟩ => ⟨S4x2048x2048, .f32⟩
  | .hbm, ⟨2, _⟩ => ⟨S2048x2048, .f32⟩
  | .hbm, ⟨3, _⟩ => ⟨S4x2048x2048, .f32⟩
  | .hbm, ⟨4, _⟩ => ⟨S4x2048, .f32⟩
  | .hbm, ⟨5, _⟩ => ⟨S4x1x2048, .f32⟩
  | .hbm, ⟨6, _⟩ => ⟨S4x16x2048x4x32, .f32⟩
  | .hbm, ⟨7, _⟩ => ⟨S4x2048x32x16x4, .f32⟩
  | .hbm, ⟨8, _⟩ => ⟨S4x2048x2048, .f32⟩
  | .hbm, ⟨9, _⟩ => ⟨S4x2048x16x4x32, .f32⟩
  | .hbm, ⟨10, _⟩ => ⟨S4x2048x32x16x4, .f32⟩
  | .hbm, ⟨11, _⟩ => ⟨S4x2048x2048, .f32⟩
  | .hbm, ⟨12, _⟩ => ⟨S4x2048x2048, .f32⟩
  | .hbm, ⟨13, _⟩ => ⟨S4x2048x2048, .f32⟩
  | .hbm, ⟨14, _⟩ => ⟨S4x2048x2048, .f32⟩
  | .hbm, ⟨15, _⟩ => ⟨S4x2048x2048, .f32⟩
  | .hbm, ⟨16, _⟩ => ⟨S4x2048x2048, .f32⟩
  | _, _ => ⟨S64x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Softmax.lean ====
module

public import Idealize.ShloMosaic.Lib.Pointwise

/-!
# A softmax-weighted sum

`attend s v` is the weighted sum that one query row produces from its scores `s` and the values `v`:
the weights are `exp (s j - max s)`, and the sum is divided by the sum of the weights once.
`attendEach s v` divides every weight before the sum.
-/

@[expose] public section

noncomputable section

namespace Cert.Attn

open Idealize.ShloMosaic

/-- The word of the scale that the queries are multiplied by. -/
theorem scale_word : Ideal.ofBits .f32 0x3E000000#32 = ((1 / 8 : ℝ) : EReal) := by
  simp [Ideal.ofBits, Ideal.ieee, -EReal.coe_mul]; norm_num

/-- The word of minus infinity. -/
theorem bot_word : Ideal.ofBits .f32 0xFF800000#32 = ⊥ := by
  simp [Ideal.ofBits, Ideal.ieee]

/-- The largest score, or `⊥` where there is none. -/
def top {ι : Type*} [Fintype ι] (s : ι → EReal) : EReal := Finset.univ.fold max ⊥ s

/-- The unnormalised weight of key `j`. -/
def weight {ι : Type*} [Fintype ι] (s : ι → EReal) (j : ι) : EReal := Ideal.exp (s j - top s)

/-- One query row's output: the weighted sum of the values, divided by the sum of the weights. -/
def attend {ι : Type*} [Fintype ι] (s v : ι → EReal) : EReal :=
  Ideal.div (∑ j, weight s j * v j) (∑ j, weight s j)

/-- The same row with every weight divided before the sum. -/
def attendEach {ι : Type*} [Fintype ι] (s v : ι → EReal) : EReal :=
  ∑ j, v j * Ideal.div (weight s j) (∑ i, weight s i)

/-- The largest score is the supremum of the scores. -/
theorem top_eq_sup {ι : Type*} [Fintype ι] (s : ι → EReal) : top s = Finset.univ.sup s := rfl

/-- A nonnegative real factor moves out of a sum. -/
theorem sum_mul_real {ι : Type*} (s : Finset ι) (f : ι → EReal) {c : ℝ} (hc : 0 ≤ c) :
    ∑ i ∈ s, f i * (c : EReal) = (∑ i ∈ s, f i) * (c : EReal) := by
  classical
  induction s using Finset.induction_on with
  | empty => simp
  | insert a s ha ih =>
    rw [Finset.sum_insert ha, Finset.sum_insert ha, ih,
      EReal.right_distrib_of_nonneg_of_ne_top (by exact_mod_cast hc) (EReal.coe_ne_top c)]

/-- A sum over a window is the sum over all keys, where the terms outside the window are zero. -/
theorem sum_window {ι κ : Type*} [Fintype ι] [Fintype κ] (ok : ι → Prop) (e : ι → κ)
    (inj : ∀ i j, ok i → ok j → e i = e j → i = j) (f : ι → EReal) (g : κ → EReal)
    (hf : ∀ i, ok i → f i = g (e i)) (hf0 : ∀ i, ¬ ok i → f i = 0)
    (hg0 : ∀ k, (∀ i, ok i → e i ≠ k) → g k = 0) : ∑ i, f i = ∑ k, g k := by
  classical
  rw [← Finset.sum_filter_of_ne (s := Finset.univ) (p := ok) (f := f)
    fun i _ hi => by_contra fun h => hi (hf0 i h)]
  refine Finset.sum_of_injOn e ?_ (fun i _ => Finset.mem_coe.2 (Finset.mem_univ _)) ?_ ?_
  · intro i hi j hj h
    exact inj i j (by simpa using hi) (by simpa using hj) h
  · intro k _ hk
    refine hg0 k fun i hi h => hk ⟨i, by simpa using hi, h⟩
  · intro i hi
    exact hf i (by simpa using hi)

/-- The largest score of a window is that of all keys, where the scores outside the window are `⊥`. -/
theorem top_window {ι κ : Type*} [Fintype ι] [Fintype κ] (ok : ι → Prop) (e : ι → κ) (f : ι → EReal) (g : κ → EReal)
    (hf : ∀ i, ok i → f i = g (e i)) (hf0 : ∀ i, ¬ ok i → f i = ⊥)
    (hg0 : ∀ k, (∀ i, ok i → e i ≠ k) → g k = ⊥) : top f = top g := by
  rw [top_eq_sup, top_eq_sup]
  refine le_antisymm (Finset.sup_le fun i _ => ?_) (Finset.sup_le fun k _ => ?_)
  · by_cases hi : ok i
    · rw [hf i hi]; exact Finset.le_sup (f := g) (Finset.mem_univ (e i))
    · rw [hf0 i hi]; exact bot_le
  · by_cases hk : ∀ i, ok i → e i ≠ k
    · rw [hg0 k hk]; exact bot_le
    · push Not at hk
      obtain ⟨i, hi, rfl⟩ := hk
      rw [← hf i hi]; exact Finset.le_sup (f := f) (Finset.mem_univ i)

/-- The largest score is a real number where no score is `⊤` and one score is real. -/
theorem top_real {ι : Type*} [Fintype ι] (s : ι → EReal) (hs : ∀ j, s j ≠ ⊤) (i : ι) (hi : s i ≠ ⊥) :
    ∃ r : ℝ, top s = r := by
  rw [top_eq_sup]
  have h1 : Finset.univ.sup s ≠ ⊤ := by
    intro h
    have := (Finset.sup_lt_iff (s := Finset.univ) (f := s) (a := ⊤) (by simp)).2 fun j _ => lt_top_iff_ne_top.2 (hs j)
    exact absurd h this.ne
  have h2 : Finset.univ.sup s ≠ ⊥ := fun h => hi (le_bot_iff.1 (h ▸ Finset.le_sup (f := s) (Finset.mem_univ i)))
  exact ⟨_, (EReal.coe_toReal h1 h2).symm⟩

/-- A masked key has weight zero. -/
theorem weight_bot {ι : Type*} [Fintype ι] (s : ι → EReal) (j : ι) (h : s j = ⊥) : weight s j = 0 := by
  unfold weight
  rw [h, EReal.bot_sub]
  rfl

/-- Every weight is a nonnegative real number. -/
theorem weight_real {ι : Type*} [Fintype ι] (s : ι → EReal) (hs : ∀ j, s j ≠ ⊤) (i : ι) (hi : s i ≠ ⊥) (j : ι) :
    ∃ r : ℝ, 0 ≤ r ∧ (s j ≠ ⊥ → 0 < r) ∧ weight s j = r := by
  obtain ⟨t, ht⟩ := top_real s hs i hi
  by_cases hj : s j = ⊥
  · exact ⟨0, le_refl _, fun h => absurd hj h, weight_bot s j hj⟩
  · refine ⟨Real.exp ((s j).toReal - t), (Real.exp_pos _).le, fun _ => Real.exp_pos _, ?_⟩
    unfold weight
    rw [ht, ← EReal.coe_toReal (hs j) hj, ← EReal.coe_sub]
    rfl

/-- The sum of the weights is a positive real number. -/
theorem total_real {ι : Type*} [Fintype ι] (s : ι → EReal) (hs : ∀ j, s j ≠ ⊤) (i : ι) (hi : s i ≠ ⊥) :
    ∃ r : ℝ, 0 < r ∧ ∑ j, weight s j = r := by
  choose w h0 hp hw using weight_real s hs i hi
  refine ⟨∑ j, w j, Finset.sum_pos' (fun j _ => h0 j) ⟨i, Finset.mem_univ i, hp i hi⟩, ?_⟩
  rw [Finset.sum_congr rfl fun j _ => hw j]
  exact (map_sum (⟨⟨((↑) : ℝ → EReal), EReal.coe_zero⟩, EReal.coe_add⟩ : ℝ →+ EReal) w _).symm

/-- Dividing the sum once is dividing every weight, where the scores are not `⊤` and one of them is real. -/
theorem attend_eq_each {ι : Type*} [Fintype ι] (s v : ι → EReal) (hs : ∀ j, s j ≠ ⊤) (i : ι) (hi : s i ≠ ⊥) :
    attend s v = attendEach s v := by
  obtain ⟨r, hr, h⟩ := total_real s hs i hi
  unfold attend attendEach
  rw [h, Ideal.div_coe hr.ne', ← sum_mul_real _ _ (by positivity)]
  refine Finset.sum_congr rfl fun j _ => ?_
  rw [Ideal.div_coe hr.ne', ← mul_assoc, mul_comm (v j)]

/-- Attention over a window of keys is attention over all keys, where every key outside the window is masked. -/
theorem attend_window {ι κ : Type*} [Fintype ι] [Fintype κ] (ok : ι → Prop) (e : ι → κ)
    (inj : ∀ i j, ok i → ok j → e i = e j → i = j) (f w : ι → EReal) (g v : κ → EReal)
    (hf : ∀ i, ok i → f i = g (e i)) (hf0 : ∀ i, ¬ ok i → f i = ⊥)
    (hg0 : ∀ k, (∀ i, ok i → e i ≠ k) → g k = ⊥) (hw : ∀ i, ok i → w i = v (e i)) :
    attend f w = attend g v := by
  have ht := top_window ok e f g hf hf0 hg0
  have hwt : ∀ i, ok i → weight f i = weight g (e i) := fun i hi => by unfold weight; rw [hf i hi, ht]
  unfold attend
  congr 1
  · exact sum_window ok e inj _ _ (fun i hi => by rw [hwt i hi, hw i hi])
      (fun i hi => by rw [weight_bot f i (hf0 i hi), zero_mul]) (fun k hk => by rw [weight_bot g k (hg0 k hk), zero_mul])
  · exact sum_window ok e inj _ _ hwt (fun i hi => weight_bot f i (hf0 i hi)) (fun k hk => weight_bot g k (hg0 k hk))

end Cert.Attn
-- ==== Proof.Tile.lean ====
module

public import proofs.«01_k».proof.Proof.Gen.KernelIdeal.Skeleton
public import proofs.«01_k».proof.Proof.Softmax
public import Idealize.ShloMosaic.Lib.Pointwise

@[expose] public section

set_option maxRecDepth 16384

noncomputable section

namespace Cert.Attn

open Cert.KernelIdeal Cert.KernelIdeal.Gen Idealize.ShloMosaic

/-- The score of query row `r` against window key `j` for head `h` of the block's two heads. -/
def tileScore (q : Vec Ideal S1x128x128 .bf16) (k : Vec Ideal S1x640x128 .bf16)
    (b : Vec Ideal S2x128x640 .f32) (h : Fin 2) (r : Fin 128) (j : Fin 640) : EReal :=
  (∑ d : Fin 64, q (ix3 0 r ⟨64 * h + d, by omega⟩) * k (ix3 0 j ⟨64 * h + d, by omega⟩)) * ((1 / 8 : ℝ) : EReal) + b (ix3 h r j)

theorem select_one {α : Type} (x y : α) : Scalar.select 1#1 x y = x := rfl
theorem select_zero {α : Type} (x y : α) : Scalar.select 0#1 x y = y := rfl

theorem lane_slt (x : ℕ) (h : x < 128) :
    (IntOp.cmpi .slt (BitVec.ofNat 32 x) 64#32) = if x < 64 then 1#1 else 0#1 :=
  (by decide +kernel : ∀ x < 128, (IntOp.cmpi .slt (BitVec.ofNat 32 x) 64#32) = if x < 64 then 1#1 else 0#1) x h

theorem lane_sge (x : ℕ) (h : x < 128) :
    (IntOp.cmpi .sge (BitVec.ofNat 32 x) 64#32) = if x < 64 then 0#1 else 1#1 :=
  (by decide +kernel : ∀ x < 128, (IntOp.cmpi .sge (BitVec.ofNat 32 x) 64#32) = if x < 64 then 0#1 else 1#1) x h

/-- The contraction over all lanes, the queries scaled on the first half and 0 on the second. -/
theorem lanes_low (f g : Fin 128 → EReal) :
    (∑ x : Fin 128, Scalar.select (IntOp.cmpi .slt (BitVec.ofNat 32 (x : ℕ)) 64#32) (f x * Ideal.ofBits .f32 1040187392#32 * g x) 0)
      = (∑ d : Fin 64, f ⟨64 * (0 : Fin 2) + d, by omega⟩ * g ⟨64 * (0 : Fin 2) + d, by omega⟩) * ((1 / 8 : ℝ) : EReal) := by
  rw [Fin.sum_univ_two_halves 64 64 rfl, ← sum_mul_real _ _ (by norm_num)]
  refine (congrArg₂ (· + ·) (Finset.sum_congr rfl fun x _ => ?_) (Finset.sum_eq_zero fun x _ => ?_)).trans (add_zero _)
  · rw [lane_slt _ (by simp; omega), if_pos (by simp), select_one, scale_word, mul_right_comm]
    simp
  · rw [lane_slt _ (by simp; omega), if_neg (by simp), select_zero]

theorem lanes_high (f g : Fin 128 → EReal) :
    (∑ x : Fin 128, Scalar.select (IntOp.cmpi .sge (BitVec.ofNat 32 (x : ℕ)) 64#32) (f x * Ideal.ofBits .f32 1040187392#32 * g x) 0)
      = (∑ d : Fin 64, f ⟨64 * (1 : Fin 2) + d, by omega⟩ * g ⟨64 * (1 : Fin 2) + d, by omega⟩) * ((1 / 8 : ℝ) : EReal) := by
  rw [Fin.sum_univ_two_halves 64 64 rfl, ← sum_mul_real _ _ (by norm_num)]
  refine (congrArg₂ (· + ·) (Finset.sum_eq_zero fun x _ => ?_) (Finset.sum_congr rfl fun x _ => ?_)).trans (zero_add _)
  · rw [lane_sge _ (by simp; omega), if_pos (by simp), select_zero]
  · rw [lane_sge _ (by simp; omega), if_neg (by simp), select_one, scale_word, mul_right_comm]
    simp

theorem row_low (r : Fin 128) (h) : (⟨(r : ℕ) / 128, h⟩ : Fin 2) = 0 := Fin.ext (by simp)
theorem row_high (r : Fin 128) (h) : (⟨(128 + (r : ℕ)) / 128, h⟩ : Fin 2) = 1 := Fin.ext (by simp)
theorem row_self (r : Fin 128) (h) : (⟨(r : ℕ) % 128, h⟩ : Fin 128) = r := Fin.ext (by simp)
theorem row_self' (r : Fin 128) (h) : (⟨(128 + (r : ℕ)) % 128, h⟩ : Fin 128) = r := Fin.ext (by simp)

/-- Window key `j` of step `n` lies at or after the first row of the sequence. -/
theorem key_sge (n : ℕ) (hn : n < 4) (j : Fin 640) :
    (IntOp.cmpi .sge (IntOp.addi (BitVec.ofNat 32 (j : ℕ)) (BitVec.ofNat 32 (128 * n))) 512#32)
      = if 512 ≤ 128 * n + j then 1#1 else 0#1 :=
  (by decide +kernel : ∀ n < 4, ∀ j : Fin 640, (IntOp.cmpi .sge (IntOp.addi (BitVec.ofNat 32 (j : ℕ)) (BitVec.ofNat 32 (128 * n))) 512#32)
      = if 512 ≤ 128 * n + j then 1#1 else 0#1) n hn j

theorem mask_word : (Named.named (F := Ideal) κ "mask" (φ := .f32) 0xF149F2CA#32) = (⊥ : EReal) := rfl

theorem select_ite {α : Type} (p : Prop) [Decidable p] (x y : α) :
    Scalar.select (if p then 1#1 else 0#1) x y = if p then x else y := by split <;> rfl

/-- What an unmasked step stores at row `r` and lane `l`. -/
theorem pay17_apply (q : Vec Ideal S1x128x128 .bf16) (k v : Vec Ideal S1x640x128 .bf16) (b : Vec Ideal S2x128x640 .f32) (r l : Fin 128) :
    k1_pay17 (iota .tc S128x128 32 [1] iota_S128x128_d1_w32) k1_pay1 k1_pay2 q k v b (ix3 0 r l)
      = attend (tileScore q k b ⟨l / 64, by omega⟩ r) fun j => v (ix3 0 j l) := by
  pointwise [k1_pay17, k1_pay1, k1_pay2]
  simp only [lanes_low, lanes_high, bot_word, row_low, row_high, row_self, row_self']
  rw [lane_slt _ l.is_lt]
  by_cases hl : (l : ℕ) < 64
  · rw [if_pos hl, select_one, show (⟨(l : ℕ) / 64, by omega⟩ : Fin 2) = 0 from Fin.ext (by simp; omega)]
    rfl
  · rw [if_neg hl, select_zero, show (⟨(l : ℕ) / 64, by omega⟩ : Fin 2) = 1 from Fin.ext (by simp; omega)]
    rfl

/-- The masked score: a window key before the first row of the sequence scores `⊥`. -/
def maskedScore (n : ℕ) (q : Vec Ideal S1x128x128 .bf16) (k : Vec Ideal S1x640x128 .bf16)
    (b : Vec Ideal S2x128x640 .f32) (h : Fin 2) (r : Fin 128) (j : Fin 640) : EReal :=
  if 512 ≤ 128 * n + j then tileScore q k b h r j else ⊥

/-- What a masked step stores at row `r` and lane `l`. -/
theorem pay16_apply (n : ℕ) (hn : n < 4) (w : BitVec 32) (hw : w = BitVec.ofNat 32 (128 * n)) (q : Vec Ideal S1x128x128 .bf16) (k v : Vec Ideal S1x640x128 .bf16) (b : Vec Ideal S2x128x640 .f32) (r l : Fin 128) :
    k1_pay16 (iota .tc S128x128 32 [1] iota_S128x128_d1_w32) k1_pay1 k1_pay2 (iota .tc S256x640 32 [1] iota_S256x640_d1_w32) w (k1_pay14 q) (k1_pay15 k) v b (ix3 0 r l)
      = attend (maskedScore n q k b ⟨l / 64, by omega⟩ r) fun j => v (ix3 0 j l) := by
  pointwise [k1_pay16, k1_pay1, k1_pay2, k1_pay14, k1_pay15]
  subst hw
  simp only [lanes_low, lanes_high, bot_word, row_low, row_high, row_self, row_self', key_sge n hn, select_ite, mask_word]
  rw [lane_slt _ l.is_lt]
  by_cases hl : (l : ℕ) < 64
  · rw [if_pos hl, select_one, show (⟨(l : ℕ) / 64, by omega⟩ : Fin 2) = 0 from Fin.ext (by simp; omega)]
    rfl
  · rw [if_neg hl, select_zero, show (⟨(l : ℕ) / 64, by omega⟩ : Fin 2) = 1 from Fin.ext (by simp; omega)]
    rfl

theorem step0_eq (q : Vec Ideal S1x128x128 .bf16) (k v : Vec Ideal S1x640x128 .bf16) (b : Vec Ideal S2x128x640 .f32) :
    k1_pay7 (iota .tc S128x128 32 [1] iota_S128x128_d1_w32) (k1_pay3 v) (k1_pay4 q k b) k1_pay5 k1_pay6
      = k1_pay16 (iota .tc S128x128 32 [1] iota_S128x128_d1_w32) k1_pay1 k1_pay2 (iota .tc S256x640 32 [1] iota_S256x640_d1_w32) (Scalar.muli 0#32 128#32) (k1_pay14 q) (k1_pay15 k) v b := rfl

theorem step1_eq (v0 v6 v12 v13 w) (q : Vec Ideal S1x128x128 .bf16) (k v : Vec Ideal S1x640x128 .bf16) (b : Vec Ideal S2x128x640 .f32) :
    k1_pay10 v0 v13 w (k1_pay8 v) (k1_pay9 v6 v12 q k b)
      = k1_pay16 v0 v6 v12 v13 w (k1_pay14 q) (k1_pay15 k) v b := rfl

theorem step2_eq (v0 v6 v12 v13 w) (q : Vec Ideal S1x128x128 .bf16) (k v : Vec Ideal S1x640x128 .bf16) (b : Vec Ideal S2x128x640 .f32) :
    k1_pay13 v0 v13 w (k1_pay11 v) (k1_pay12 v6 v12 q k) b
      = k1_pay16 v0 v6 v12 v13 w (k1_pay14 q) (k1_pay15 k) v b := rfl

end Cert.Attn
-- ==== Proof.Block.lean ====
module

public import proofs.«01_k».proof.Proof.Gen.KernelIdeal.Frame
public import proofs.«01_k».proof.Proof.Tile
public import Idealize.ShloMosaic.Lib.Pipeline.ValueKit
public import Idealize.ShloMosaic.Lib.Pipeline.ReadBack

/-!
# The attention block

A grid point of the attention holds the rows of one sequence and two heads. Its sixteen steps each
store 128 rows. This file reads the block that a point leaves at any index.
-/

@[expose] public section

set_option maxRecDepth 16384

noncomputable section

namespace Cert.Attn

open Cert.KernelIdeal Cert.KernelIdeal.Gen Idealize.ShloMosaic Idealize.ShloMosaic.TcCoe Idealize.ShloMosaic.Tactic

/-- The score of row `t` of the block against window key `j`: the window of row `t` begins at the
first row of its step of 128 rows, in keys padded by 512 rows in front. -/
def blockScore (x0 : Vec Ideal S1x2048x128 .bf16) (x1 : Vec Ideal S1x2560x128 .bf16) (x3 : Vec Ideal S2x128x640 .f32)
    (h : Fin 2) (t : Fin 2048) (j : Fin 640) : EReal :=
  if 512 ≤ 128 * ((t : ℕ) / 128) + j then
    (∑ d : Fin 64, x0 (ix3 0 t ⟨64 * h + d, by omega⟩) * x1 (ix3 0 ⟨128 * ((t : ℕ) / 128) + j, by omega⟩ ⟨64 * h + d, by omega⟩)) * ((1 / 8 : ℝ) : EReal)
      + x3 (ix3 h ⟨(t : ℕ) % 128, by omega⟩ j)
  else ⊥

/-- The value of lane `l` in window key `j` of row `t`. -/
def blockVal (x2 : Vec Ideal S1x2560x128 .bf16) (t : Fin 2048) (l : Fin 128) (j : Fin 640) : EReal :=
  x2 (ix3 0 ⟨128 * ((t : ℕ) / 128) + j, by omega⟩ l)

/-- What a grid point leaves in row `t` and lane `l` of its block. -/
def blockRow (x0 : Vec Ideal S1x2048x128 .bf16) (x1 x2 : Vec Ideal S1x2560x128 .bf16) (x3 : Vec Ideal S2x128x640 .f32)
    (t : Fin 2048) (l : Fin 128) : EReal :=
  attend (blockScore x0 x1 x3 ⟨l / 64, by omega⟩ t) (blockVal x2 t l)

/-- The block that a grid point leaves. -/
def blockOut (x0 : Vec Ideal S1x2048x128 .bf16) (x1 x2 : Vec Ideal S1x2560x128 .bf16) (x3 : Vec Ideal S2x128x640 .f32) :
    Vec Ideal S1x2048x128 .bf16 := fun y => blockRow x0 x1 x2 x3 (y 1) (y 2)

/-- The row of step `n` at `r`. -/
def stepRow (n : ℕ) (hn : n < 16) (r : Fin 128) : Fin 2048 := ⟨128 * n + r, by omega⟩

/-- The score of a step, from the step's own loads, is the block's score. -/
theorem step_score (n : ℕ) (hn : n < 16) {off : Fin 3 → ℕ} (hoff : off = ![0, 128 * n, 0]) (i0 i1 i3)
    (x0 : Vec Ideal S1x2048x128 .bf16) (x1 : Vec Ideal S1x2560x128 .bf16) (x3 : Vec Ideal S2x128x640 .f32)
    (h : Fin 2) (r : Fin 128) :
    maskedScore n (View.ld x0 (Rect.unit (s := S1x2048x128) off S1x128x128.size i0))
        (View.ld x1 (Rect.unit (s := S1x2560x128) off S1x640x128.size i1))
        (View.ld x3 (Rect.unit (s := S2x128x640) ![0, 0, 0] S2x128x640.size i3)) h r
      = blockScore x0 x1 x3 h (stepRow n hn r) := by
  subst hoff
  funext j
  have hd : ((stepRow n hn r : Fin 2048) : ℕ) / 128 = n := by simp only [stepRow]; omega
  have hm : ((stepRow n hn r : Fin 2048) : ℕ) % 128 = r := by simp only [stepRow]; omega
  unfold maskedScore blockScore
  simp only [hd, hm]
  split
  · unfold tileScore
    refine congrArg₂ (· + ·) (congrArg (· * _) (Finset.sum_congr rfl fun d _ => congrArg₂ (· * ·) ?_ ?_)) ?_
    · exact View.ld_unit_apply_of _ _ _ _ _ _ (by intro a; fin_cases a <;> simp [stepRow])
    · exact View.ld_unit_apply_of _ _ _ _ _ _ (by intro a; fin_cases a <;> simp)
    · exact View.ld_unit_apply_of _ _ _ _ _ _ (by intro a; fin_cases a <;> simp)
  · rfl

/-- The values of a step, from the step's own load, are the block's. -/
theorem step_val (n : ℕ) (hn : n < 16) {off : Fin 3 → ℕ} (hoff : off = ![0, 128 * n, 0]) (i2)
    (x2 : Vec Ideal S1x2560x128 .bf16) (r l : Fin 128) :
    (fun j : Fin 640 => View.ld x2 (Rect.unit (s := S1x2560x128) off S1x640x128.size i2) (ix3 0 j l))
      = blockVal x2 (stepRow n hn r) l := by
  subst hoff
  funext j
  have hd : ((stepRow n hn r : Fin 2048) : ℕ) / 128 = n := by simp only [stepRow]; omega
  unfold blockVal
  simp only [hd]
  exact View.ld_unit_apply_of _ _ _ _ _ _ (by intro a; fin_cases a <;> simp)

/-- The place of a step's row in the block. -/
theorem step_emb (n : ℕ) (hn : n < 16) {off : Fin 3 → ℕ} (hoff : off = ![0, 128 * n, 0]) (i0) (r l : Fin 128) :
    (Rect.unit (s := S1x2048x128) off S1x128x128.size i0).emb (ix3 0 r l) = ix3 0 (stepRow n hn r) l := by
  subst hoff
  refine funext fun a => Fin.ext ((Rect.idx_unit_val _ _ i0 _ a).trans ?_)
  fin_cases a <;> simp [stepRow]

/-- A masked step stores its rows of the block. -/
theorem masked_piece (n : ℕ) (hn : n < 4) (w : BitVec 32) (hw : w = BitVec.ofNat 32 (128 * n))
    {off : Fin 3 → ℕ} (hoff : off = ![0, 128 * n, 0]) (i0 i1 i3)
    (x0 : Vec Ideal S1x2048x128 .bf16) (x1 x2 : Vec Ideal S1x2560x128 .bf16) (x3 : Vec Ideal S2x128x640 .f32)
    (x : S1x128x128.Idx) :
    k1_pay16 (iota .tc S128x128 32 [1] iota_S128x128_d1_w32) k1_pay1 k1_pay2 (iota .tc S256x640 32 [1] iota_S256x640_d1_w32) w
        (k1_pay14 (View.ld x0 (Rect.unit (s := S1x2048x128) off S1x128x128.size i0)))
        (k1_pay15 (View.ld x1 (Rect.unit (s := S1x2560x128) off S1x640x128.size i1)))
        (View.ld x2 (Rect.unit (s := S1x2560x128) off S1x640x128.size i1))
        (View.ld x3 (Rect.unit (s := S2x128x640) ![0, 0, 0] S2x128x640.size i3)) x
      = blockOut x0 x1 x2 x3 ((Rect.unit (s := S1x2048x128) off S1x128x128.size i0).emb x) := by
  obtain ⟨r, l, rfl⟩ : ∃ r l : Fin 128, x = ix3 0 r l := ⟨x 1, x 2, by
    funext a; fin_cases a; exact Subsingleton.elim (α := Fin 1) _ _; rfl; rfl⟩
  rw [step_emb n (by omega) hoff, pay16_apply n hn w hw, step_score n (by omega) hoff,
    step_val n (by omega) hoff i1 x2 r l]
  rfl

/-- An unmasked step stores its rows of the block. -/
theorem free_piece (n : ℕ) (h4 : 4 ≤ n) (hn : n < 16)
    {off off' : Fin 3 → ℕ} (hoff : off = ![0, 128 * n, 0]) (hoff' : off' = ![0, 128 * n, 0]) (i0 i1 i3)
    (x0 : Vec Ideal S1x2048x128 .bf16) (x1 x2 : Vec Ideal S1x2560x128 .bf16) (x3 : Vec Ideal S2x128x640 .f32)
    (x : S1x128x128.Idx) :
    k1_pay17 (iota .tc S128x128 32 [1] iota_S128x128_d1_w32) k1_pay1 k1_pay2
        (View.ld x0 (Rect.unit (s := S1x2048x128) off S1x128x128.size i0))
        (View.ld x1 (Rect.unit (s := S1x2560x128) off' S1x640x128.size i1))
        (View.ld x2 (Rect.unit (s := S1x2560x128) off' S1x640x128.size i1))
        (View.ld x3 (Rect.unit (s := S2x128x640) ![0, 0, 0] S2x128x640.size i3)) x
      = blockOut x0 x1 x2 x3 ((Rect.unit (s := S1x2048x128) off S1x128x128.size i0).emb x) := by
  obtain ⟨r, l, rfl⟩ : ∃ r l : Fin 128, x = ix3 0 r l := ⟨x 1, x 2, by
    funext a; fin_cases a; exact Subsingleton.elim (α := Fin 1) _ _; rfl; rfl⟩
  obtain rfl : off' = off := hoff'.trans hoff.symm
  have hs := step_score n hn hoff i0 i1 i3 x0 x1 x3 ⟨l / 64, by omega⟩ r
  rw [show ∀ q k b h r, maskedScore n q k b h r = tileScore q k b h r from
    fun q k b h r => funext fun j => if_pos (by omega)] at hs
  rw [step_emb n hn hoff, pay17_apply, hs, step_val n (by omega) hoff i1 x2 r l]
  rfl

section Run

variable (c : Dev nD) (i : grid1.Coords) (arg2 : Memref sig .tc .vmem S1x2048x128 .bf16) (harg2 : arg2.IsWhole)
  (arg3 : Memref sig .tc .vmem S1x2560x128 .bf16) (harg3 : arg3.IsWhole) (arg4 : Memref sig .tc .vmem S1x2560x128 .bf16) (harg4 : arg4.IsWhole)
  (arg5 : Memref sig .tc .vmem S2x128x640 .f32) (harg5 : arg5.IsWhole) (arg6 : Memref sig .tc .vmem S1x2048x128 .bf16) (harg6 : arg6.IsWhole)
  (x0 : Vec Ideal S1x2048x128 .bf16) (x1 x2 : Vec Ideal S1x2560x128 .bf16) (x3 : Vec Ideal S2x128x640 .f32)

/-- The offsets of trip `k` of the loop: it is step `k + 4`. -/
theorem off3_eq (k : Fin k1_t1_loop.trips) : k1_off3 k = ![0, 128 * ((k : ℕ) + 4), 0] := by
  revert k; decide +kernel
theorem off4_eq (k : Fin k1_t1_loop.trips) : k1_off4 k = ![0, 128 * ((k : ℕ) + 4), 0] := by
  revert k; decide +kernel

/-- What one trip of the loop stores. -/
theorem trip_pieces (k : Fin k1_t1_loop.trips) :
    View.PiecesOf (blockOut x0 x1 x2 x3) (tripL_k1_t1 (F := Ideal) Variants.none c none i arg2 harg2 arg3 harg3 arg4 harg4 arg5 harg5 arg6 harg6
      (iota .tc S128x128 32 [1] iota_S128x128_d1_w32) k1_pay1 k1_pay2 (harg2.unread x0) (harg3.unread x1) (harg4.unread x2) (harg5.unread x3) k) := by
  have hk : (k : ℕ) < 12 := Nat.lt_of_lt_of_le k.isLt k1_t1_abs.2.1
  unfold tripL_k1_t1 trip_k1_t1
  simp only [View.readAt_eq_ld, Memref.IsWhole.read_unread]
  exact ⟨fun x => free_piece (k + 4) (by omega) (by omega) (off3_eq k) (off4_eq k) _ _ _ x0 x1 x2 x3 x, trivial⟩

/-- What the trips before `k` store. -/
theorem loop_pieces (k : ℕ) (hk : k ≤ k1_t1_loop.trips) :
    ∀ p ∈ pb_k1_t1 (F := Ideal) Variants.none c none i arg2 harg2 arg3 harg3 arg4 harg4 arg5 harg5 arg6 harg6
      (iota .tc S128x128 32 [1] iota_S128x128_d1_w32) k1_pay1 k1_pay2 (harg2.unread x0) (harg3.unread x1) (harg4.unread x2) (harg5.unread x3) k,
      ∀ x : p.1.shape.Idx, p.2 x = blockOut x0 x1 x2 x3 (p.1.emb x) := by
  induction k with
  | zero => intro p hp; rw [pb_k1_t1.eq_1] at hp; exact absurd hp List.not_mem_nil
  | succ k ih =>
    intro p hp
    rw [pb_k1_t1_succ (F := Ideal) Variants.none c none i arg2 harg2 arg3 harg3 arg4 harg4 arg5 harg5 arg6 harg6 _ _ _ _ _ _ _ ⟨k, hk⟩] at hp
    rcases List.mem_append.mp hp with hp | hp
    · exact (trip_pieces c i arg2 harg2 arg3 harg3 arg4 harg4 arg5 harg5 arg6 harg6 x0 x1 x2 x3 ⟨k, hk⟩).mem p hp
    · exact ih (by omega) p hp

/-- Every store of a grid point is a part of the block. -/
theorem run_pieces :
    ∀ p ∈ (kernelRun1_A (F := Ideal) c i arg2 harg2 arg3 harg3 arg4 harg4 arg5 harg5 arg6 harg6 x0 x1 x2 x3).1,
      ∀ x : p.1.shape.Idx, p.2 x = blockOut x0 x1 x2 x3 (p.1.emb x) := by
  unfold kernelRun1_A
  intro p hp
  rcases List.mem_append.mp hp with hp | hp
  · exact loop_pieces c i arg2 harg2 arg3 harg3 arg4 harg4 arg5 harg5 arg6 harg6 x0 x1 x2 x3 _ le_rfl p hp
  · have e1 : View.read (Elt Ideal) arg2.view (harg2.unread x0) = x0 := harg2.read_unread x0
    have e2 : View.read (Elt Ideal) arg3.view (harg3.unread x1) = x1 := harg3.read_unread x1
    have e3 : View.read (Elt Ideal) arg4.view (harg4.unread x2) = x2 := harg4.read_unread x2
    have e4 : View.read (Elt Ideal) arg5.view (harg5.unread x3) = x3 := harg5.read_unread x3
    simp only [List.mem_cons, List.not_mem_nil, or_false] at hp
    rcases hp with rfl | rfl | rfl | rfl <;> intro x
    · have h := masked_piece 3 (by omega) 384#32 rfl (off := ![0, 384, 0]) rfl (by decide) (by decide) (by decide) x0 x1 x2 x3 x
      conv at h => lhs; rw [← e1, ← e2, ← e3, ← e4]
      exact h
    · have h := masked_piece 2 (by omega) 256#32 rfl (off := ![0, 256, 0]) rfl (by decide) (by decide) (by decide) x0 x1 x2 x3 x
      conv at h => lhs; rw [← e1, ← e2, ← e3, ← e4]
      exact h
    · have h := masked_piece 1 (by omega) 128#32 rfl (off := ![0, 128, 0]) rfl (by decide) (by decide) (by decide) x0 x1 x2 x3 x
      conv at h => lhs; rw [← e1, ← e2, ← e3, ← e4]
      exact h
    · have h := masked_piece 0 (by omega) 0#32 rfl (off := ![0, 0, 0]) rfl (by decide) (by decide) (by decide) x0 x1 x2 x3 x
      conv at h => lhs; rw [← e1, ← e2, ← e3, ← e4]
      exact h

/-- What a grid point leaves is the block. -/
theorem out1_eq : out1_A_4 (F := Ideal) c i arg2 harg2 arg3 harg3 arg4 harg4 arg5 harg5 arg6 harg6 x0 x1 x2 x3 = blockOut x0 x1 x2 x3 := by
  unfold out1_A_4
  rw [View.read_writes_junk_eq_canon]
  funext y
  exact View.canon_apply_of_pieces _ _ (run_pieces c i arg2 harg2 arg3 harg3 arg4 harg4 arg5 harg5 arg6 harg6 x0 x1 x2 x3) y
    (cover1_A_4 c i arg2 harg2 arg3 harg3 arg4 harg4 arg5 harg5 arg6 harg6 x0 x1 x2 x3 y)

end Run

end Cert.Attn
-- ==== Proof.Bias.lean ====
module

public import proofs.«01_k».proof.Proof.Gen.KernelIdeal.Frame
public import proofs.«01_k».proof.Proof.Tile
public import Idealize.ShloMosaic.Lib.Pointwise
public import Idealize.ShloMosaic.Lib.Pipeline.ValueKit

/-!
# The table of relative-position biases

The first call of the attention lays out, for each head, the biases of a step's 128 rows against its
640 window keys. Every row is the same row of 768 lanes rotated by the row's own number.
-/

@[expose] public section

set_option maxRecDepth 16384

noncomputable section

namespace Cert.Attn

open Cert.KernelIdeal Cert.KernelIdeal.Gen Idealize.ShloMosaic Idealize.ShloMosaic.TcCoe Idealize.ShloMosaic.Tactic

/-- One stage of the rotation: the rows with bit `s` set are rotated by `s` lanes. -/
def stage (s : BitVec 32) (X : FVec Ideal S128x768 .f32) : FVec Ideal S128x768 .f32 :=
  select (cmpi .ne (andi (iota .tc S128x768 32 [0] iota_S128x768_d0_w32) (broadcast S128x768 s)) (broadcast S128x768 0#32))
    (dynamicRotate 1 s none X rotates_S128x768_d1) X

/-- The row that every row of the table starts from. -/
def spread (x : Vec Ideal S1x1x768 .f32) : FVec Ideal S128x768 .f32 :=
  broadcastTo S128x768 (shapeCast S1x768 (shapeCast S1x768 x shapeCasts_S1x1x768_S1x768) shapeCasts_S1x768_S1x768) broadcasts_S1x768_S128x768

theorem spread_apply (x : Vec Ideal S1x1x768 .f32) (r : Fin 128) (i : Fin 768) : spread x (ix2 r i) = x (ix3 0 0 i) := by
  pointwise [spread]

theorem stages_eq (x : Vec Ideal S1x1x768 .f32) :
    k0_pay4 (iota .tc S128x768 32 [0] iota_S128x768_d0_w32) (k0_pay2 x) k0_pay3
      = stage 64#32 (stage 32#32 (stage 16#32 (stage 8#32 (stage 4#32 (stage 2#32 (stage 1#32 (spread x))))))) := rfl

/-- Bit `m` of a row's number decides whether stage `m` rotates it. -/
theorem bit_word (m : ℕ) (hm : m < 7) (r : Fin 128) :
    IntOp.cmpi .ne (IntOp.andi (BitVec.ofNat 32 (r : ℕ)) (BitVec.ofNat 32 (2 ^ m))) 0#32
        = (if (r : ℕ) % 2 ^ (m + 1) = r % 2 ^ m + 2 ^ m then 1#1 else 0#1)
      ∧ ((r : ℕ) % 2 ^ (m + 1) = r % 2 ^ m + 2 ^ m ∨ (r : ℕ) % 2 ^ (m + 1) = r % 2 ^ m) :=
  (by decide +kernel : ∀ m < 7, ∀ r : Fin 128,
    IntOp.cmpi .ne (IntOp.andi (BitVec.ofNat 32 (r : ℕ)) (BitVec.ofNat 32 (2 ^ m))) 0#32
        = (if (r : ℕ) % 2 ^ (m + 1) = r % 2 ^ m + 2 ^ m then 1#1 else 0#1)
      ∧ ((r : ℕ) % 2 ^ (m + 1) = r % 2 ^ m + 2 ^ m ∨ (r : ℕ) % 2 ^ (m + 1) = r % 2 ^ m)) m hm r

theorem stage_apply (s : BitVec 32) (X : FVec Ideal S128x768 .f32) (r : Fin 128) (i : Fin 768) :
    stage s X (ix2 r i)
      = Scalar.select (IntOp.cmpi .ne (IntOp.andi (BitVec.ofNat 32 (r : ℕ)) s) 0#32)
          (X (ix2 r ⟨((i : ℕ) + 768 - s.toNat % 768) % 768, Nat.mod_lt _ (by norm_num)⟩)) (X (ix2 r i)) := by
  pointwise [stage]

/-- Every row of `X` is the row `x` rotated by the row's number modulo `n`. -/
def Rotated (x : Vec Ideal S1x1x768 .f32) (n : ℕ) (X : FVec Ideal S128x768 .f32) : Prop :=
  ∀ (r : Fin 128) (i : Fin 768), X (ix2 r i) = x (ix3 0 0 ⟨((i : ℕ) + 768 - (r : ℕ) % n) % 768, Nat.mod_lt _ (by norm_num)⟩)

/-- Stage `m` rotates by one more bit. -/
theorem Rotated.stage {x : Vec Ideal S1x1x768 .f32} {X : FVec Ideal S128x768 .f32} (m : ℕ) (hm : m < 7) {s : BitVec 32}
    (hs : s = BitVec.ofNat 32 (2 ^ m)) (h : Rotated x (2 ^ m) X) : Rotated x (2 ^ (m + 1)) (stage s X) := by
  intro r i
  have hp : 2 ^ m ≤ 64 := (by decide +kernel : ∀ m < 7, 2 ^ m ≤ 64) m hm
  have hsn : s.toNat = 2 ^ m := by
    rw [hs, BitVec.toNat_ofNat]; exact Nat.mod_eq_of_lt (lt_of_le_of_lt hp (by norm_num))
  have hq : (r : ℕ) % 2 ^ m < 2 ^ m := Nat.mod_lt _ (by positivity)
  obtain ⟨hb, hc⟩ := bit_word m hm r
  rw [stage_apply, hsn, hs, hb]
  generalize 2 ^ m = p at *
  by_cases hr : (r : ℕ) % 2 ^ (m + 1) = (r : ℕ) % p + p
  · rw [if_pos hr, select_one, h]
    refine congrArg x (congrArg (ix3 0 0) (Fin.ext ?_))
    simp only [hr]
    omega
  · rw [if_neg hr, select_zero, h]
    refine congrArg x (congrArg (ix3 0 0) (Fin.ext ?_))
    simp only [hc.resolve_left hr]

/-- All seven stages rotate every row by its own number. -/
theorem stages_apply (x : Vec Ideal S1x1x768 .f32) (r : Fin 128) (i : Fin 768) :
    k0_pay4 (iota .tc S128x768 32 [0] iota_S128x768_d0_w32) (k0_pay2 x) k0_pay3 (ix2 r i)
      = x (ix3 0 0 ⟨((i : ℕ) + 768 - r) % 768, Nat.mod_lt _ (by norm_num)⟩) := by
  have h0 : Rotated x (2 ^ 0) (spread x) := fun r i => by
    rw [spread_apply]
    exact congrArg x (congrArg (ix3 0 0) (Fin.ext (by simp; omega)))
  have h := (((((((h0.stage 0 (by omega) rfl).stage 1 (by omega) rfl).stage 2 (by omega) rfl).stage 3 (by omega) rfl).stage
    4 (by omega) rfl).stage 5 (by omega) rfl).stage 6 (by omega) rfl) r i
  rw [stages_eq]
  refine h.trans (congrArg x (congrArg (ix3 0 0) (Fin.ext ?_)))
  have hr : (r : ℕ) % 2 ^ (6 + 1) = r := Nat.mod_eq_of_lt (by omega)
  simp only [hr]

/-- The quotient by 64 that the kernel computes on words. -/
theorem div_word (j : Fin 640) :
    Scalar.select
        (IntOp.andi
          (IntOp.cmpi .ne
            (IntOp.subi (BitVec.setWidth 32 (IntOp.cmpi .sgt (BitVec.ofNat 32 (j : ℕ)) 0#32))
              (BitVec.setWidth 32 (IntOp.cmpi .slt (BitVec.ofNat 32 (j : ℕ)) 0#32)))
            (Scalar.subi (Scalar.extui (Scalar.cmpi .sgt 64#32 0#32)) (Scalar.extui (Scalar.cmpi .slt 64#32 0#32))))
          (IntOp.cmpi .ne (IntOp.remsi .vector (BitVec.ofNat 32 (j : ℕ)) 64#32) 0#32))
        (IntOp.subi (IntOp.divsi .vector (BitVec.ofNat 32 (j : ℕ)) 64#32) 1#32)
        (IntOp.divsi .vector (BitVec.ofNat 32 (j : ℕ)) 64#32)
      = BitVec.ofNat 32 ((j : ℕ) / 64) := by
  revert j; decide +kernel

theorem div_word' (r : Fin 128) :
    Scalar.select
        (IntOp.andi
          (IntOp.cmpi .ne
            (IntOp.subi (BitVec.setWidth 32 (IntOp.cmpi .sgt (BitVec.ofNat 32 (r : ℕ)) 0#32))
              (BitVec.setWidth 32 (IntOp.cmpi .slt (BitVec.ofNat 32 (r : ℕ)) 0#32)))
            (Scalar.subi (Scalar.extui (Scalar.cmpi .sgt 64#32 0#32)) (Scalar.extui (Scalar.cmpi .slt 64#32 0#32))))
          (IntOp.cmpi .ne (IntOp.remsi .vector (BitVec.ofNat 32 (r : ℕ)) 64#32) 0#32))
        (IntOp.subi (IntOp.divsi .vector (BitVec.ofNat 32 (r : ℕ)) 64#32) 1#32)
        (IntOp.divsi .vector (BitVec.ofNat 32 (r : ℕ)) 64#32)
      = BitVec.ofNat 32 ((r : ℕ) / 64) := div_word ⟨r, by omega⟩

/-- Window key `j` of row `r` lies in the band: its chunk of 64 is one of the nine that end at the row's own. -/
def InBand (r j : ℕ) : Prop := r / 64 ≤ j / 64 ∧ j / 64 ≤ r / 64 + 8

instance (r j : ℕ) : Decidable (InBand r j) := inferInstanceAs (Decidable (_ ∧ _))

theorem band_word (r : Fin 128) (j : Fin 640) :
    IntOp.andi (IntOp.cmpi .sge (BitVec.ofNat 32 ((j : ℕ) / 64)) (BitVec.ofNat 32 ((r : ℕ) / 64)))
        (IntOp.cmpi .sle (BitVec.ofNat 32 ((j : ℕ) / 64)) (IntOp.addi (BitVec.ofNat 32 ((r : ℕ) / 64)) 8#32))
      = if InBand r j then 1#1 else 0#1 :=
  (by decide +kernel : ∀ a < 2, ∀ b < 10,
    IntOp.andi (IntOp.cmpi .sge (BitVec.ofNat 32 b) (BitVec.ofNat 32 a)) (IntOp.cmpi .sle (BitVec.ofNat 32 b) (IntOp.addi (BitVec.ofNat 32 a) 8#32))
      = if a ≤ b ∧ b ≤ a + 8 then 1#1 else 0#1) _ (by omega) _ (by omega)

/-- The bias of row `r` against window key `j`, from the head's row of 768 lanes. -/
def biasAt (x : Vec Ideal S1x1x768 .f32) (r : Fin 128) (j : Fin 640) : EReal :=
  if InBand r j then x (ix3 0 0 ⟨((j : ℕ) + 768 - r) % 768, Nat.mod_lt _ (by norm_num)⟩) else ⊥

/-- What a grid point of the table's call leaves. -/
theorem out0_apply (x : Vec Ideal S1x1x768 .f32) (r : Fin 128) (j : Fin 640) : out0_1 x (ix3 0 r j) = biasAt x r j := by
  unfold out0_1 r0_1 r0_0
  rw [View.canon_cons_unit_lit (h := by decide), View.ld_unit_lit (h := by decide)]
  pointwise [k0_pay1, k0_pay5, k0_pay6, k0_pay7]
  rw [div_word, div_word', band_word, select_ite, mask_word, stages_apply]
  rfl

end Cert.Attn
-- ==== Proof.Arrays.lean ====
module

public import proofs.«01_k».proof.Proof.Block
public import proofs.«01_k».proof.Proof.Bias
public import Idealize.ShloMosaic.Lib.StableHlo.ReadAt
public import Idealize.ShloMosaic.Lib.Pipeline.ValueKit

/-!
# The arrays of the attention program

What the bias table, the padded keys and values and the result hold after the program, as functions
of the arguments.
-/

@[expose] public section

set_option maxRecDepth 16384

noncomputable section

namespace Cert.Attn

open Cert.KernelIdeal Cert.KernelIdeal.Gen Idealize.ShloMosaic Idealize.ShloMosaic.TcCoe Idealize.ShloMosaic.Tactic
open Idealize.ShloMosaic.Pipeline (Dat)

/-- The head of a point of the bias program. -/
def hd (t : Fin cfg0.N) : Fin 32 := grid0.coords t 0

/-- The sequence of a point of the attention. -/
def sq (t : Fin cfg1.N) : Fin 4 := grid1.coords t 0

/-- The pair of heads of a point of the attention. -/
def pr (t : Fin cfg1.N) : Fin 16 := grid1.coords t 1

/-- The blocks of the bias program at each of its points: head `t`. -/
theorem idx0 : ∀ t : Fin cfg0.N, win0_0.index t = ![(hd t : ℕ), 0, 0]
    ∧ win0_1.index t = ![(hd t : ℕ), 0, 0] :=
  (by decide +kernel : ∀ t : Fin grid0.N, _)

/-- The blocks of the attention at each of its points: a sequence and a pair of heads. -/
theorem idx1 : ∀ t : Fin cfg1.N, win1_0.index t = ![(sq t : ℕ), 0, (pr t : ℕ)]
    ∧ win1_1.index t = ![(sq t : ℕ), 0, (pr t : ℕ)]
    ∧ win1_2.index t = ![(sq t : ℕ), 0, (pr t : ℕ) + 16]
    ∧ win1_3.index t = ![(pr t : ℕ), 0, 0]
    ∧ win1_4.index t = ![(sq t : ℕ), 0, (pr t : ℕ)] :=
  (by decide +kernel : ∀ t : Fin grid1.N, _)

/-- The bias table of all heads, from the row of values of each head. -/
def biasTable (g : Vec Ideal S32x1x768 .f32) : Vec Ideal S32x128x640 .f32 := fun y =>
  if InBand (y 1 : Fin 128) (y 2 : Fin 640) then
    g (ix3 (y 0 : Fin 32) 0 ⟨(((y 2 : Fin 640) : ℕ) + 768 - ((y 1 : Fin 128) : ℕ)) % 768, Nat.mod_lt _ (by decide)⟩)
  else ⊥

section
variable (V : (c : Dev nD) → (b : Ref sig .tc) → Buf (Elt Ideal) ((c : Thread nD τ).loc b)) (c : Dev nD)

/-- The block of the bias program's argument at point `t` is the row of head `t`. -/
theorem blk0_0 (t : Fin cfg0.N) (i : Fin 768) : iblk0 V c 0 t (ix3 0 0 i) = V c main_v8 (ix3 (hd t) 0 i) := by
  blk_ext [iblk0, (idx0 t).1]

/-- The block of the bias program's result at point `t` is the table of head `t`. -/
theorem emb0_1 (t : Fin cfg0.N) (r : Fin 128) (j : Fin 640) :
    (win0_1.blk t).view.emb (ix3 0 r j) = (ix3 (hd t) r j : S32x128x640.Idx) := by
  blk_ext [(idx0 t).2]

/-- After the bias program its result array is the bias table. -/
theorem bias_array : (dat0 V c).arrAt 1 cfg0.N = biasTable (V c main_v8) := by
  refine (dat0 V c).arrAt_eq_of_covers 1 (biasTable (V c main_v8)) (by decide +kernel) fun t hf y => ?_
  blk_simp
  rw [after0_1]
  obtain ⟨u, r, j, rfl⟩ : ∃ (u : Fin 1) (r : Fin 128) (j : Fin 640), y = ix3 u r j := ⟨y 0, y 1, y 2, by funext a; fin_cases a <;> rfl⟩
  obtain rfl : u = 0 := Subsingleton.elim _ _
  rw [emb0_1]
  refine (out0_apply _ r j).trans ?_
  unfold biasAt
  rw [blk0_0]
  rfl

/-- The block of the queries at point `t`. -/
theorem blk1_0 (t : Fin cfg1.N) (r : Fin 2048) (l : Fin 128) :
    iblk1 V c 0 t (ix3 0 r l) = V c main_arg0 (ix3 (sq t) r ⟨128 * pr t + l, by omega⟩) := by
  blk_ext [iblk1, (idx1 t).1]

/-- The block of the keys at point `t`. -/
theorem blk1_1 (t : Fin cfg1.N) (r : Fin 2560) (l : Fin 128) :
    iblk1 V c 1 t (ix3 0 r l) = V c main_v1 (ix3 (sq t) r ⟨128 * pr t + l, by omega⟩) := by
  blk_ext [iblk1, (idx1 t).2.1]

/-- The block of the values at point `t`: the second half of the lanes of the same array. -/
theorem blk1_2 (t : Fin cfg1.N) (r : Fin 2560) (l : Fin 128) :
    iblk1 V c 2 t (ix3 0 r l) = V c main_v1 (ix3 (sq t) r ⟨2048 + (128 * pr t + l), by omega⟩) := by
  blk_ext [iblk1, (idx1 t).2.2.1]

/-- The block of the bias table at point `t`. -/
theorem blk1_3 (t : Fin cfg1.N) (h : Fin 2) (r : Fin 128) (j : Fin 640) :
    iblk1 V c 3 t (ix3 h r j) = V c main_v9 (ix3 ⟨2 * pr t + h, by omega⟩ r j) := by
  blk_ext [iblk1, (idx1 t).2.2.2.1]

/-- The block of the result at point `t`. -/
theorem emb1_4 (t : Fin cfg1.N) (r : Fin 2048) (l : Fin 128) :
    (win1_4.blk t).view.emb (ix3 0 r l) = (ix3 (sq t) r ⟨128 * pr t + l, by omega⟩ : S4x2048x2048.Idx) := by
  blk_ext [(idx1 t).2.2.2.2]

/-- The score of query row `t` of sequence `b` and head `h` against key `j` of the row's window, `⊥` for
the keys of the padding. -/
def windowScore (q : Vec Ideal S4x2048x2048 .bf16) (kv : Vec Ideal S4x2560x4096 .bf16) (tab : Vec Ideal S32x128x640 .f32)
    (b : Fin 4) (h : Fin 32) (t : Fin 2048) (j : Fin 640) : EReal :=
  if 512 ≤ 128 * ((t : ℕ) / 128) + j then
    (∑ d : Fin 64, q (ix3 b t ⟨64 * h + d, by omega⟩)
        * kv (ix3 b ⟨128 * ((t : ℕ) / 128) + j, by omega⟩ ⟨64 * h + d, by omega⟩)) * ((1 / 8 : ℝ) : EReal)
      + tab (ix3 h ⟨(t : ℕ) % 128, by omega⟩ j)
  else ⊥

/-- The attention of row `t` of sequence `b` at lane `e`, over the whole arrays. -/
def attnRow (q : Vec Ideal S4x2048x2048 .bf16) (kv : Vec Ideal S4x2560x4096 .bf16) (tab : Vec Ideal S32x128x640 .f32)
    (b : Fin 4) (t : Fin 2048) (e : Fin 2048) : EReal :=
  attend (windowScore q kv tab b ⟨(e : ℕ) / 64, by omega⟩ t)
    (fun j : Fin 640 => kv (ix3 b ⟨128 * ((t : ℕ) / 128) + j, by omega⟩ ⟨2048 + e, by omega⟩))

/-- The scores of a point are those of its sequence and its pair's heads. -/
theorem blockScore_eq (t : Fin cfg1.N) (h : Fin 2) (r : Fin 2048) (j : Fin 640) :
    blockScore (iblk1 V c 0 t) (iblk1 V c 1 t) (iblk1 V c 3 t) h r j
      = windowScore (V c main_arg0) (V c main_v1) (V c main_v9) (sq t) ⟨2 * pr t + h, by omega⟩ r j := by
  unfold blockScore windowScore
  rw [blk1_3]
  refine if_congr Iff.rfl (congrArg₂ _ (congrArg₂ _ (Finset.sum_congr rfl fun d _ => ?_) rfl) rfl) rfl
  rw [blk1_0, blk1_1]
  have e : ∀ n, (⟨128 * (pr t : ℕ) + (64 * (h : ℕ) + d), n⟩ : Fin 2048)
      = ⟨64 * (2 * (pr t : ℕ) + h) + d, by omega⟩ := fun n => Fin.ext (by dsimp only; omega)
  have e' : ∀ n, (⟨128 * (pr t : ℕ) + (64 * (h : ℕ) + d), n⟩ : Fin 4096)
      = ⟨64 * (2 * (pr t : ℕ) + h) + d, by omega⟩ := fun n => Fin.ext (by dsimp only; omega)
  simp only [e, e']

/-- After the attention its result array holds every row's attention. -/
theorem attn_array : (dat1 V c).arrAt 4 cfg1.N
    = fun y : S4x2048x2048.Idx => attnRow (V c main_arg0) (V c main_v1) (V c main_v9) (y 0) (y 1) (y 2) := by
  refine (dat1 V c).arrAt_eq_of_covers 4 _ (by decide +kernel) fun t hf y => ?_
  blk_simp
  rw [after1_4]
  unfold outsAt1
  rw [out1_eq]
  obtain ⟨u, r, l, rfl⟩ : ∃ (u : Fin 1) (r : Fin 2048) (l : Fin 128), y = ix3 u r l := ⟨y 0, y 1, y 2, by funext a; fin_cases a <;> rfl⟩
  obtain rfl : u = 0 := Subsingleton.elim _ _
  rw [emb1_4]
  show blockRow _ _ _ _ r l = attnRow _ _ _ (sq t) r ⟨128 * pr t + l, by omega⟩
  unfold blockRow attnRow
  refine congrArg₂ attend (funext fun j => ?_) (funext fun j => ?_)
  · rw [blockScore_eq]
    congr 1
    exact Fin.ext (by dsimp only; omega)
  · unfold blockVal
    rw [blk1_2]

end

variable (m : (ℓ : Loc nD τ sig) → Buf (Elt Ideal) ℓ) (ρ : Dev nD → PrngReg) (c : Dev nD)

/-- The attention reads the queries as launched. -/
theorem q_at : W4 m ρ c main_arg0 = m ((c : Thread nD τ).loc main_arg0) := W4_args m ρ c main_arg0 (by decide)

/-- The first half of the lanes of the keys and values, past the padding, are the keys. -/
theorem kv_low (b : Fin 4) (s : Fin 2560) (e : Fin 4096) (h : (e : ℕ) < 2048) (hs : 512 ≤ (s : ℕ)) :
    (W4 m ρ c main_v1 : Vec Ideal S4x2560x4096 .bf16) (ix3 b s e)
      = (m ((c : Thread nD τ).loc main_arg1) : Vec Ideal S4x2048x2048 .bf16) (ix3 b ⟨(s : ℕ) - 512, by omega⟩ ⟨e, h⟩) := by
  rw [W4_of m ρ c main_v1 (by decide), W3_of m ρ c main_v1 (by decide)]
  unfold W2 W1 W0
  after_reads_at
  rw [dif_pos ⟨hs, by omega⟩, dif_pos h]
  rfl

/-- The second half of the lanes, past the padding, are the values. -/
theorem kv_high (b : Fin 4) (s : Fin 2560) (e : Fin 2048) (hs : 512 ≤ (s : ℕ)) :
    (W4 m ρ c main_v1 : Vec Ideal S4x2560x4096 .bf16) (ix3 b s ⟨2048 + e, by omega⟩)
      = (m ((c : Thread nD τ).loc main_arg2) : Vec Ideal S4x2048x2048 .bf16) (ix3 b ⟨(s : ℕ) - 512, by omega⟩ e) := by
  rw [W4_of m ρ c main_v1 (by decide), W3_of m ρ c main_v1 (by decide)]
  unfold W2 W1 W0
  after_reads_at
  rw [dif_pos ⟨⟨hs, by omega⟩, by omega⟩]
  rfl

/-- The row of head `h` of which the bias table is made: the relative bias against falling distance, its last
column held at both ends. -/
theorem g_at (h : Fin 32) (i : Fin 768) :
    (W3 m ρ c main_v8 : Vec Ideal S32x1x768 .f32) (ix3 h 0 i)
      = (m ((c : Thread nD τ).loc main_arg3) : Vec Ideal S32x513 .f32)
          (ix2 h (if h1 : (i : ℕ) < 257 then 512 else if h2 : (i : ℕ) < 640 then ⟨768 - (i : ℕ), by omega⟩ else 512)) := by
  unfold W3 W2 W1 W0
  after_reads_at
  split
  · after_reads_at
  split
  · after_reads_at
    rw [dif_pos (by omega)]
    refine congrArg _ (congrArg _ (Fin.ext ?_))
    simp [Fin.rev]
    omega
  · after_reads_at
    rw [dif_neg (by omega)]

/-- The attention reads the bias table that the bias program made. -/
theorem tab_at : W4 m ρ c main_v9 = biasTable (W3 m ρ c main_v8) :=
  (W4_arr m ρ c 1).trans (bias_array (V3 m ρ) c)

end Cert.Attn
-- ==== Proof.Ref.lean ====
module

public import proofs.«01_k».proof.Proof.Gen.ReferenceIdeal.Read
public import proofs.«01_k».proof.Proof.Softmax
public import Idealize.ShloMosaic.Lib.Pointwise
public import Idealize.ShloMosaic.Lib.Tactic.WordOmega

/-!
# The reference of the attention at an index
-/

@[expose] public section

set_option maxRecDepth 16384

noncomputable section

namespace Cert.Attn

open Cert.ReferenceIdeal Cert.ReferenceIdeal.Read Idealize.ShloMosaic Idealize.ShloMosaic.TcCoe Idealize.ShloMosaic.Tactic

/-- The column of the relative bias that query row `t` reads for key `s`: the distance, clipped to 256 on both
sides. -/
def rel (t s : Fin 2048) : Fin 513 := ⟨min ((t : ℕ) + 256 - s) 512, by omega⟩

/-- Clipping a distance, offset by 2048 to be a natural number, and moving it to a column. -/
theorem clip_word : ∀ x : Fin 4096, BitVec.toInt
      (Scalar.select
        (IntOp.cmpi CmpIPredicate.slt
          (IntOp.addi (IntOp.minsi 256#32 (IntOp.maxsi 4294967040#32 (BitVec.ofNat 32 (x : ℕ) - 2048#32))) 256#32) 0#32)
        (IntOp.addi (IntOp.addi (IntOp.minsi 256#32 (IntOp.maxsi 4294967040#32 (BitVec.ofNat 32 (x : ℕ) - 2048#32))) 256#32) 513#32)
        (IntOp.addi (IntOp.minsi 256#32 (IntOp.maxsi 4294967040#32 (BitVec.ofNat 32 (x : ℕ) - 2048#32))) 256#32))
      = ((min ((x : ℕ) - 1792) 512 : ℕ) : ℤ) := by
  decide +kernel

/-- The reference's word for that column. -/
theorem rel_word (t s : Fin 2048) : (val_main_v20 (F := Ideal) (ix3 t s 0)).toInt = ((rel t s : ℕ) : ℤ) := by
  pointwise [val_main_v20, val_main_v19, val_main_v18, val_main_v17, val_main_c_3, val_main_v16, val_main_v15, val_main_c_2,
    val_main_v14, val_main_v13, val_main_c_1, val_main_v12, val_main_call0_v4, val_main_call0_v3, val_main_c_0, val_main_call0_v2,
    val_main_call0_v1, val_main_call0_v0, val_main_c, val_main_v11, val_main_v10, val_main_v9, val_main_v8, val_main_v7, val_main_v6, id]
  rw [show IntOp.subi (BitVec.ofNat 32 (t : ℕ)) (BitVec.ofNat 32 (s : ℕ)) = BitVec.ofNat 32 ((t : ℕ) + 2048 - s) - 2048#32 by
    show BitVec.ofNat 32 (t : ℕ) - BitVec.ofNat 32 (s : ℕ) = _
    bv_omega]
  refine (clip_word ⟨(t : ℕ) + 2048 - s, by omega⟩).trans ?_
  unfold rel
  dsimp only
  omega

/-- The gather takes that column of the row of its head. -/
theorem bias_read (x3 : (⟨S32x513, .f32⟩ : BufTy).Contents (Elt Ideal)) (h : Fin 32) (t s : Fin 2048) :
    val_main_v21 x3 (ix3 h t s) = x3 (ix2 h (rel t s)) := by
  unfold val_main_v21 Host.gather
  congr 1
  funext a
  refine Fin.ext ?_
  generalize hi : val_main_v20 (F := Ideal) = idx
  have hr := rel_word t s
  rw [hi] at hr
  set D := gather_S32x513_S2048x2048x1_S32x2048x2048_0_1_n_n_1_2_321 with hD
  show D.start (ix3 h t s) idx a + D.batchCoord (ix3 h t s) a + D.offCoord (ix3 h t s) a = _
  have h01 : a = 0 ∨ a = 1 := by
    match a with
    | ⟨0, _⟩ => exact Or.inl rfl
    | ⟨1, _⟩ => exact Or.inr rfl
  rcases h01 with rfl | rfl
  · rw [GatherDims.batchCoord_eq_zero _ _ _ (fun h => by simp [hD, gather_S32x513_S2048x2048x1_S32x2048x2048_0_1_n_n_1_2_321] at h)]
    unfold GatherDims.start
    rw [dif_neg (show ¬ (0 : Fin 2) ∈ D.startIndexMap from by decide)]
    simp only [Nat.zero_add, Nat.add_zero]
    rfl
  · rw [GatherDims.batchCoord_eq_zero _ _ _ (fun h => by simp [hD, gather_S32x513_S2048x2048x1_S32x2048x2048_0_1_n_n_1_2_321] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ D.startIndexMap from List.mem_singleton.mpr rfl)]
    have hsi : D.siIdx (ix3 h t s) ⟨List.idxOf (1 : Fin 2) D.startIndexMap,
        List.idxOf_lt_length_iff.2 (List.mem_singleton.mpr rfl)⟩ = ix3 t s 0 := by
      funext b; refine Fin.ext ?_
      match b with
      | ⟨0, _⟩ => rfl
      | ⟨1, _⟩ => rfl
      | ⟨2, _⟩ => rfl
    rw [hsi, hr]
    show min ((rel t s : ℕ) : ℤ).toNat (513 - 1) = (rel t s : ℕ)
    have := (rel t s).isLt
    simp
    omega

/-- Floor division of a row number by 64, as the reference computes it on words. -/
theorem chunk_dec : ∀ t : Fin 2048, Scalar.select
      (IntOp.andi
        (IntOp.cmpi CmpIPredicate.ne
          (if BitVec.ofNat 32 (t : ℕ) = 0 then (0 : BitVec 32) else if (BitVec.ofNat 32 (t : ℕ)).msb = true then -1 else 1)
          (if 64#32 = 0 then (0 : BitVec 32) else if (64#32).msb = true then -1 else 1))
        (IntOp.cmpi CmpIPredicate.ne (IntOp.remsi ArithUnit.host (BitVec.ofNat 32 (t : ℕ)) 64#32) 0#32))
      (IntOp.subi (IntOp.divsi ArithUnit.host (BitVec.ofNat 32 (t : ℕ)) 64#32) 1#32)
      (IntOp.divsi ArithUnit.host (BitVec.ofNat 32 (t : ℕ)) 64#32) =
    BitVec.ofNat 32 ((t : ℕ) / 64) := by
  decide +kernel

/-- The reference's word for the chunk of row `t`. -/
theorem chunk_word (t : Fin 2048) : val_main_v28 (F := Ideal) (ix1 t) = BitVec.ofNat 32 ((t : ℕ) / 64) := by
  pointwise [val_main_v28, val_main_call1_v0, val_main_c_4, val_main_call1_v1, val_main_call1_v2, val_main_call1_v3, val_main_call1_v4,
    val_main_call1_v5, val_main_call1_v6, val_main_call1_v7, val_main_call1_v8, val_main_call1_c, val_main_call1_v9, val_main_call1_v10,
    val_main_call1_v11, val_main_call1_c_0, val_main_call1_v12, val_main_call1_v13, val_main_v6, val_main_call1_v0, val_main_c_4, signi, id]
  exact chunk_dec t

/-- The comparisons of two chunk numbers, on words. -/
theorem band_dec : ∀ a b : Fin 32, IntOp.andi
      (IntOp.cmpi CmpIPredicate.sge (IntOp.subi (BitVec.ofNat 32 (a : ℕ)) (BitVec.ofNat 32 (b : ℕ))) 0#32)
      (IntOp.cmpi CmpIPredicate.sle (IntOp.subi (BitVec.ofNat 32 (a : ℕ)) (BitVec.ofNat 32 (b : ℕ))) 8#32)
    = if (b : ℕ) ≤ a ∧ (a : ℕ) ≤ b + 8 then 1#1 else 0#1 := by
  decide +kernel

/-- The reference's mask of the band. -/
theorem band_read (t s : Fin 2048) : val_main_v38 (F := Ideal) (ix2 t s)
    = if (s : ℕ) / 64 ≤ (t : ℕ) / 64 ∧ (t : ℕ) / 64 ≤ (s : ℕ) / 64 + 8 then 1#1 else 0#1 := by
  pointwise [val_main_v38, val_main_v37, val_main_v36, val_main_v35, val_main_v34, val_main_v33, val_main_v32, val_main_v31, val_main_v30, val_main_v29,
    val_main_c_5, val_main_c_6]
  rw [chunk_word, chunk_word]
  exact band_dec ⟨(t : ℕ) / 64, by omega⟩ ⟨(s : ℕ) / 64, by omega⟩

/-- The score of query row `t` of sequence `b` and head `h` against key `s`, `⊥` outside the band of chunks. -/
def denseScore (q k : Vec Ideal S4x2048x2048 .bf16) (rb : Vec Ideal S32x513 .f32) (b : Fin 4) (h : Fin 32) (t s : Fin 2048) : EReal :=
  if (s : ℕ) / 64 ≤ (t : ℕ) / 64 ∧ (t : ℕ) / 64 ≤ (s : ℕ) / 64 + 8 then
    (∑ d : Fin 64, q (ix3 b t ⟨64 * h + d, by omega⟩) * k (ix3 b s ⟨64 * h + d, by omega⟩)) * ((1 / 8 : ℝ) : EReal)
      + rb (ix2 h (rel t s))
  else ⊥

section
variable (x0 x1 x2 : Vec Ideal S4x2048x2048 .bf16) (x3 : Vec Ideal S32x513 .f32)

/-- The reference's masked scores. -/
theorem scores_read (b : Fin 4) (h : Fin 32) (t s : Fin 2048) :
    val_main_v39 x0 x1 x3 (ix4 b h t s) = denseScore x0 x1 x3 b h t s := by
  pointwise [val_main_v39, val_main_call2_v0, val_main_call2_v1, val_main_call2_v2, val_main_v27, val_main_v26, val_main_v25,
    val_main_v24, val_main_v23, val_main_cst, val_main_v22, val_main_v0, val_main_v1, val_main_v2, val_main_v3, val_main_cst_7, id]
  rw [band_read, bias_read, scale_word, bot_word]
  unfold denseScore
  simp only [mul_comm 64]
  split <;> rfl

/-- A maximum over the last axis at an index. -/
theorem reduce_max (y : FVec Ideal S4x32x2048x2048 .f32) (c : FVec Ideal S_ .f32) (h : S4x32x2048x2048.ReducesTo [3] S4x32x2048)
    (hu : 0 < S_.numel) (b : Fin 4) (a : Fin 32) (t : Fin 2048) : Host.reduce FloatOps.maximumf y c h hu (ix3 b a t)
      = Finset.univ.fold max (c (Shape.Idx.first hu)) (fun s => y (ix4 b a t s)) := by
  pointwise

/-- The reference's maximum of a row of scores. -/
theorem max_read (b : Fin 4) (h : Fin 32) (t : Fin 2048) :
    val_main_v42 x0 x1 x3 (ix3 b h t) = top fun s => val_main_v39 x0 x1 x3 (ix4 b h t s) := by
  unfold val_main_v42 val_main_v40
  generalize val_main_v39 (F := Ideal) x0 x1 x3 = y
  rw [maximumf_apply, reduce_max]
  pointwise [val_main_v41, val_main_cst_8, val_main_cst_9]
  rw [bot_word]
  exact max_eq_right bot_le

/-- The reference's output, from its scores and their maxima. -/
theorem tail_read (b : Fin 4) (t e : Fin 2048) : val_main_v54 x0 x1 x2 x3 (ix3 b t e)
    = ∑ s : Fin 2048, x2 (ix3 b s e) * Ideal.div
        (Ideal.exp (val_main_v39 x0 x1 x3 (ix4 b ⟨(e : ℕ) / 64, by omega⟩ t s) - val_main_v42 x0 x1 x3 (ix3 b ⟨(e : ℕ) / 64, by omega⟩ t)))
        (∑ s' : Fin 2048, Ideal.exp (val_main_v39 x0 x1 x3 (ix4 b ⟨(e : ℕ) / 64, by omega⟩ t s')
          - val_main_v42 x0 x1 x3 (ix3 b ⟨(e : ℕ) / 64, by omega⟩ t))) := by
  unfold val_main_v54 val_main_v53 val_main_v52 val_main_v51 val_main_v50 val_main_v49 val_main_v48 val_main_v47 val_main_v46
    val_main_v45 val_main_v44 val_main_v43
  generalize val_main_v39 (F := Ideal) x0 x1 x3 = y
  generalize val_main_v42 (F := Ideal) x0 x1 x3 = z
  pointwise [val_main_v4, val_main_v5, val_main_cst_10]

/-- The reference's output: each lane's attention over all keys. -/
theorem out_read (b : Fin 4) (t e : Fin 2048) : val_main_v54 x0 x1 x2 x3 (ix3 b t e)
    = attendEach (denseScore x0 x1 x3 b ⟨(e : ℕ) / 64, by omega⟩ t) (fun s => x2 (ix3 b s e)) := by
  rw [tail_read, max_read]
  simp only [scores_read]
  rfl

end

end Cert.Attn
-- ==== Proof.Equation.lean ====
module

public import proofs.«01_k».proof.Proof.Arrays
public import proofs.«01_k».proof.Proof.Ref

/-!
# The attention of the kernel is the attention of the reference

The kernel attends over a window of 640 keys of the padded sequence, the reference over all keys under
a mask. Where the queries, the keys and the relative bias are real numbers the two agree.
-/

@[expose] public section

set_option maxRecDepth 16384

noncomputable section

namespace Cert.Attn

open Cert.KernelIdeal Cert.KernelIdeal.Gen Idealize.ShloMosaic Idealize.ShloMosaic.TcCoe Idealize.ShloMosaic.Tactic

/-- An extended real that is a real number. -/
def Real' (x : EReal) : Prop := ∃ r : ℝ, x = r

theorem Real'.add {x y : EReal} : Real' x → Real' y → Real' (x + y) := fun ⟨a, ha⟩ ⟨b, hb⟩ => ⟨a + b, by rw [ha, hb, EReal.coe_add]⟩

theorem Real'.mul {x y : EReal} : Real' x → Real' y → Real' (x * y) := fun ⟨a, ha⟩ ⟨b, hb⟩ => ⟨a * b, by rw [ha, hb, EReal.coe_mul]⟩

theorem Real'.sum {ι : Type*} (s : Finset ι) (f : ι → EReal) (h : ∀ i, Real' (f i)) : Real' (∑ i ∈ s, f i) := by
  classical
  induction s using Finset.induction_on with
  | empty => exact ⟨0, by simp⟩
  | insert a s ha ih => rw [Finset.sum_insert ha]; exact (h a).add ih

theorem Real'.ne_top {x : EReal} : Real' x → x ≠ ⊤ := fun ⟨r, h⟩ => h ▸ EReal.coe_ne_top r

theorem Real'.ne_bot {x : EReal} : Real' x → x ≠ ⊥ := fun ⟨r, h⟩ => h ▸ EReal.coe_ne_bot r

section
variable (q k v : Vec Ideal S4x2048x2048 .bf16) (rb : Vec Ideal S32x513 .f32)
variable (hq : ∀ i, Real' (q i)) (hk : ∀ i, Real' (k i)) (hrb : ∀ i, Real' (rb i))

include hq hk hrb in
/-- A score is a real number or `⊥`. -/
theorem denseScore_real (b : Fin 4) (h : Fin 32) (t s : Fin 2048) :
    Real' (denseScore q k rb b h t s) ∨ denseScore q k rb b h t s = ⊥ := by
  unfold denseScore
  split
  · exact .inl (((Real'.sum _ _ fun d => (hq _).mul (hk _)).mul ⟨_, rfl⟩).add (hrb _))
  · exact .inr rfl

include hq hk hrb in
/-- A row's score against its own key is a real number. -/
theorem denseScore_self (b : Fin 4) (h : Fin 32) (t : Fin 2048) : Real' (denseScore q k rb b h t t) := by
  unfold denseScore
  rw [if_pos ⟨le_refl _, by omega⟩]
  exact ((Real'.sum _ _ fun d => (hq _).mul (hk _)).mul ⟨_, rfl⟩).add (hrb _)

variable (kv : Vec Ideal S4x2560x4096 .bf16) (g : Vec Ideal S32x1x768 .f32)
variable (hlow : ∀ (b : Fin 4) (s : Fin 2560) (e : Fin 4096) (h : (e : ℕ) < 2048) (hs : 512 ≤ (s : ℕ)),
  kv (ix3 b s e) = k (ix3 b ⟨(s : ℕ) - 512, by omega⟩ ⟨e, h⟩))
variable (hhigh : ∀ (b : Fin 4) (s : Fin 2560) (e : Fin 2048) (hs : 512 ≤ (s : ℕ)),
  kv (ix3 b s ⟨2048 + e, by omega⟩) = v (ix3 b ⟨(s : ℕ) - 512, by omega⟩ e))
variable (hg : ∀ (h : Fin 32) (i : Fin 768), g (ix3 h 0 i)
  = rb (ix2 h (if h1 : (i : ℕ) < 257 then 512 else if h2 : (i : ℕ) < 640 then ⟨768 - (i : ℕ), by omega⟩ else 512)))

/-- The key that window key `j` of row `t` is, in the sequence without padding. -/
def keyOf (t : Fin 2048) (j : Fin 640) : Fin 2048 := ⟨128 * ((t : ℕ) / 128) + j - 512, by omega⟩

include hlow hg in
/-- The score of a window key is the score of the key that it is. -/
theorem windowScore_eq (b : Fin 4) (h : Fin 32) (t : Fin 2048) (j : Fin 640) (hj : 512 ≤ 128 * ((t : ℕ) / 128) + j) :
    windowScore q kv (biasTable g) b h t j = denseScore q k rb b h t (keyOf t j) := by
  unfold windowScore denseScore biasTable
  rw [if_pos hj]
  have hband : InBand (⟨(t : ℕ) % 128, by omega⟩ : Fin 128) j ↔
      ((keyOf t j : ℕ) / 64 ≤ (t : ℕ) / 64 ∧ (t : ℕ) / 64 ≤ (keyOf t j : ℕ) / 64 + 8) := by
    unfold InBand keyOf
    dsimp only
    omega
  by_cases hb : InBand (⟨(t : ℕ) % 128, by omega⟩ : Fin 128) j
  · rw [if_pos (hband.1 hb)]
    refine congrArg₂ (· + ·) (congrArg (· * _) (Finset.sum_congr rfl fun d _ => ?_)) ?_
    · rw [hlow _ _ _ (by dsimp only; omega) (by dsimp only; omega)]
      rfl
    · refine (if_pos hb).trans ?_
      refine (hg h ⟨((j : ℕ) + 768 - (t : ℕ) % 128) % 768, by omega⟩).trans (congrArg rb (congrArg (ix2 h) ?_))
      refine Fin.ext ?_
      have hb' := hband.1 hb
      unfold rel
      unfold keyOf at hb' ⊢
      dsimp only at hb' ⊢
      split_ifs <;> simp <;> omega
  · rw [if_neg (fun hx => hb (hband.2 hx))]
    refine (congrArg (_ + ·) (if_neg hb)).trans ?_
    exact EReal.add_bot _

include hq hk hrb hlow hhigh hg in
/-- The kernel's attention of a row is the reference's. -/
theorem attnRow_eq (b : Fin 4) (t e : Fin 2048) : attnRow q kv (biasTable g) b t e
    = attendEach (denseScore q k rb b ⟨(e : ℕ) / 64, by omega⟩ t) (fun s => v (ix3 b s e)) := by
  rw [← attend_eq_each _ _ (fun s => ?_) t (denseScore_self q k rb hq hk hrb b _ t).ne_bot]
  · unfold attnRow
    refine attend_window (fun j : Fin 640 => 512 ≤ 128 * ((t : ℕ) / 128) + j) (keyOf t) ?_ _ _ _ _ ?_ ?_ ?_ ?_
    · intro i j hi hj h
      have := congrArg Fin.val h
      unfold keyOf at this
      dsimp only at this
      exact Fin.ext (by omega)
    · intro j hj
      exact windowScore_eq q k rb kv g hlow hg b _ t j hj
    · intro j hj
      exact if_neg hj
    · intro s hs
      refine if_neg fun hband => ?_
      refine hs ⟨(s : ℕ) + 512 - 128 * ((t : ℕ) / 128), by omega⟩ (by dsimp only; omega) (Fin.ext ?_)
      unfold keyOf
      dsimp only
      omega
    · intro j hj
      rw [hhigh _ _ _ (by dsimp only; omega)]
      rfl
  · rcases denseScore_real q k rb hq hk hrb b ⟨(e : ℕ) / 64, by omega⟩ t s with h | h
    · exact h.ne_top
    · rw [h]; exact bot_ne_top

end

variable (m : (ℓ : Loc nD τ sig) → Buf (Elt Ideal) ℓ) (ρ : Dev nD → PrngReg) (c : Dev nD)

/-- The program's result array is the reference's result of the same arguments. -/
theorem attn_value (hq : ∀ i : S4x2048x2048.Idx, Real' (m ((c : Thread nD τ).loc main_arg0) i))
    (hk : ∀ i : S4x2048x2048.Idx, Real' (m ((c : Thread nD τ).loc main_arg1) i))
    (hrb : ∀ i : S32x513.Idx, Real' (m ((c : Thread nD τ).loc main_arg3) i)) :
    (dat1 (V4 m ρ) c).arrAt 4 cfg1.N
      = Cert.ReferenceIdeal.Read.val_main_v54 (F := Ideal) (m ((c : Thread nD τ).loc main_arg0)) (m ((c : Thread nD τ).loc main_arg1))
          (m ((c : Thread nD τ).loc main_arg2)) (m ((c : Thread nD τ).loc main_arg3)) := by
  rw [attn_array]
  funext y
  obtain ⟨b, t, e, rfl⟩ : ∃ (b : Fin 4) (t : Fin 2048) (e : Fin 2048), y = ix3 b t e := ⟨y 0, y 1, y 2, by funext a; fin_cases a <;> rfl⟩
  refine Eq.trans ?_ (out_read _ _ _ _ b t e).symm
  show attnRow (W4 m ρ c main_arg0) (W4 m ρ c main_v1) (W4 m ρ c main_v9) b t e = _
  rw [q_at, tab_at]
  exact attnRow_eq _ _ _ _ hq hk hrb _ _ (kv_low m ρ c) (kv_high m ρ c) (g_at m ρ c) b t e

end Cert.Attn
-- ==== Proof.Launched.lean ====
module

public import proofs.«01_k».proof.Proof.Gen.KernelIdeal.Frame

/-!
# The run of the attention program

The program from launch to exit, with what its result array holds at the end.
-/

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, with the arguments unchanged and the result
array at the contents that the two calls leave in it. -/
theorem run_attn : θ_run defs (onTc (τ := τ) (main (F := F))) ⟨m, fun _ => 0, ρ⟩ (fun r => ∀ c : Dev nD,
      r.2.mem ((c.tc : Thread nD τ).loc main_v10) = (dat1 (V4 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v10 (by decide))).trans (W5_arr m ρ c 4),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c)⟩)

end Cert.Attn
-- ==== Proof.Claims.lean ====
module

public import proofs.«01_k».proof.Defs
public import proofs.«01_k».proof.Proof.Gen.Kernel
public import proofs.«01_k».proof.Proof.Gen.Kernel.Frame
public import proofs.«01_k».proof.Proof.Gen.Pre_finite
public import proofs.«01_k».proof.Proof.Equation
public import proofs.«01_k».proof.Proof.Launched
public import Idealize.ShloMosaic.Lib.Claim

/-!
# The claims about the attention
-/

@[expose] public section

noncomputable section

namespace Cert.Proof.AttnClaims

open Idealize.ShloMosaic Idealize.SL.Sem Idealize.ShloMosaic.Tactic

/-- The kernel runs, leaves its arguments unchanged and every counter at zero. -/
theorem frame_p : Cert.quiescent_Kernel := fun m ρ _ => Cert.Kernel.Gen.frame m ρ

/-- So does the ideal kernel. -/
theorem frame_pi : Cert.quiescent_KernelIdeal := fun m ρ _ => Cert.KernelIdeal.Gen.frame m ρ

/-- So does the ideal reference. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The masking constant is named `⊥`. -/
theorem preserves : Cert.preserves_Kernel_KernelIdeal :=
  IdealRules.named_const.statement Cert.KernelIdeal.κ "mask" .f32 0xF149F2CA#32 ⊥ rfl

/-- The infinity that the precondition compares with. -/
theorem inf_word : (FloatOps.ofBits (F := Ideal) .f32 0x7F800000#32 : EReal) = ⊤ := by
  show Ideal.ofBits .f32 0x7F800000#32 = ⊤
  simp [Ideal.ofBits, Ideal.ieee]

/-- An element whose absolute value is below the infinity is a real number. -/
theorem real_of_lt (x : EReal) (h : FloatOps.cmpf (F := Ideal) (φ := .f32) .olt (max x (-x)) (FloatOps.ofBits (F := Ideal) .f32 0x7F800000#32) = 1#1) :
    Cert.Attn.Real' x := by
  rw [inf_word] at h
  have h' : max x (-x) < ⊤ := by
    by_contra hn
    have hc : BitVec.ofBool (decide (max x (-x) < ⊤)) = 1#1 := h
    rw [decide_eq_false hn] at hc
    exact absurd hc (by decide)
  obtain ⟨h1, h2⟩ := max_lt_iff.1 h'
  refine ⟨x.toReal, (EReal.coe_toReal h1.ne ?_).symm⟩
  rintro rfl
  simp at h2

/-- What the precondition says of the queries, the keys and the relative bias. -/
theorem real_of_pre (m : (ℓ : Loc Cert.KernelIdeal.nD Cert.KernelIdeal.τ Cert.KernelIdeal.sig) → Buf (Elt Ideal) ℓ)
    (h : Cert.Pre_KernelIdeal_finite m) (c : Dev Cert.KernelIdeal.nD) :
    (∀ i : Cert.KernelIdeal.S4x2048x2048.Idx, Cert.Attn.Real' (m (c.tc.loc Cert.KernelIdeal.main_arg0) i))
    ∧ (∀ i : Cert.KernelIdeal.S4x2048x2048.Idx, Cert.Attn.Real' (m (c.tc.loc Cert.KernelIdeal.main_arg1) i))
    ∧ (∀ i : Cert.KernelIdeal.S32x513.Idx, Cert.Attn.Real' (m (c.tc.loc Cert.KernelIdeal.main_arg3) i)) := by
  obtain ⟨h0, h1, h3⟩ := h c
  refine ⟨fun i => ?_, fun i => ?_, fun i => ?_⟩
  · exact real_of_lt _ (congrFun h0 i)
  · exact real_of_lt _ (congrFun h1 i)
  · exact real_of_lt _ (congrFun h3 i)

/-- Of arguments that agree the ideal kernel and the ideal reference compute the same array. -/
theorem algebraic : Cert.algebraic_KernelIdeal_ReferenceIdeal_pre_finite := by
  pair_intro
  · run_from Cert.Attn.run_attn m g
  · run_from Cert.ReferenceIdeal.Value.run m' g'
    obtain ⟨hq, hk, hrb⟩ := real_of_pre m hpre c
    obtain ⟨h0, h1, h2, h3⟩ := hagree c
    rw [Cert.ReferenceIdeal.Read.val_main_v54_eq, h0, h1, h2, h3]
    exact (Cert.Attn.attn_value m g c hq hk hrb).symm

end Cert.Proof.AttnClaims

end
-- ==== Proof.Layer.lean ====
module

public import Idealize.ShloMosaic.Lib.Pointwise

/-!
# The parts of the layer, on rows

The normalization of a row and its modulation, on functions of a lane.
-/

@[expose] public section

noncomputable section

namespace Cert.Layer

open Idealize.ShloMosaic

/-- A row divided by the root of its mean square (and a small number), each lane times a gain. -/
def rms (x g : Fin 2048 → EReal) (d : Fin 2048) : EReal :=
  x d * Ideal.rsqrt (Ideal.div (∑ j, x j * x j) (Ideal.ofBits .f32 0x45000000#32) + Ideal.ofBits .f32 0x358637BD#32) * g d

/-- A normalized row, scaled and shifted lane by lane. -/
def modulated (x g sh sc : Fin 2048 → EReal) (d : Fin 2048) : EReal :=
  rms x g d * (1 + sc d) + sh d

/-- Equal rows, gains, shifts and scales give equal rows. -/
theorem modulated_congr {x x' g g' sh sh' sc sc' : Fin 2048 → EReal} (h0 : ∀ d, x d = x' d) (h1 : ∀ d, g d = g' d)
    (h2 : ∀ d, sh d = sh' d) (h3 : ∀ d, sc d = sc' d) (d : Fin 2048) : modulated x g sh sc d = modulated x' g' sh' sc' d := by
  rw [funext h0, funext h1, funext h2, funext h3]

/-- The square of the positive part. -/
def relu2 (y : EReal) : EReal := max y 0 * max y 0

/-- The residual stream plus a gated update. -/
def gated (x g y : EReal) : EReal := x + g * y

end Cert.Layer
-- ==== Proof.Up.lean ====
module

public import proofs.«01_k».proof.Proof.Gen.Kernel2Ideal.Frame
public import proofs.«01_k».proof.Proof.Layer
public import Idealize.ShloMosaic.Lib.StableHlo.ReadAt
public import Idealize.ShloMosaic.Lib.Pipeline.ValueKit

/-!
# The up projection

What the normalization and the up projection leave in their arrays.
-/

@[expose] public section

set_option maxRecDepth 16384

noncomputable section

namespace Cert.Up

open Cert.Kernel2Ideal Cert.Kernel2Ideal.Gen Cert.Layer
open Idealize.ShloMosaic Idealize.ShloMosaic.TcCoe Idealize.ShloMosaic.Tactic
open Idealize.ShloMosaic.Pipeline (Dat)

/-- What a point of the normalization leaves at a row and a lane. -/
theorem out0_apply (x : Vec Ideal S1024x2048 .f32) (g : Vec Ideal S1x2048 .f32) (sh sc : Vec Ideal S1x1x2048 .f32)
    (r : Fin 1024) (d : Fin 2048) : out0_4 x g sh sc (ix2 r d)
      = modulated (fun d => x (ix2 r d)) (fun d => g (ix2 0 d)) (fun d => sh (ix3 0 0 d)) (fun d => sc (ix3 0 0 d)) d := by
  unfold out0_4 r0_0 r0_1 r0_2
  rw [View.canon_cons_unit_lit (h := by decide), View.ld_unit_lit (h := by decide), View.ld_unit_lit (h := by decide),
    View.ld_unit_lit (h := by decide), View.ld_unit_lit (h := by decide)]
  pointwise [k0_pay1]
  rfl

/-- What a point of the up projection stores at a row and a lane. -/
theorem pay_apply (w : Vec Ideal S1x2048x2048 .bf16) (h : Vec Ideal S1024x2048 .bf16) (r : Fin 1024) (j : Fin 2048) :
    k1_pay1 w h (ix2 r j) = relu2 (∑ k : Fin 2048, h (ix2 r k) * w (ix3 0 k j)) := by
  pointwise [k1_pay1]
  rfl

/-- What a point of the up projection leaves at a row and a lane. -/
theorem out1_apply (c i arg3 harg3 arg4 harg4 arg5 harg5 arg6 harg6) (h : Vec Ideal S1024x2048 .bf16)
    (w : Vec Ideal S1x2048x2048 .bf16) (r : Fin 1024) (j : Fin 2048) :
    out1_A_2 (F := Ideal) c i arg3 harg3 arg4 harg4 arg5 harg5 arg6 harg6 h w (ix2 r j)
      = relu2 (∑ k : Fin 2048, h (ix2 r k) * w (ix3 0 k j)) := by
  unfold out1_A_2 kernelRun1_A
  frame_out
  exact pay_apply w h r j

/-- The block of rows of a point of the normalization. -/
def nr (t : Fin cfg0.N) : Fin 8 := grid0.coords t 0

/-- The block of rows of a point of the up projection. -/
def ur (t : Fin cfg1.N) : Fin 8 := grid1.coords t 0

/-- The block of lanes of a point of the up projection. -/
def ul (t : Fin cfg1.N) : Fin 4 := grid1.coords t 1

/-- The blocks of the normalization at each point. -/
theorem idx0 : ∀ t : Fin cfg0.N, win0_0.index t = ![(nr t : ℕ), 0] ∧ win0_1.index t = ![0, 0]
    ∧ win0_2.index t = ![(nr t : ℕ) / 2, 0, 0] ∧ win0_3.index t = ![(nr t : ℕ) / 2, 0, 0] ∧ win0_4.index t = ![(nr t : ℕ), 0] :=
  (by decide +kernel : ∀ t : Fin grid0.N, _)

/-- The blocks of the up projection at each point. -/
theorem idx1 : ∀ t : Fin cfg1.N, win1_0.index t = ![(ur t : ℕ), 0] ∧ win1_1.index t = ![1, 0, (ul t : ℕ)]
    ∧ win1_2.index t = ![(ur t : ℕ), (ul t : ℕ)] :=
  (by decide +kernel : ∀ t : Fin grid1.N, _)

section
variable (V : (c : Dev nD) → (b : Ref sig .tc) → Buf (Elt Ideal) ((c : Thread nD τ).loc b)) (c : Dev nD)

/-- A point's rows of the stream. -/
theorem blk0_0 (t : Fin cfg0.N) (r : Fin 1024) (d : Fin 2048) :
    iblk0 V c 0 t (ix2 r d) = V c main_v0 (ix2 ⟨1024 * nr t + r, by omega⟩ d) := by
  blk_ext [iblk0, (idx0 t).1]

/-- The gains. -/
theorem blk0_1 (t : Fin cfg0.N) (d : Fin 2048) : iblk0 V c 1 t (ix2 0 d) = V c main_v3 (ix2 0 d) := by
  blk_ext [iblk0, (idx0 t).2.1]

/-- The shifts of a point's sequence. -/
theorem blk0_2 (t : Fin cfg0.N) (d : Fin 2048) :
    iblk0 V c 2 t (ix3 0 0 d) = V c main_v1 (ix3 ⟨(nr t : ℕ) / 2, by omega⟩ 0 d) := by
  blk_ext [iblk0, (idx0 t).2.2.1]

/-- The scales of a point's sequence. -/
theorem blk0_3 (t : Fin cfg0.N) (d : Fin 2048) :
    iblk0 V c 3 t (ix3 0 0 d) = V c main_v2 (ix3 ⟨(nr t : ℕ) / 2, by omega⟩ 0 d) := by
  blk_ext [iblk0, (idx0 t).2.2.2.1]

/-- Where a point of the normalization writes. -/
theorem emb0_4 (t : Fin cfg0.N) (r : Fin 1024) (d : Fin 2048) :
    (win0_4.blk t).view.emb (ix2 r d) = (ix2 ⟨1024 * nr t + r, by omega⟩ d : S8192x2048.Idx) := by
  blk_ext [(idx0 t).2.2.2.2]

/-- The normalized and modulated stream, from the arrays of the program: row `R` at lane `d`. -/
def normRow (x : Vec Ideal S8192x2048 .f32) (g : Vec Ideal S1x2048 .f32) (sh sc : Vec Ideal S4x1x2048 .f32)
    (R : Fin 8192) (d : Fin 2048) : EReal :=
  modulated (fun d => x (ix2 R d)) (fun d => g (ix2 0 d)) (fun d => sh (ix3 ⟨(R : ℕ) / 2048, by omega⟩ 0 d))
    (fun d => sc (ix3 ⟨(R : ℕ) / 2048, by omega⟩ 0 d)) d

/-- After the normalization its result array holds every row normalized and modulated. -/
theorem norm_array : (dat0 V c).arrAt 4 cfg0.N
    = fun y : S8192x2048.Idx => normRow (V c main_v0) (V c main_v3) (V c main_v1) (V c main_v2) (y 0) (y 1) := by
  refine (dat0 V c).arrAt_eq_of_covers 4 _ (by decide +kernel) fun t hf y => ?_
  blk_simp
  rw [after0_4]
  obtain ⟨r, d, rfl⟩ : ∃ (r : Fin 1024) (d : Fin 2048), y = ix2 r d := ⟨y 0, y 1, by funext a; fin_cases a <;> rfl⟩
  rw [emb0_4]
  refine (out0_apply _ _ _ _ r d).trans ?_
  have e : ∀ n, (⟨(1024 * (nr t : ℕ) + r) / 2048, n⟩ : Fin 4) = ⟨(nr t : ℕ) / 2, by omega⟩ := fun n => Fin.ext (by dsimp only; omega)
  show _ = normRow _ _ _ _ ⟨1024 * nr t + r, _⟩ d
  unfold normRow
  simp only [blk0_0, blk0_1, blk0_2, blk0_3, e]

/-- A point's rows of the normalized stream. -/
theorem blk1_0 (t : Fin cfg1.N) (r : Fin 1024) (d : Fin 2048) :
    iblk1 V c 0 t (ix2 r d) = V c main_v4 (ix2 ⟨1024 * ur t + r, by omega⟩ d) := by
  blk_ext [iblk1, (idx1 t).1]

/-- A point's lanes of the weights of the second block. -/
theorem blk1_1 (t : Fin cfg1.N) (k : Fin 2048) (j : Fin 2048) :
    iblk1 V c 1 t (ix3 0 k j) = V c main_v5 (ix3 1 k ⟨2048 * ul t + j, by omega⟩) := by
  blk_ext [iblk1, (idx1 t).2.1]

/-- Where a point of the up projection writes. -/
theorem emb1_2 (t : Fin cfg1.N) (r : Fin 1024) (j : Fin 2048) :
    (win1_2.blk t).view.emb (ix2 r j) = (ix2 ⟨1024 * ur t + r, by omega⟩ ⟨2048 * ul t + j, by omega⟩ : S8192x8192.Idx) := by
  blk_ext [(idx1 t).2.2]

/-- The up projection's result at row `R` and lane `j`. -/
def upRow (h : Vec Ideal S8192x2048 .bf16) (w : Vec Ideal S2x2048x8192 .bf16) (R : Fin 8192) (j : Fin 8192) : EReal :=
  relu2 (∑ k : Fin 2048, h (ix2 R k) * w (ix3 1 k j))

/-- After the up projection its result array holds every row's. -/
theorem up_array : (dat1 V c).arrAt 2 cfg1.N
    = fun y : S8192x8192.Idx => upRow (V c main_v4) (V c main_v5) (y 0) (y 1) := by
  refine (dat1 V c).arrAt_eq_of_covers 2 _ (by decide +kernel) fun t hf y => ?_
  blk_simp
  rw [after1_2]
  unfold outsAt1
  obtain ⟨r, j, rfl⟩ : ∃ (r : Fin 1024) (j : Fin 2048), y = ix2 r j := ⟨y 0, y 1, by funext a; fin_cases a <;> rfl⟩
  rw [emb1_2]
  refine (out1_apply _ _ _ _ _ _ _ _ _ _ _ _ r j).trans ?_
  show _ = upRow _ _ ⟨1024 * ur t + r, _⟩ ⟨2048 * ul t + j, _⟩
  unfold upRow
  simp only [blk1_0, blk1_1]

end

variable (m : (ℓ : Loc nD τ sig) → Buf (Elt Ideal) ℓ) (ρ : Dev nD → PrngReg) (c : Dev nD)

/-- The rows of the stream: sequence after sequence. -/
theorem x_at (R : Fin 8192) (d : Fin 2048) : (W1 m ρ c main_v0 : Vec Ideal S8192x2048 .f32) (ix2 R d)
    = (m ((c : Thread nD τ).loc main_arg0) : Vec Ideal S4x2048x2048 .f32) (ix3 ⟨(R : ℕ) / 2048, by omega⟩ ⟨(R : ℕ) % 2048, by omega⟩ d) := by
  unfold W1 W0
  after_reads_at

/-- The gains as launched. -/
theorem g_at (d : Fin 2048) : (W1 m ρ c main_v3 : Vec Ideal S1x2048 .f32) (ix2 0 d)
    = (m ((c : Thread nD τ).loc main_arg1) : Vec Ideal S2048 .f32) (ix1 d) := by
  unfold W1 W0
  after_reads_at

/-- The shifts as launched. -/
theorem sh_at (b : Fin 4) (d : Fin 2048) : (W1 m ρ c main_v1 : Vec Ideal S4x1x2048 .f32) (ix3 b 0 d)
    = (m ((c : Thread nD τ).loc main_arg2) : Vec Ideal S4x2048 .f32) (ix2 b d) := by
  unfold W1 W0
  after_reads_at

/-- The scales as launched. -/
theorem sc_at (b : Fin 4) (d : Fin 2048) : (W1 m ρ c main_v2 : Vec Ideal S4x1x2048 .f32) (ix3 b 0 d)
    = (m ((c : Thread nD τ).loc main_arg3) : Vec Ideal S4x2048 .f32) (ix2 b d) := by
  unfold W1 W0
  after_reads_at

/-- The up projection reads what the normalization left. -/
theorem h_at (R : Fin 8192) (d : Fin 2048) : (W3 m ρ c main_v4 : Vec Ideal S8192x2048 .bf16) (ix2 R d)
    = normRow (W1 m ρ c main_v0) (W1 m ρ c main_v3) (W1 m ρ c main_v1) (W1 m ρ c main_v2) R d :=
  congrFun ((W3_of m ρ c main_v4 (by decide)).trans ((W2_arr m ρ c 4).trans (norm_array (V1 m ρ) c))) (ix2 R d)

/-- The weights of the second block. -/
theorem w_at (k : Fin 2048) (j : Fin 8192) : (W3 m ρ c main_v5 : Vec Ideal S2x2048x8192 .bf16) (ix3 1 k j)
    = (m ((c : Thread nD τ).loc main_arg4) : Vec Ideal S2x2048x8192 .f32) (ix3 1 k j) := by
  unfold W3
  after_reads_at
  rw [W2_args m ρ c main_arg4 (by decide)]

/-- The result of the program at row `R` and lane `j`, from its arguments. -/
def upOut (x : Vec Ideal S4x2048x2048 .f32) (g : Vec Ideal S2048 .f32) (sh sc : Vec Ideal S4x2048 .f32)
    (w : Vec Ideal S2x2048x8192 .f32) (R : Fin 8192) (j : Fin 8192) : EReal :=
  relu2 (∑ k : Fin 2048, modulated (fun d => x (ix3 ⟨(R : ℕ) / 2048, by omega⟩ ⟨(R : ℕ) % 2048, by omega⟩ d)) (fun d => g (ix1 d))
    (fun d => sh (ix2 ⟨(R : ℕ) / 2048, by omega⟩ d)) (fun d => sc (ix2 ⟨(R : ℕ) / 2048, by omega⟩ d)) k * w (ix3 1 k j))

/-- The up projection's row, from the arguments. -/
theorem upRow_eq (R j : Fin 8192) : upRow (W3 m ρ c main_v4) (W3 m ρ c main_v5) R j
    = upOut (m ((c : Thread nD τ).loc main_arg0)) (m ((c : Thread nD τ).loc main_arg1)) (m ((c : Thread nD τ).loc main_arg2))
      (m ((c : Thread nD τ).loc main_arg3)) (m ((c : Thread nD τ).loc main_arg4)) R j := by
  unfold upRow upOut
  refine congrArg relu2 (Finset.sum_congr rfl fun k _ => ?_)
  rw [h_at, w_at]
  exact congrArg (· * _) (modulated_congr (x_at m ρ c R) (g_at m ρ c) (sh_at m ρ c _) (sc_at m ρ c _) k)

/-- What the program leaves in its result array. -/
theorem result : (dat1 (V3 m ρ) c).arrAt 2 cfg1.N = fun y : S8192x8192.Idx =>
    upOut (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) :=
  (up_array (V3 m ρ) c).trans (funext fun y => upRow_eq m ρ c (y 0) (y 1))

end Cert.Up
-- ==== Proof.UpRef.lean ====
module

public import proofs.«01_k».proof.Proof.Gen.Reference2Ideal.Read
public import proofs.«01_k».proof.Proof.Layer

/-!
# The reference of the up projection, at an index
-/

@[expose] public section

set_option maxRecDepth 16384

noncomputable section

namespace Cert.Up

open Cert.Reference2Ideal Cert.Reference2Ideal.Read Cert.Layer
open Idealize.ShloMosaic Idealize.ShloMosaic.TcCoe Idealize.ShloMosaic.Tactic

variable (x0 : Vec Ideal S4x2048x2048 .f32) (x1 : Vec Ideal S2048 .f32) (x2 x3 : Vec Ideal S4x2048 .f32)
  (x4 : Vec Ideal S2x2048x8192 .f32)

/-- The reference's normalized and modulated stream. -/
theorem ref_norm (b : Fin 4) (t d : Fin 2048) : val_main_v20 x0 x1 x2 x3 (ix3 b t d)
    = modulated (fun d => x0 (ix3 b t d)) (fun d => x1 (ix1 d)) (fun d => x2 (ix2 b d)) (fun d => x3 (ix2 b d)) d := by
  pointwise [val_main_v20, val_main_v19, val_main_v18, val_main_v17, val_main_v16, val_main_v15, val_main_v14, val_main_cst_2,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0, id]
  rfl

/-- The reference's result. -/
theorem ref_out (R j : Fin 8192) : val_main_v27 x0 x1 x2 x3 x4 (ix2 R j)
    = relu2 (∑ k : Fin 2048, val_main_v20 x0 x1 x2 x3 (ix3 ⟨(R : ℕ) / 2048, by omega⟩ ⟨(R : ℕ) % 2048, by omega⟩ k) * x4 (ix3 1 k j)) := by
  unfold val_main_v27 val_main_v26 val_main_v25 val_main_v24 val_main_v23
  generalize val_main_v20 (F := Ideal) x0 x1 x2 x3 = y
  pointwise [val_main_v22, val_main_v21, val_main_call0_v0, val_main_call0_cst, id]
  rfl

end Cert.Up
-- ==== Proof.UpLaunched.lean ====
module

public import proofs.«01_k».proof.Proof.Gen.Kernel2Ideal.Frame

/-!
# The run of the up projection program

The program from launch to exit, with what its result array holds at the end.
-/

@[expose] public section

set_option maxRecDepth 16384

noncomputable section

namespace Cert.Up

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, with the arguments unchanged and the result
array at the contents that the two calls leave in it. -/
theorem run_up : θ_run defs (onTc (τ := τ) (main (F := F))) ⟨m, fun _ => 0, ρ⟩ (fun r => ∀ c : Dev nD,
      r.2.mem ((c.tc : Thread nD τ).loc main_v6) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v6 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Up
-- ==== Proof.UpClaims.lean ====
module

public import proofs.«01_k».proof.Defs
public import proofs.«01_k».proof.Proof.Gen.Kernel2
public import proofs.«01_k».proof.Proof.Gen.Kernel2.Frame
public import proofs.«01_k».proof.Proof.Up
public import proofs.«01_k».proof.Proof.UpRef
public import proofs.«01_k».proof.Proof.UpLaunched
public import Idealize.ShloMosaic.Lib.Claim

/-!
# The claims about the up projection
-/

@[expose] public section

set_option maxRecDepth 16384

noncomputable section

namespace Cert.Proof.UpClaims

open Idealize.ShloMosaic Idealize.SL.Sem Idealize.ShloMosaic.Tactic

/-- The kernel runs, leaves its arguments unchanged and every counter at zero. -/
theorem frame_p : Cert.quiescent_Kernel2 := fun m ρ _ => Cert.Kernel2.Gen.frame m ρ

/-- So does the ideal kernel. -/
theorem frame_pi : Cert.quiescent_Kernel2Ideal := fun m ρ _ => Cert.Kernel2Ideal.Gen.frame m ρ

/-- So does the ideal reference. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- No constant is named and no operation is rewritten. -/
theorem preserves : Cert.preserves_Kernel2_Kernel2Ideal := trivial

/-- Of arguments that agree the ideal kernel and the ideal reference compute the same array. -/
theorem algebraic : Cert.algebraic_Kernel2Ideal_Reference2Ideal := by
  pair_intro
  · run_from Cert.Up.run_up m g
  · run_from Cert.Reference2Ideal.Value.run m' g'
    rw [Cert.Reference2Ideal.Read.val_main_v27_eq]
    refine Eq.trans (funext fun y => ?_) (Cert.Up.result m g c).symm
    obtain ⟨R, j, rfl⟩ : ∃ (R : Fin 8192) (j : Fin 8192), y = ix2 R j := ⟨y 0, y 1, by funext i; fin_cases i <;> rfl⟩
    refine (Cert.Up.ref_out _ _ _ _ _ R j).trans (congrArg Cert.Layer.relu2 (Finset.sum_congr rfl fun k _ => ?_))
    exact congrArg (· * _) (Cert.Up.ref_norm _ _ _ _ _ _ k)

end Cert.Proof.UpClaims

end
-- ==== Proof.Down.lean ====
module

public import proofs.«01_k».proof.Proof.Gen.Kernel3Ideal.Value
public import proofs.«01_k».proof.Proof.Layer
public import Idealize.ShloMosaic.Lib.StableHlo.ReadAt
public import Idealize.ShloMosaic.Lib.Pipeline.ValueKit

/-!
# The down projection

What the down projection, its sum cut into four blocks and accumulated, leaves in its array.
-/

@[expose] public section

set_option maxRecDepth 16384

noncomputable section

namespace Cert.Down

open Cert.Kernel3Ideal Cert.Kernel3Ideal.Gen Cert.Layer
open Idealize.ShloMosaic Idealize.ShloMosaic.TcCoe Idealize.ShloMosaic.Tactic
open Idealize.ShloMosaic.Pipeline (Dat)

/-- A point's partial product at a row and a lane. -/
theorem pay1_apply (w : Vec Ideal S1x2048x1024 .bf16) (h : Vec Ideal S1024x2048 .bf16) (r j : Fin 1024) :
    k0_pay1 w h (ix2 r j) = ∑ k : Fin 2048, h (ix2 r k) * w (ix3 0 k j) := by
  pointwise [k0_pay1]

section
variable (c : Dev nD) (i : grid0.Coords) (arg3 : Memref sig .tc .vmem S1024x2048 .bf16) (harg3 : arg3.IsWhole) (arg4 : Memref sig .tc .vmem S1x2048x1024 .bf16) (harg4 : arg4.IsWhole) (arg5 : Memref sig .tc .vmem S1024x1024 .f32) (harg5 : arg5.IsWhole) (arg6 : Memref sig .tc .vmem S1x1x1024 .f32) (harg6 : arg6.IsWhole) (arg7 : Memref sig .tc .vmem S1024x1024 .f32) (harg7 : arg7.IsWhole) (arg8 : Memref sig .tc .vmem S1024x1024 .f32) (harg8 : arg8.IsWhole)
  (x0 : Vec Ideal S1024x2048 .bf16) (x1 : Vec Ideal S1x2048x1024 .bf16) (x2 : Vec Ideal S1024x1024 .f32) (x3 : Vec Ideal S1x1x1024 .f32) (s : Vec Ideal S1024x1024 .f32)

/-- The first point of a block starts its sum. -/
theorem first_apply (hc0 hc1 hc2) (r j : Fin 1024) :
    sout0_A_0 (F := Ideal) c i arg3 harg3 arg4 harg4 arg5 harg5 arg6 harg6 arg7 harg7 arg8 harg8 hc0 hc1 hc2 x0 x1 x2 x3 (ix2 r j)
      = k0_pay1 x1 x0 (ix2 r j) := by
  unfold sout0_A_0 kernelRun0_A
  frame_out
  unfold k0_pay2
  generalize k0_pay1 (F := Ideal) x1 x0 = y
  pointwise

/-- The points between add to it. -/
theorem middle_apply (hc0 hc1 hc2) (r j : Fin 1024) :
    sout0_B_0 (F := Ideal) c i arg3 harg3 arg4 harg4 arg5 harg5 arg6 harg6 arg7 harg7 arg8 harg8 hc0 hc1 hc2 x0 x1 x2 x3 s (ix2 r j)
      = s (ix2 r j) + k0_pay1 x1 x0 (ix2 r j) := by
  unfold sout0_B_0 kernelRun0_B
  frame_out
  unfold k0_pay3
  generalize k0_pay1 (F := Ideal) x1 x0 = y
  pointwise

/-- The last point adds to it and writes the gated sum over the residual stream. -/
theorem last_apply (hc0 hc1 hc2) (r j : Fin 1024) :
    out0_C_4 (F := Ideal) c i arg3 harg3 arg4 harg4 arg5 harg5 arg6 harg6 arg7 harg7 arg8 harg8 hc0 hc1 hc2 x0 x1 x2 x3 s (ix2 r j)
      = gated (x2 (ix2 r j)) (x3 (ix3 0 0 j)) (s (ix2 r j) + k0_pay1 x1 x0 (ix2 r j)) := by
  unfold gated
  unfold out0_C_4 kernelRun0_C
  frame_out
  unfold k0_pay4
  generalize k0_pay1 (F := Ideal) x1 x0 = y
  pointwise

end

/-- The block of rows, of lanes and of terms of a point. -/
def dr (t : Fin cfg0.N) : Fin 8 := ⟨(t : ℕ) / 8, by have := lt_of_lt_of_eq t.isLt (show cfg0.N = 64 from N_0); omega⟩
def dl (t : Fin cfg0.N) : Fin 2 := ⟨(t : ℕ) / 4 % 2, by omega⟩
def dk (t : Fin cfg0.N) : Fin 4 := ⟨(t : ℕ) % 4, by omega⟩

/-- The blocks of the down projection at each point. -/
theorem idx0 : ∀ t : Fin cfg0.N, win0_0.index t = ![(dr t : ℕ), (dk t : ℕ)] ∧ win0_1.index t = ![1, (dk t : ℕ), (dl t : ℕ)]
    ∧ win0_2.index t = ![(dr t : ℕ), (dl t : ℕ)] ∧ win0_3.index t = ![(dr t : ℕ) / 2, 0, (dl t : ℕ)]
    ∧ win0_4.index t = ![(dr t : ℕ), (dl t : ℕ)] :=
  (by decide +kernel : ∀ t : Fin grid0.N, _)

variable (m : (ℓ : Loc nD τ sig) → Buf (Elt Ideal) ℓ) (c : Dev nD)

/-- A point's block of the hidden rows. -/
theorem blk0_0 (t : Fin cfg0.N) (r : Fin 1024) (k : Fin 2048) :
    iblk m c 0 t (ix2 r k) = V m c main_arg0 (ix2 ⟨1024 * dr t + r, by omega⟩ ⟨2048 * dk t + k, by omega⟩) := by
  blk_ext [iblk, (idx0 t).1]

/-- A point's block of the weights. -/
theorem blk0_1 (t : Fin cfg0.N) (k : Fin 2048) (j : Fin 1024) :
    iblk m c 1 t (ix3 0 k j) = V m c main_v0 (ix3 1 ⟨2048 * dk t + k, by omega⟩ ⟨1024 * dl t + j, by omega⟩) := by
  blk_ext [iblk, (idx0 t).2.1]

/-- A point's block of the residual stream. -/
theorem blk0_2 (t : Fin cfg0.N) (r j : Fin 1024) :
    iblk m c 2 t (ix2 r j) = V m c main_v1 (ix2 ⟨1024 * dr t + r, by omega⟩ ⟨1024 * dl t + j, by omega⟩) := by
  blk_ext [iblk, (idx0 t).2.2.1]

/-- A point's gates. -/
theorem blk0_3 (t : Fin cfg0.N) (j : Fin 1024) :
    iblk m c 3 t (ix3 0 0 j) = V m c main_v2 (ix3 ⟨(dr t : ℕ) / 2, by omega⟩ 0 ⟨1024 * dl t + j, by omega⟩) := by
  blk_ext [iblk, (idx0 t).2.2.2.1]

/-- Where a point writes. -/
theorem emb0_4 (t : Fin cfg0.N) (r j : Fin 1024) :
    (win0_4.blk t).view.emb (ix2 r j) = (ix2 ⟨1024 * dr t + r, by omega⟩ ⟨1024 * dl t + j, by omega⟩ : S8192x2048.Idx) := by
  blk_ext [(idx0 t).2.2.2.2]

/-- A term of the product of row `R` of the hidden rows with lane `j` of the weights of the second block. -/
def term (h : Vec Ideal S8192x8192 .bf16) (w : Vec Ideal S2x8192x2048 .bf16) (R : Fin 8192) (j : Fin 2048) (K : Fin 8192) : EReal :=
  h (ix2 R K) * w (ix3 1 K j)

/-- The part of the product that block `q` of the terms makes. -/
def part (f : Fin 8192 → EReal) (q : Fin 4) : EReal := ∑ k : Fin 2048, f ⟨2048 * q + k, by omega⟩

/-- The four parts together are the whole sum. -/
theorem sum_parts (f : Fin 8192 → EReal) : ((part f 0 + part f 1) + part f 2) + part f 3 = ∑ K, f K := by
  rw [Fin.sum_univ_two_halves 4096 4096 rfl, Fin.sum_univ_two_halves 2048 2048 rfl, Fin.sum_univ_two_halves 2048 2048 rfl, ← add_assoc]
  unfold part
  refine congrArg₂ _ (congrArg₂ _ (congrArg₂ _ ?_ ?_) ?_) ?_ <;>
    refine Finset.sum_congr rfl fun k _ => congrArg f (Fin.ext ?_) <;> simp <;> omega

/-- What a point adds. -/
theorem pay1_at (t : Fin cfg0.N) (r j : Fin 1024) (R : Fin 8192) (J : Fin 2048) (hR : (R : ℕ) = 1024 * dr t + r)
    (hJ : (J : ℕ) = 1024 * dl t + j) (q : Fin 4) (hq : dk t = q) :
    k0_pay1 (F := Ideal) (iblk m c 1 t) (iblk m c 0 t) (ix2 r j) = part (term (V m c main_arg0) (V m c main_v0) R J) q := by
  subst hq
  have hr : 1024 * (dr t : ℕ) + r < 8192 := by omega
  have hj : 1024 * (dl t : ℕ) + j < 2048 := by omega
  rw [show R = ⟨1024 * dr t + r, hr⟩ from Fin.ext hR, show J = ⟨1024 * dl t + j, hj⟩ from Fin.ext hJ]
  refine (pay1_apply _ _ r j).trans ?_
  unfold part term
  simp only [blk0_0, blk0_1]

/-- The sum carried after the first point of a block. -/
theorem carry_first (n : ℕ) (hn : n < cfg0.N) (h : n % 4 = 0) (r j : Fin 1024) :
    (outsAt0 m c n hn).2 (ix2 r j) = k0_pay1 (F := Ideal) (iblk m c 1 ⟨n, hn⟩) (iblk m c 0 ⟨n, hn⟩) (ix2 r j) := by
  rw [outsAt0_A m c ⟨n, hn⟩ h (by dsimp only; omega) (by dsimp only; omega)]
  dsimp only
  exact first_apply _ _ _ _ _ _ _ _ _ _ _ _ _ _ _ _ _ _ _ _ _ _ _

/-- The sum carried after a point between. -/
theorem carry_next (n : ℕ) (hn : n + 1 < cfg0.N) (h : 1 ≤ (n + 1) % 4 ∧ (n + 1) % 4 ≤ 2) (r j : Fin 1024) :
    (outsAt0 m c (n + 1) hn).2 (ix2 r j) = (outsAt0 m c n (Nat.lt_of_succ_lt hn)).2 (ix2 r j)
      + k0_pay1 (F := Ideal) (iblk m c 1 ⟨n + 1, hn⟩) (iblk m c 0 ⟨n + 1, hn⟩) (ix2 r j) := by
  rw [outsAt0_B m c ⟨n + 1, hn⟩ (by dsimp only; omega) h (by dsimp only; omega)]
  dsimp only
  exact middle_apply _ _ _ _ _ _ _ _ _ _ _ _ _ _ _ _ _ _ _ _ _ _ _ _

/-- What the last point of a block writes. -/
theorem write_last (n : ℕ) (hn : n + 1 < cfg0.N) (h : (n + 1) % 4 = 3) (r j : Fin 1024) :
    (outsAt0 m c (n + 1) hn).1 (ix2 r j) = gated (iblk m c 2 ⟨n + 1, hn⟩ (ix2 r j)) (iblk m c 3 ⟨n + 1, hn⟩ (ix3 0 0 j))
      ((outsAt0 m c n (Nat.lt_of_succ_lt hn)).2 (ix2 r j)
        + k0_pay1 (F := Ideal) (iblk m c 1 ⟨n + 1, hn⟩) (iblk m c 0 ⟨n + 1, hn⟩) (ix2 r j)) := by
  rw [outsAt0_C m c ⟨n + 1, hn⟩ (by dsimp only; omega) (by dsimp only; omega) h]
  dsimp only
  exact last_apply _ _ _ _ _ _ _ _ _ _ _ _ _ _ _ _ _ _ _ _ _ _ _ _

/-- The residual stream plus the gated product, at row `R` and lane `J`. -/
def downRow (h : Vec Ideal S8192x8192 .bf16) (w : Vec Ideal S2x8192x2048 .bf16) (x : Vec Ideal S8192x2048 .f32)
    (gt : Vec Ideal S4x1x2048 .f32) (R : Fin 8192) (J : Fin 2048) : EReal :=
  gated (x (ix2 R J)) (gt (ix3 ⟨(R : ℕ) / 2048, by omega⟩ 0 J)) (∑ K, term h w R J K)

/-- What the last of the four points from `4 * q` on writes. -/
theorem block_write (q : ℕ) (hn : 4 * q + 3 < cfg0.N) (r j : Fin 1024) :
    (outsAt0 m c (4 * q + 3) hn).1 (ix2 r j) = downRow (V m c main_arg0) (V m c main_v0) (V m c main_v1) (V m c main_v2)
      ⟨1024 * dr ⟨4 * q + 3, hn⟩ + r, by omega⟩ ⟨1024 * dl ⟨4 * q + 3, hn⟩ + j, by omega⟩ := by
  rw [write_last m c (4 * q + 2) hn (by omega), carry_next m c (4 * q + 1) _ (by omega), carry_next m c (4 * q) _ (by omega),
    carry_first m c (4 * q) _ (by omega)]
  have e : ∀ (k : ℕ) (hk : k < 4) (h : 4 * q + k < cfg0.N), k0_pay1 (F := Ideal) (iblk m c 1 ⟨4 * q + k, h⟩) (iblk m c 0 ⟨4 * q + k, h⟩) (ix2 r j)
      = part (term (V m c main_arg0) (V m c main_v0) ⟨1024 * dr ⟨4 * q + 3, hn⟩ + r, by omega⟩ ⟨1024 * dl ⟨4 * q + 3, hn⟩ + j, by omega⟩) ⟨k, hk⟩ :=
    fun k hk h => pay1_at m c _ r j _ _ (by unfold dr; dsimp only; omega) (by unfold dl; dsimp only; omega) _
      (by unfold dk; exact Fin.ext (by dsimp only; omega))
  rw [e 3 (by omega) hn, e 2 (by omega), e 1 (by omega), show k0_pay1 (F := Ideal) (iblk m c 1 ⟨4 * q, _⟩) (iblk m c 0 ⟨4 * q, _⟩) (ix2 r j) = _
    from e 0 (by omega) _]
  unfold downRow
  rw [← sum_parts, blk0_2, blk0_3]
  refine congrArg (gated _ · _) (congrArg _ ?_)
  exact congrArg (fun b => (ix3 b 0 _ : S4x1x2048.Idx)) (Fin.ext (by dsimp only; change (dr ⟨4 * q + 3, hn⟩ : ℕ) / 2 = _; omega))

/-- After the program its result array holds every row's. -/
theorem down_array : (dats m 0 c).arrAt 4 cfg0.N = fun y : S8192x2048.Idx =>
    downRow (V m c main_arg0) (V m c main_v0) (V m c main_v1) (V m c main_v2) (y 0) (y 1) := by
  refine (dats m 0 c).arrAt_eq_of_covers 4 _ (by decide +kernel) fun t hf y => ?_
  have h3 : (t : ℕ) % 4 = 3 := (flush0_4 t).mp hf
  blk_simp
  rw [after0_4]
  obtain ⟨r, j, rfl⟩ : ∃ (r j : Fin 1024), y = ix2 r j := ⟨y 0, y 1, by funext a; fin_cases a <;> rfl⟩
  rw [emb0_4]
  obtain ⟨n, hn⟩ := t
  obtain ⟨q, rfl⟩ : ∃ q, n = 4 * q + 3 := ⟨n / 4, by dsimp only at h3; omega⟩
  exact block_write m c q hn r j

/-- The residual stream's rows: sequence after sequence. -/
theorem x_at (R : Fin 8192) (d : Fin 2048) : (V m c main_v1 : Vec Ideal S8192x2048 .f32) (ix2 R d)
    = (m ((c : Thread nD τ).loc main_arg2) : Vec Ideal S4x2048x2048 .f32) (ix3 ⟨(R : ℕ) / 2048, by omega⟩ ⟨(R : ℕ) % 2048, by omega⟩ d) := by
  unfold V
  after_reads_at

/-- The gates as launched. -/
theorem gt_at (b : Fin 4) (d : Fin 2048) : (V m c main_v2 : Vec Ideal S4x1x2048 .f32) (ix3 b 0 d)
    = (m ((c : Thread nD τ).loc main_arg3) : Vec Ideal S4x2048 .f32) (ix2 b d) := by
  unfold V
  after_reads_at

/-- The weights as launched. -/
theorem w_at (K : Fin 8192) (j : Fin 2048) : (V m c main_v0 : Vec Ideal S2x8192x2048 .bf16) (ix3 1 K j)
    = (m ((c : Thread nD τ).loc main_arg1) : Vec Ideal S2x8192x2048 .f32) (ix3 1 K j) := by
  unfold V
  after_reads_at

/-- The result of the program at row `R` and lane `J`, from its arguments. -/
def downOut (h : Vec Ideal S8192x8192 .bf16) (w : Vec Ideal S2x8192x2048 .f32) (x : Vec Ideal S4x2048x2048 .f32)
    (gt : Vec Ideal S4x2048 .f32) (R : Fin 8192) (J : Fin 2048) : EReal :=
  gated (x (ix3 ⟨(R : ℕ) / 2048, by omega⟩ ⟨(R : ℕ) % 2048, by omega⟩ J)) (gt (ix2 ⟨(R : ℕ) / 2048, by omega⟩ J))
    (∑ K : Fin 8192, h (ix2 R K) * w (ix3 1 K J))

/-- The down projection's row, from the arguments. -/
theorem downRow_eq (R : Fin 8192) (J : Fin 2048) : downRow (V m c main_arg0) (V m c main_v0) (V m c main_v1) (V m c main_v2) R J
    = downOut (m ((c : Thread nD τ).loc main_arg0)) (m ((c : Thread nD τ).loc main_arg1)) (m ((c : Thread nD τ).loc main_arg2))
      (m ((c : Thread nD τ).loc main_arg3)) R J := by
  unfold downRow downOut term
  rw [x_at, gt_at, V_main_arg0]
  exact congrArg _ ((Finset.sum_congr rfl fun K _ => congrArg _ (w_at m c K J)))

/-- What the program leaves in its result array. -/
theorem result : (dats m 0 c).arrAt 4 cfg0.N = fun y : S8192x2048.Idx =>
    downOut (m ((c : Thread nD τ).loc main_arg0)) (m ((c : Thread nD τ).loc main_arg1)) (m ((c : Thread nD τ).loc main_arg2))
      (m ((c : Thread nD τ).loc main_arg3)) (y 0) (y 1) :=
  (down_array m c).trans (funext fun y => downRow_eq m c (y 0) (y 1))

end Cert.Down
-- ==== Proof.DownRef.lean ====
module

public import proofs.«01_k».proof.Proof.Gen.Reference3Ideal.Read
public import Idealize.ShloMosaic.Lib.Pointwise

/-!
# The reference of the down projection, at an index
-/

@[expose] public section

set_option maxRecDepth 16384

noncomputable section

namespace Cert.Down

open Cert.Reference3Ideal Cert.Reference3Ideal.Read
open Idealize.ShloMosaic Idealize.ShloMosaic.TcCoe Idealize.ShloMosaic.Tactic

/-- The reference's result. -/
theorem ref_out (x0 : Vec Ideal S8192x8192 .bf16) (x1 : Vec Ideal S2x8192x2048 .f32) (x2 : Vec Ideal S4x2048x2048 .f32)
    (x3 : Vec Ideal S4x2048 .f32) (R : Fin 8192) (J : Fin 2048) : val_main_v9 x0 x1 x2 x3 (ix2 R J)
    = x2 (ix3 ⟨(R : ℕ) / 2048, by omega⟩ ⟨(R : ℕ) % 2048, by omega⟩ J)
      + x3 (ix2 ⟨(R : ℕ) / 2048, by omega⟩ J) * ∑ K : Fin 8192, x0 (ix2 R K) * x1 (ix3 1 K J) := by
  pointwise [val_main_v9, val_main_v8, val_main_v7, val_main_v6, val_main_v5, val_main_v4, val_main_v3, val_main_v2, val_main_v1,
    val_main_v0, id]

end Cert.Down
-- ==== Proof.DownClaims.lean ====
module

public import proofs.«01_k».proof.Defs
public import proofs.«01_k».proof.Proof.Gen.Kernel3
public import proofs.«01_k».proof.Proof.Gen.Kernel3.Frame
public import proofs.«01_k».proof.Proof.Down
public import proofs.«01_k».proof.Proof.DownRef
public import Idealize.ShloMosaic.Lib.Claim

/-!
# The claims about the down projection
-/

@[expose] public section

set_option maxRecDepth 16384

noncomputable section

namespace Cert.Proof.DownClaims

open Idealize.ShloMosaic Idealize.SL.Sem Idealize.ShloMosaic.Tactic

/-- The kernel runs, leaves its arguments unchanged and every counter at zero. -/
theorem frame_p : Cert.quiescent_Kernel3 := fun m ρ _ => Cert.Kernel3.Gen.frame m ρ

/-- So does the ideal kernel. -/
theorem frame_pi : Cert.quiescent_Kernel3Ideal := fun m ρ _ => Cert.Kernel3Ideal.Gen.frame m ρ

/-- So does the ideal reference. -/
theorem frame_ri : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- No constant is named and no operation is rewritten. -/
theorem preserves : Cert.preserves_Kernel3_Kernel3Ideal := trivial

/-- Of arguments that agree the ideal kernel and the ideal reference compute the same array. -/
theorem algebraic : Cert.algebraic_Kernel3Ideal_Reference3Ideal := by
  pair_intro
  · run_from Cert.Kernel3Ideal.Value.run_blocks m g
  · run_from Cert.Reference3Ideal.Value.run m' g'
    rw [Cert.Reference3Ideal.Read.val_main_v9_eq]
    refine Eq.trans (funext fun y => ?_) (Cert.Down.result m c).symm
    obtain ⟨R, J, rfl⟩ : ∃ (R : Fin 8192) (J : Fin 2048), y = ix2 R J := ⟨y 0, y 1, by funext i; fin_cases i <;> rfl⟩
    exact Cert.Down.ref_out _ _ _ _ R J

end Cert.Proof.DownClaims

end
-- ==== Proof.Final.lean ====
module

public import proofs.«01_k».proof.Proof.Gen.Kernel4Ideal.Value
public import proofs.«01_k».proof.Proof.Layer
public import Idealize.ShloMosaic.Lib.StableHlo.ReadAt
public import Idealize.ShloMosaic.Lib.Pipeline.ValueKit

/-!
# The final norm

What the final norm leaves in its array.
-/

@[expose] public section

set_option maxRecDepth 16384

noncomputable section

namespace Cert.Final

open Cert.Kernel4Ideal Cert.Kernel4Ideal.Gen Cert.Layer
open Idealize.ShloMosaic Idealize.ShloMosaic.TcCoe Idealize.ShloMosaic.Tactic
open Idealize.ShloMosaic.Pipeline (Dat)

/-- What a point leaves at a row and a lane. -/
theorem out0_apply (x : Vec Ideal S1024x2048 .f32) (g : Vec Ideal S1x2048 .f32) (r : Fin 1024) (d : Fin 2048) :
    out0_2 x g (ix2 r d) = rms (fun d => x (ix2 r d)) (fun d => g (ix2 0 d)) d := by
  unfold out0_2 r0_0 r0_1
  rw [View.canon_cons_unit_lit (h := by decide), View.ld_unit_lit (h := by decide), View.ld_unit_lit (h := by decide)]
  pointwise [k0_pay1]
  rfl

/-- The block of rows of a point. -/
def nr (t : Fin cfg0.N) : Fin 8 := grid0.coords t 0

/-- The blocks at each point. -/
theorem idx0 : ∀ t : Fin cfg0.N, win0_0.index t = ![(nr t : ℕ), 0] ∧ win0_1.index t = ![0, 0] ∧ win0_2.index t = ![(nr t : ℕ), 0] :=
  (by decide +kernel : ∀ t : Fin grid0.N, _)

variable (m : (ℓ : Loc nD τ sig) → Buf (Elt Ideal) ℓ) (c : Dev nD)

/-- A point's rows of the stream. -/
theorem blk0_0 (t : Fin cfg0.N) (r : Fin 1024) (d : Fin 2048) :
    iblk m c 0 t (ix2 r d) = V m c main_v0 (ix2 ⟨1024 * nr t + r, by omega⟩ d) := by
  blk_ext [iblk, (idx0 t).1]

/-- The gains. -/
theorem blk0_1 (t : Fin cfg0.N) (d : Fin 2048) : iblk m c 1 t (ix2 0 d) = V m c main_v1 (ix2 0 d) := by
  blk_ext [iblk, (idx0 t).2.1]

/-- Where a point writes. -/
theorem emb0_2 (t : Fin cfg0.N) (r : Fin 1024) (d : Fin 2048) :
    (win0_2.blk t).view.emb (ix2 r d) = (ix2 ⟨1024 * nr t + r, by omega⟩ d : S8192x2048.Idx) := by
  blk_ext [(idx0 t).2.2]

/-- The normalized stream: row `R` at lane `d`. -/
def finalRow (x : Vec Ideal S8192x2048 .f32) (g : Vec Ideal S1x2048 .f32) (R : Fin 8192) (d : Fin 2048) : EReal :=
  rms (fun d => x (ix2 R d)) (fun d => g (ix2 0 d)) d

/-- After the program its result array holds every row normalized. -/
theorem final_array : (dats m 0 c).arrAt 2 cfg0.N
    = fun y : S8192x2048.Idx => finalRow (V m c main_v0) (V m c main_v1) (y 0) (y 1) := by
  refine (dats m 0 c).arrAt_eq_of_covers 2 _ (by decide +kernel) fun t hf y => ?_
  blk_simp
  rw [after0_2]
  obtain ⟨r, d, rfl⟩ : ∃ (r : Fin 1024) (d : Fin 2048), y = ix2 r d := ⟨y 0, y 1, by funext a; fin_cases a <;> rfl⟩
  rw [emb0_2]
  refine (out0_apply _ _ r d).trans ?_
  show _ = finalRow _ _ ⟨1024 * nr t + r, _⟩ d
  unfold finalRow
  simp only [blk0_0, blk0_1]

/-- The rows of the stream: sequence after sequence. -/
theorem x_at (R : Fin 8192) (d : Fin 2048) : (V m c main_v0 : Vec Ideal S8192x2048 .f32) (ix2 R d)
    = (m ((c : Thread nD τ).loc main_arg0) : Vec Ideal S4x2048x2048 .f32) (ix3 ⟨(R : ℕ) / 2048, by omega⟩ ⟨(R : ℕ) % 2048, by omega⟩ d) := by
  unfold V
  after_reads_at

/-- The gains as launched. -/
theorem g_at (d : Fin 2048) : (V m c main_v1 : Vec Ideal S1x2048 .f32) (ix2 0 d)
    = (m ((c : Thread nD τ).loc main_arg1) : Vec Ideal S2048 .f32) (ix1 d) := by
  unfold V
  after_reads_at

/-- The result of the program at row `R` and lane `d`, from its arguments. -/
def finalOut (x : Vec Ideal S4x2048x2048 .f32) (g : Vec Ideal S2048 .f32) (R : Fin 8192) (d : Fin 2048) : EReal :=
  rms (fun d => x (ix3 ⟨(R : ℕ) / 2048, by omega⟩ ⟨(R : ℕ) % 2048, by omega⟩ d)) (fun d => g (ix1 d)) d

/-- The final norm's row, from the arguments. -/
theorem finalRow_eq (R : Fin 8192) (d : Fin 2048) : finalRow (V m c main_v0) (V m c main_v1) R d
    = finalOut (m ((c : Thread nD τ).loc main_arg0)) (m ((c : Thread nD τ).loc main_arg1)) R d := by
  unfold finalRow finalOut
  exact congrArg₂ (fun x g => rms x g d) (funext (x_at m c R)) (funext (g_at m c))

/-- What the program leaves in its result array. -/
theorem result : (dats m 0 c).arrAt 2 cfg0.N = fun y : S8192x2048.Idx =>
    finalOut (m ((c : Thread nD τ).loc main_arg0)) (m ((c : Thread nD τ).loc main_arg1)) (y 0) (y 1) :=
  (final_array m c).trans (funext fun y => finalRow_eq m c (y 0) (y 1))

end Cert.Final
-- ==== Proof.FinalRef.lean ====
module

public import proofs.«01_k».proof.Proof.Gen.Reference4Ideal.Read
public import proofs.«01_k».proof.Proof.Layer

/-!
# The reference of the final norm, at an index
-/

@[expose] public section

set_option maxRecDepth 16384

noncomputable section

namespace Cert.Final

open Cert.Reference4Ideal Cert.Reference4Ideal.Read Cert.Layer
open Idealize.ShloMosaic Idealize.ShloMosaic.TcCoe Idealize.ShloMosaic.Tactic

/-- The reference's result. -/
theorem ref_out (x0 : Vec Ideal S4x2048x2048 .f32) (x1 : Vec Ideal S2048 .f32) (R : Fin 8192) (d : Fin 2048) :
    val_main_v13 x0 x1 (ix2 R d)
      = rms (fun d => x0 (ix3 ⟨(R : ℕ) / 2048, by omega⟩ ⟨(R : ℕ) % 2048, by omega⟩ d)) (fun d => x1 (ix1 d)) d := by
  pointwise [val_main_v13, val_main_v12, val_main_v11, val_main_v10, val_main_v9, val_main_v8, val_main_v7, val_main_v6, val_main_v5,
    val_main_cst_1, val_main_v4, val_main_v3, val_main_cst_0, val_main_v2, val_main_v1, val_main_cst, val_main_v0, id]
  rfl

end Cert.Final
-- ==== Proof.FinalClaims.lean ====
module

public import proofs.«01_k».proof.Defs
public import proofs.«01_k».proof.Proof.Gen.Kernel4
public import proofs.«01_k».proof.Proof.Gen.Kernel4.Frame
public import proofs.«01_k».proof.Proof.Final
public import proofs.«01_k».proof.Proof.FinalRef
public import Idealize.ShloMosaic.Lib.Claim

/-!
# The claims about the final norm
-/

@[expose] public section

set_option maxRecDepth 16384

noncomputable section

namespace Cert.Proof.FinalClaims

open Idealize.ShloMosaic Idealize.SL.Sem Idealize.ShloMosaic.Tactic

/-- The kernel runs, leaves its arguments unchanged and every counter at zero. -/
theorem frame_p : Cert.quiescent_Kernel4 := fun m ρ _ => Cert.Kernel4.Gen.frame m ρ

/-- So does the ideal kernel. -/
theorem frame_pi : Cert.quiescent_Kernel4Ideal := fun m ρ _ => Cert.Kernel4Ideal.Gen.frame m ρ

/-- So does the ideal reference. -/
theorem frame_ri : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- No constant is named and no operation is rewritten. -/
theorem preserves : Cert.preserves_Kernel4_Kernel4Ideal := trivial

/-- Of arguments that agree the ideal kernel and the ideal reference compute the same array. -/
theorem algebraic : Cert.algebraic_Kernel4Ideal_Reference4Ideal := by
  pair_intro
  · run_from Cert.Kernel4Ideal.Value.run_blocks m g
  · run_from Cert.Reference4Ideal.Value.run m' g'
    rw [Cert.Reference4Ideal.Read.val_main_v13_eq]
    refine Eq.trans (funext fun y => ?_) (Cert.Final.result m c).symm
    obtain ⟨R, J, rfl⟩ : ∃ (R : Fin 8192) (J : Fin 2048), y = ix2 R J := ⟨y 0, y 1, by funext i; fin_cases i <;> rfl⟩
    exact Cert.Final.ref_out _ _ R J

end Cert.Proof.FinalClaims

end
-- ==== Proof.Query.lean ====
module

public import proofs.«01_k».proof.Proof.Gen.Kernel5Ideal.Frame
public import proofs.«01_k».proof.Proof.Layer
public import Idealize.ShloMosaic.Lib.StableHlo.ReadAt
public import Idealize.ShloMosaic.Lib.Pipeline.ValueKit

/-!
# The query projection

What the normalization and the query projection leave in their arrays.
-/

@[expose] public section

set_option maxRecDepth 16384

noncomputable section

namespace Cert.Query

open Cert.Kernel5Ideal Cert.Kernel5Ideal.Gen Cert.Layer
open Idealize.ShloMosaic Idealize.ShloMosaic.TcCoe Idealize.ShloMosaic.Tactic
open Idealize.ShloMosaic.Pipeline (Dat)

/-- What a point of the normalization leaves at a row and a lane. -/
theorem out0_apply (x : Vec Ideal S1024x2048 .f32) (g : Vec Ideal S1x2048 .f32) (sh sc : Vec Ideal S1x1x2048 .f32)
    (r : Fin 1024) (d : Fin 2048) : out0_4 x g sh sc (ix2 r d)
      = modulated (fun d => x (ix2 r d)) (fun d => g (ix2 0 d)) (fun d => sh (ix3 0 0 d)) (fun d => sc (ix3 0 0 d)) d := by
  unfold out0_4 r0_0 r0_1 r0_2
  rw [View.canon_cons_unit_lit (h := by decide), View.ld_unit_lit (h := by decide), View.ld_unit_lit (h := by decide),
    View.ld_unit_lit (h := by decide), View.ld_unit_lit (h := by decide)]
  pointwise [k0_pay1]
  rfl

/-- What a point of the query projection stores at a row and a lane. -/
theorem pay_apply (w : Vec Ideal S2048x2048 .bf16) (h : Vec Ideal S512x2048 .bf16) (r : Fin 512) (j : Fin 2048) :
    k1_pay1 w h (ix2 r j) = ∑ k : Fin 2048, h (ix2 r k) * w (ix2 k j) := by
  pointwise [k1_pay1]

/-- What a point of the query projection leaves at a row and a lane. -/
theorem out1_apply (c i arg3 harg3 arg4 harg4 arg5 harg5 arg6 harg6) (h : Vec Ideal S512x2048 .bf16)
    (w : Vec Ideal S2048x2048 .bf16) (r : Fin 512) (j : Fin 2048) :
    out1_A_2 (F := Ideal) c i arg3 harg3 arg4 harg4 arg5 harg5 arg6 harg6 h w (ix2 r j)
      = ∑ k : Fin 2048, h (ix2 r k) * w (ix2 k j) := by
  unfold out1_A_2 kernelRun1_A
  frame_out
  exact pay_apply w h r j

/-- The block of rows of a point of the normalization. -/
def nr (t : Fin cfg0.N) : Fin 8 := grid0.coords t 0

/-- The block of rows of a point of the query projection. -/
def ur (t : Fin cfg1.N) : Fin 16 := grid1.coords t 0

/-- The blocks of the normalization at each point. -/
theorem idx0 : ∀ t : Fin cfg0.N, win0_0.index t = ![(nr t : ℕ), 0] ∧ win0_1.index t = ![0, 0]
    ∧ win0_2.index t = ![(nr t : ℕ) / 2, 0, 0] ∧ win0_3.index t = ![(nr t : ℕ) / 2, 0, 0] ∧ win0_4.index t = ![(nr t : ℕ), 0] :=
  (by decide +kernel : ∀ t : Fin grid0.N, _)

/-- The blocks of the query projection at each point. -/
theorem idx1 : ∀ t : Fin cfg1.N, win1_0.index t = ![(ur t : ℕ), 0] ∧ win1_1.index t = ![0, 0]
    ∧ win1_2.index t = ![(ur t : ℕ), 0] :=
  (by decide +kernel : ∀ t : Fin grid1.N, _)

section
variable (V : (c : Dev nD) → (b : Ref sig .tc) → Buf (Elt Ideal) ((c : Thread nD τ).loc b)) (c : Dev nD)

/-- A point's rows of the stream. -/
theorem blk0_0 (t : Fin cfg0.N) (r : Fin 1024) (d : Fin 2048) :
    iblk0 V c 0 t (ix2 r d) = V c main_v0 (ix2 ⟨1024 * nr t + r, by omega⟩ d) := by
  blk_ext [iblk0, (idx0 t).1]

/-- The gains. -/
theorem blk0_1 (t : Fin cfg0.N) (d : Fin 2048) : iblk0 V c 1 t (ix2 0 d) = V c main_v3 (ix2 0 d) := by
  blk_ext [iblk0, (idx0 t).2.1]

/-- The shifts of a point's sequence. -/
theorem blk0_2 (t : Fin cfg0.N) (d : Fin 2048) :
    iblk0 V c 2 t (ix3 0 0 d) = V c main_v1 (ix3 ⟨(nr t : ℕ) / 2, by omega⟩ 0 d) := by
  blk_ext [iblk0, (idx0 t).2.2.1]

/-- The scales of a point's sequence. -/
theorem blk0_3 (t : Fin cfg0.N) (d : Fin 2048) :
    iblk0 V c 3 t (ix3 0 0 d) = V c main_v2 (ix3 ⟨(nr t : ℕ) / 2, by omega⟩ 0 d) := by
  blk_ext [iblk0, (idx0 t).2.2.2.1]

/-- Where a point of the normalization writes. -/
theorem emb0_4 (t : Fin cfg0.N) (r : Fin 1024) (d : Fin 2048) :
    (win0_4.blk t).view.emb (ix2 r d) = (ix2 ⟨1024 * nr t + r, by omega⟩ d : S8192x2048.Idx) := by
  blk_ext [(idx0 t).2.2.2.2]

/-- The normalized and modulated stream, from the arrays of the program: row `R` at lane `d`. -/
def normRow (x : Vec Ideal S8192x2048 .f32) (g : Vec Ideal S1x2048 .f32) (sh sc : Vec Ideal S4x1x2048 .f32)
    (R : Fin 8192) (d : Fin 2048) : EReal :=
  modulated (fun d => x (ix2 R d)) (fun d => g (ix2 0 d)) (fun d => sh (ix3 ⟨(R : ℕ) / 2048, by omega⟩ 0 d))
    (fun d => sc (ix3 ⟨(R : ℕ) / 2048, by omega⟩ 0 d)) d

/-- After the normalization its result array holds every row normalized and modulated. -/
theorem norm_array : (dat0 V c).arrAt 4 cfg0.N
    = fun y : S8192x2048.Idx => normRow (V c main_v0) (V c main_v3) (V c main_v1) (V c main_v2) (y 0) (y 1) := by
  refine (dat0 V c).arrAt_eq_of_covers 4 _ (by decide +kernel) fun t hf y => ?_
  blk_simp
  rw [after0_4]
  obtain ⟨r, d, rfl⟩ : ∃ (r : Fin 1024) (d : Fin 2048), y = ix2 r d := ⟨y 0, y 1, by funext a; fin_cases a <;> rfl⟩
  rw [emb0_4]
  refine (out0_apply _ _ _ _ r d).trans ?_
  have e : ∀ n, (⟨(1024 * (nr t : ℕ) + r) / 2048, n⟩ : Fin 4) = ⟨(nr t : ℕ) / 2, by omega⟩ := fun n => Fin.ext (by dsimp only; omega)
  show _ = normRow _ _ _ _ ⟨1024 * nr t + r, _⟩ d
  unfold normRow
  simp only [blk0_0, blk0_1, blk0_2, blk0_3, e]

/-- A point's rows of the normalized stream. -/
theorem blk1_0 (t : Fin cfg1.N) (r : Fin 512) (d : Fin 2048) :
    iblk1 V c 0 t (ix2 r d) = V c main_v4 (ix2 ⟨512 * ur t + r, by omega⟩ d) := by
  blk_ext [iblk1, (idx1 t).1]

/-- The weights. -/
theorem blk1_1 (t : Fin cfg1.N) (k : Fin 2048) (j : Fin 2048) :
    iblk1 V c 1 t (ix2 k j) = V c main_v5 (ix2 k j) := by
  blk_ext [iblk1, (idx1 t).2.1]

/-- Where a point of the query projection writes. -/
theorem emb1_2 (t : Fin cfg1.N) (r : Fin 512) (j : Fin 2048) :
    (win1_2.blk t).view.emb (ix2 r j) = (ix2 ⟨512 * ur t + r, by omega⟩ j : S8192x2048.Idx) := by
  blk_ext [(idx1 t).2.2]

/-- The query projection's result at row `R` and lane `j`. -/
def queryRow (h : Vec Ideal S8192x2048 .bf16) (w : Vec Ideal S2048x2048 .bf16) (R : Fin 8192) (j : Fin 2048) : EReal :=
  ∑ k : Fin 2048, h (ix2 R k) * w (ix2 k j)

/-- After the query projection its result array holds every row's. -/
theorem query_array : (dat1 V c).arrAt 2 cfg1.N
    = fun y : S8192x2048.Idx => queryRow (V c main_v4) (V c main_v5) (y 0) (y 1) := by
  refine (dat1 V c).arrAt_eq_of_covers 2 _ (by decide +kernel) fun t hf y => ?_
  blk_simp
  rw [after1_2]
  unfold outsAt1
  obtain ⟨r, j, rfl⟩ : ∃ (r : Fin 512) (j : Fin 2048), y = ix2 r j := ⟨y 0, y 1, by funext a; fin_cases a <;> rfl⟩
  rw [emb1_2]
  refine (out1_apply _ _ _ _ _ _ _ _ _ _ _ _ r j).trans ?_
  show _ = queryRow _ _ ⟨512 * ur t + r, _⟩ j
  unfold queryRow
  simp only [blk1_0, blk1_1]

end

variable (m : (ℓ : Loc nD τ sig) → Buf (Elt Ideal) ℓ) (ρ : Dev nD → PrngReg) (c : Dev nD)

/-- The rows of the stream: sequence after sequence. -/
theorem x_at (R : Fin 8192) (d : Fin 2048) : (W1 m ρ c main_v0 : Vec Ideal S8192x2048 .f32) (ix2 R d)
    = (m ((c : Thread nD τ).loc main_arg0) : Vec Ideal S4x2048x2048 .f32) (ix3 ⟨(R : ℕ) / 2048, by omega⟩ ⟨(R : ℕ) % 2048, by omega⟩ d) := by
  unfold W1 W0
  after_reads_at

/-- The gains as launched. -/
theorem g_at (d : Fin 2048) : (W1 m ρ c main_v3 : Vec Ideal S1x2048 .f32) (ix2 0 d)
    = (m ((c : Thread nD τ).loc main_arg1) : Vec Ideal S2048 .f32) (ix1 d) := by
  unfold W1 W0
  after_reads_at

/-- The shifts as launched. -/
theorem sh_at (b : Fin 4) (d : Fin 2048) : (W1 m ρ c main_v1 : Vec Ideal S4x1x2048 .f32) (ix3 b 0 d)
    = (m ((c : Thread nD τ).loc main_arg2) : Vec Ideal S4x2048 .f32) (ix2 b d) := by
  unfold W1 W0
  after_reads_at

/-- The scales as launched. -/
theorem sc_at (b : Fin 4) (d : Fin 2048) : (W1 m ρ c main_v2 : Vec Ideal S4x1x2048 .f32) (ix3 b 0 d)
    = (m ((c : Thread nD τ).loc main_arg3) : Vec Ideal S4x2048 .f32) (ix2 b d) := by
  unfold W1 W0
  after_reads_at

/-- The query projection reads what the normalization left. -/
theorem h_at (R : Fin 8192) (d : Fin 2048) : (W3 m ρ c main_v4 : Vec Ideal S8192x2048 .bf16) (ix2 R d)
    = normRow (W1 m ρ c main_v0) (W1 m ρ c main_v3) (W1 m ρ c main_v1) (W1 m ρ c main_v2) R d :=
  congrFun ((W3_of m ρ c main_v4 (by decide)).trans ((W2_arr m ρ c 4).trans (norm_array (V1 m ρ) c))) (ix2 R d)

/-- The weights as launched. -/
theorem w_at (k j : Fin 2048) : (W3 m ρ c main_v5 : Vec Ideal S2048x2048 .bf16) (ix2 k j)
    = (m ((c : Thread nD τ).loc main_arg4) : Vec Ideal S2048x2048 .f32) (ix2 k j) := by
  unfold W3
  after_reads_at
  rw [W2_args m ρ c main_arg4 (by decide)]

/-- The result of the program at row `R` and lane `j`, from its arguments. -/
def queryOut (x : Vec Ideal S4x2048x2048 .f32) (g : Vec Ideal S2048 .f32) (sh sc : Vec Ideal S4x2048 .f32)
    (w : Vec Ideal S2048x2048 .f32) (R : Fin 8192) (j : Fin 2048) : EReal :=
  ∑ k : Fin 2048, modulated (fun d => x (ix3 ⟨(R : ℕ) / 2048, by omega⟩ ⟨(R : ℕ) % 2048, by omega⟩ d)) (fun d => g (ix1 d))
    (fun d => sh (ix2 ⟨(R : ℕ) / 2048, by omega⟩ d)) (fun d => sc (ix2 ⟨(R : ℕ) / 2048, by omega⟩ d)) k * w (ix2 k j)

/-- The query projection's row, from the arguments. -/
theorem queryRow_eq (R : Fin 8192) (j : Fin 2048) : queryRow (W3 m ρ c main_v4) (W3 m ρ c main_v5) R j
    = queryOut (m ((c : Thread nD τ).loc main_arg0)) (m ((c : Thread nD τ).loc main_arg1)) (m ((c : Thread nD τ).loc main_arg2))
      (m ((c : Thread nD τ).loc main_arg3)) (m ((c : Thread nD τ).loc main_arg4)) R j := by
  unfold queryRow queryOut
  refine Finset.sum_congr rfl fun k _ => ?_
  rw [h_at, w_at]
  exact congrArg (· * _) (modulated_congr (x_at m ρ c R) (g_at m ρ c) (sh_at m ρ c _) (sc_at m ρ c _) k)

/-- What the program leaves in its result array. -/
theorem result : (dat1 (V3 m ρ) c).arrAt 2 cfg1.N = fun y : S8192x2048.Idx =>
    queryOut (m ((c : Thread nD τ).loc main_arg0)) (m ((c : Thread nD τ).loc main_arg1)) (m ((c : Thread nD τ).loc main_arg2))
      (m ((c : Thread nD τ).loc main_arg3)) (m ((c : Thread nD τ).loc main_arg4)) (y 0) (y 1) :=
  (query_array (V3 m ρ) c).trans (funext fun y => queryRow_eq m ρ c (y 0) (y 1))

end Cert.Query
-- ==== Proof.QueryRef.lean ====
module

public import proofs.«01_k».proof.Proof.Gen.Reference5Ideal.Read
public import proofs.«01_k».proof.Proof.Layer

/-!
# The reference of the query projection, at an index
-/

@[expose] public section

set_option maxRecDepth 16384

noncomputable section

namespace Cert.Query

open Cert.Reference5Ideal Cert.Reference5Ideal.Read Cert.Layer
open Idealize.ShloMosaic Idealize.ShloMosaic.TcCoe Idealize.ShloMosaic.Tactic

variable (x0 : Vec Ideal S4x2048x2048 .f32) (x1 : Vec Ideal S2048 .f32) (x2 x3 : Vec Ideal S4x2048 .f32)
  (x4 : Vec Ideal S2048x2048 .f32)

/-- The reference's normalized and modulated stream. -/
theorem ref_norm (b : Fin 4) (t d : Fin 2048) : val_main_v20 x0 x1 x2 x3 (ix3 b t d)
    = modulated (fun d => x0 (ix3 b t d)) (fun d => x1 (ix1 d)) (fun d => x2 (ix2 b d)) (fun d => x3 (ix2 b d)) d := by
  pointwise [val_main_v20, val_main_v19, val_main_v18, val_main_v17, val_main_v16, val_main_v15, val_main_v14, val_main_cst_2,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0, id]
  rfl

/-- The reference's result. -/
theorem ref_out (R : Fin 8192) (j : Fin 2048) : val_main_v23 x0 x1 x2 x3 x4 (ix2 R j)
    = ∑ k : Fin 2048, val_main_v20 x0 x1 x2 x3 (ix3 ⟨(R : ℕ) / 2048, by omega⟩ ⟨(R : ℕ) % 2048, by omega⟩ k) * x4 (ix2 k j) := by
  unfold val_main_v23 val_main_v22 val_main_v21
  generalize val_main_v20 (F := Ideal) x0 x1 x2 x3 = y
  pointwise [id]

end Cert.Query
-- ==== Proof.QueryLaunched.lean ====
module

public import proofs.«01_k».proof.Proof.Gen.Kernel5Ideal.Frame

/-!
# The run of the query projection program

The program from launch to exit, with what its result array holds at the end.
-/

@[expose] public section

set_option maxRecDepth 16384

noncomputable section

namespace Cert.Query

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, with the arguments unchanged and the result
array at the contents that the two calls leave in it. -/
theorem run_query : θ_run defs (onTc (τ := τ) (main (F := F))) ⟨m, fun _ => 0, ρ⟩ (fun r => ∀ c : Dev nD,
      r.2.mem ((c.tc : Thread nD τ).loc main_v6) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v6 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c)⟩)

end Cert.Query
-- ==== Proof.QueryClaims.lean ====
module

public import proofs.«01_k».proof.Defs
public import proofs.«01_k».proof.Proof.Gen.Kernel5
public import proofs.«01_k».proof.Proof.Gen.Kernel5.Frame
public import proofs.«01_k».proof.Proof.Query
public import proofs.«01_k».proof.Proof.QueryRef
public import proofs.«01_k».proof.Proof.QueryLaunched
public import Idealize.ShloMosaic.Lib.Claim

/-!
# The claims about the query projection
-/

@[expose] public section

set_option maxRecDepth 16384

noncomputable section

namespace Cert.Proof.QueryClaims

open Idealize.ShloMosaic Idealize.SL.Sem Idealize.ShloMosaic.Tactic

/-- The kernel runs, leaves its arguments unchanged and every counter at zero. -/
theorem frame_p : Cert.quiescent_Kernel5 := fun m ρ _ => Cert.Kernel5.Gen.frame m ρ

/-- So does the ideal kernel. -/
theorem frame_pi : Cert.quiescent_Kernel5Ideal := fun m ρ _ => Cert.Kernel5Ideal.Gen.frame m ρ

/-- So does the ideal reference. -/
theorem frame_ri : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- No constant is named and no operation is rewritten. -/
theorem preserves : Cert.preserves_Kernel5_Kernel5Ideal := trivial

/-- Of arguments that agree the ideal kernel and the ideal reference compute the same array. -/
theorem algebraic : Cert.algebraic_Kernel5Ideal_Reference5Ideal := by
  pair_intro
  · run_from Cert.Query.run_query m g
  · run_from Cert.Reference5Ideal.Value.run m' g'
    rw [Cert.Reference5Ideal.Read.val_main_v23_eq]
    refine Eq.trans (funext fun y => ?_) (Cert.Query.result m g c).symm
    obtain ⟨R, J, rfl⟩ : ∃ (R : Fin 8192) (J : Fin 2048), y = ix2 R J := ⟨y 0, y 1, by funext i; fin_cases i <;> rfl⟩
    refine (Cert.Query.ref_out _ _ _ _ _ R J).trans (Finset.sum_congr rfl fun k _ => ?_)
    exact congrArg (· * _) (Cert.Query.ref_norm _ _ _ _ _ _ k)

end Cert.Proof.QueryClaims

end
-- ==== Proof.KeyValue.lean ====
module

public import proofs.«01_k».proof.Proof.Gen.Kernel6Ideal.Frame
public import proofs.«01_k».proof.Proof.Layer
public import Idealize.ShloMosaic.Lib.StableHlo.ReadAt
public import Idealize.ShloMosaic.Lib.Pipeline.ValueKit

/-!
# The key and value projection

What the normalization and the key and value projection leave in their arrays.
-/

@[expose] public section

set_option maxRecDepth 16384

noncomputable section

namespace Cert.KeyValue

open Cert.Kernel6Ideal Cert.Kernel6Ideal.Gen Cert.Layer
open Idealize.ShloMosaic Idealize.ShloMosaic.TcCoe Idealize.ShloMosaic.Tactic
open Idealize.ShloMosaic.Pipeline (Dat)

/-- What a point of the normalization leaves at a row and a lane. -/
theorem out0_apply (x : Vec Ideal S1024x2048 .f32) (g : Vec Ideal S1x2048 .f32) (sh sc : Vec Ideal S1x1x2048 .f32)
    (r : Fin 1024) (d : Fin 2048) : out0_4 x g sh sc (ix2 r d)
      = modulated (fun d => x (ix2 r d)) (fun d => g (ix2 0 d)) (fun d => sh (ix3 0 0 d)) (fun d => sc (ix3 0 0 d)) d := by
  unfold out0_4 r0_0 r0_1 r0_2
  rw [View.canon_cons_unit_lit (h := by decide), View.ld_unit_lit (h := by decide), View.ld_unit_lit (h := by decide),
    View.ld_unit_lit (h := by decide), View.ld_unit_lit (h := by decide)]
  pointwise [k0_pay1]
  rfl

/-- What a point of the key and value projection stores at a row and a lane. -/
theorem pay_apply (w : Vec Ideal S2048x2048 .bf16) (h : Vec Ideal S1024x2048 .bf16) (r : Fin 1024) (j : Fin 2048) :
    k1_pay1 w h (ix2 r j) = ∑ k : Fin 2048, h (ix2 r k) * w (ix2 k j) := by
  pointwise [k1_pay1]

/-- What a point of the key and value projection leaves at a row and a lane. -/
theorem out1_apply (c i arg3 harg3 arg4 harg4 arg5 harg5 arg6 harg6) (h : Vec Ideal S1024x2048 .bf16)
    (w : Vec Ideal S2048x2048 .bf16) (r : Fin 1024) (j : Fin 2048) :
    out1_A_2 (F := Ideal) c i arg3 harg3 arg4 harg4 arg5 harg5 arg6 harg6 h w (ix2 r j)
      = ∑ k : Fin 2048, h (ix2 r k) * w (ix2 k j) := by
  unfold out1_A_2 kernelRun1_A
  frame_out
  exact pay_apply w h r j

/-- The block of rows of a point of the normalization. -/
def nr (t : Fin cfg0.N) : Fin 8 := grid0.coords t 0

/-- The block of rows of a point of the key and value projection. -/
def ur (t : Fin cfg1.N) : Fin 8 := grid1.coords t 0

/-- The block of lanes of a point of the key and value projection. -/
def ul (t : Fin cfg1.N) : Fin 2 := grid1.coords t 1

/-- The blocks of the normalization at each point. -/
theorem idx0 : ∀ t : Fin cfg0.N, win0_0.index t = ![(nr t : ℕ), 0] ∧ win0_1.index t = ![0, 0]
    ∧ win0_2.index t = ![(nr t : ℕ) / 2, 0, 0] ∧ win0_3.index t = ![(nr t : ℕ) / 2, 0, 0] ∧ win0_4.index t = ![(nr t : ℕ), 0] :=
  (by decide +kernel : ∀ t : Fin grid0.N, _)

/-- The blocks of the key and value projection at each point. -/
theorem idx1 : ∀ t : Fin cfg1.N, win1_0.index t = ![(ur t : ℕ), 0] ∧ win1_1.index t = ![0, (ul t : ℕ)]
    ∧ win1_2.index t = ![(ur t : ℕ), (ul t : ℕ)] :=
  (by decide +kernel : ∀ t : Fin grid1.N, _)

section
variable (V : (c : Dev nD) → (b : Ref sig .tc) → Buf (Elt Ideal) ((c : Thread nD τ).loc b)) (c : Dev nD)

/-- A point's rows of the stream. -/
theorem blk0_0 (t : Fin cfg0.N) (r : Fin 1024) (d : Fin 2048) :
    iblk0 V c 0 t (ix2 r d) = V c main_v0 (ix2 ⟨1024 * nr t + r, by omega⟩ d) := by
  blk_ext [iblk0, (idx0 t).1]

/-- The gains. -/
theorem blk0_1 (t : Fin cfg0.N) (d : Fin 2048) : iblk0 V c 1 t (ix2 0 d) = V c main_v3 (ix2 0 d) := by
  blk_ext [iblk0, (idx0 t).2.1]

/-- The shifts of a point's sequence. -/
theorem blk0_2 (t : Fin cfg0.N) (d : Fin 2048) :
    iblk0 V c 2 t (ix3 0 0 d) = V c main_v1 (ix3 ⟨(nr t : ℕ) / 2, by omega⟩ 0 d) := by
  blk_ext [iblk0, (idx0 t).2.2.1]

/-- The scales of a point's sequence. -/
theorem blk0_3 (t : Fin cfg0.N) (d : Fin 2048) :
    iblk0 V c 3 t (ix3 0 0 d) = V c main_v2 (ix3 ⟨(nr t : ℕ) / 2, by omega⟩ 0 d) := by
  blk_ext [iblk0, (idx0 t).2.2.2.1]

/-- Where a point of the normalization writes. -/
theorem emb0_4 (t : Fin cfg0.N) (r : Fin 1024) (d : Fin 2048) :
    (win0_4.blk t).view.emb (ix2 r d) = (ix2 ⟨1024 * nr t + r, by omega⟩ d : S8192x2048.Idx) := by
  blk_ext [(idx0 t).2.2.2.2]

/-- The normalized and modulated stream, from the arrays of the program: row `R` at lane `d`. -/
def normRow (x : Vec Ideal S8192x2048 .f32) (g : Vec Ideal S1x2048 .f32) (sh sc : Vec Ideal S4x1x2048 .f32)
    (R : Fin 8192) (d : Fin 2048) : EReal :=
  modulated (fun d => x (ix2 R d)) (fun d => g (ix2 0 d)) (fun d => sh (ix3 ⟨(R : ℕ) / 2048, by omega⟩ 0 d))
    (fun d => sc (ix3 ⟨(R : ℕ) / 2048, by omega⟩ 0 d)) d

/-- After the normalization its result array holds every row normalized and modulated. -/
theorem norm_array : (dat0 V c).arrAt 4 cfg0.N
    = fun y : S8192x2048.Idx => normRow (V c main_v0) (V c main_v3) (V c main_v1) (V c main_v2) (y 0) (y 1) := by
  refine (dat0 V c).arrAt_eq_of_covers 4 _ (by decide +kernel) fun t hf y => ?_
  blk_simp
  rw [after0_4]
  obtain ⟨r, d, rfl⟩ : ∃ (r : Fin 1024) (d : Fin 2048), y = ix2 r d := ⟨y 0, y 1, by funext a; fin_cases a <;> rfl⟩
  rw [emb0_4]
  refine (out0_apply _ _ _ _ r d).trans ?_
  have e : ∀ n, (⟨(1024 * (nr t : ℕ) + r) / 2048, n⟩ : Fin 4) = ⟨(nr t : ℕ) / 2, by omega⟩ := fun n => Fin.ext (by dsimp only; omega)
  show _ = normRow _ _ _ _ ⟨1024 * nr t + r, _⟩ d
  unfold normRow
  simp only [blk0_0, blk0_1, blk0_2, blk0_3, e]

/-- A point's rows of the normalized stream. -/
theorem blk1_0 (t : Fin cfg1.N) (r : Fin 1024) (d : Fin 2048) :
    iblk1 V c 0 t (ix2 r d) = V c main_v4 (ix2 ⟨1024 * ur t + r, by omega⟩ d) := by
  blk_ext [iblk1, (idx1 t).1]

/-- A point's lanes of the weights. -/
theorem blk1_1 (t : Fin cfg1.N) (k : Fin 2048) (j : Fin 2048) :
    iblk1 V c 1 t (ix2 k j) = V c main_v6 (ix2 k ⟨2048 * ul t + j, by omega⟩) := by
  blk_ext [iblk1, (idx1 t).2.1]

/-- Where a point of the key and value projection writes. -/
theorem emb1_2 (t : Fin cfg1.N) (r : Fin 1024) (j : Fin 2048) :
    (win1_2.blk t).view.emb (ix2 r j) = (ix2 ⟨1024 * ur t + r, by omega⟩ ⟨2048 * ul t + j, by omega⟩ : S8192x4096.Idx) := by
  blk_ext [(idx1 t).2.2]

/-- The key and value projection's result at row `R` and lane `j`. -/
def kvRow (h : Vec Ideal S8192x2048 .bf16) (w : Vec Ideal S2048x4096 .bf16) (R : Fin 8192) (j : Fin 4096) : EReal :=
  ∑ k : Fin 2048, h (ix2 R k) * w (ix2 k j)

/-- After the key and value projection its result array holds every row's. -/
theorem kv_array : (dat1 V c).arrAt 2 cfg1.N
    = fun y : S8192x4096.Idx => kvRow (V c main_v4) (V c main_v6) (y 0) (y 1) := by
  refine (dat1 V c).arrAt_eq_of_covers 2 _ (by decide +kernel) fun t hf y => ?_
  blk_simp
  rw [after1_2]
  unfold outsAt1
  obtain ⟨r, j, rfl⟩ : ∃ (r : Fin 1024) (j : Fin 2048), y = ix2 r j := ⟨y 0, y 1, by funext a; fin_cases a <;> rfl⟩
  rw [emb1_2]
  refine (out1_apply _ _ _ _ _ _ _ _ _ _ _ _ r j).trans ?_
  show _ = kvRow _ _ ⟨1024 * ur t + r, _⟩ ⟨2048 * ul t + j, _⟩
  unfold kvRow
  simp only [blk1_0, blk1_1]

end

variable (m : (ℓ : Loc nD τ sig) → Buf (Elt Ideal) ℓ) (ρ : Dev nD → PrngReg) (c : Dev nD)

/-- The rows of the stream: sequence after sequence. -/
theorem x_at (R : Fin 8192) (d : Fin 2048) : (W1 m ρ c main_v0 : Vec Ideal S8192x2048 .f32) (ix2 R d)
    = (m ((c : Thread nD τ).loc main_arg0) : Vec Ideal S4x2048x2048 .f32) (ix3 ⟨(R : ℕ) / 2048, by omega⟩ ⟨(R : ℕ) % 2048, by omega⟩ d) := by
  unfold W1 W0
  after_reads_at

/-- The gains as launched. -/
theorem g_at (d : Fin 2048) : (W1 m ρ c main_v3 : Vec Ideal S1x2048 .f32) (ix2 0 d)
    = (m ((c : Thread nD τ).loc main_arg1) : Vec Ideal S2048 .f32) (ix1 d) := by
  unfold W1 W0
  after_reads_at

/-- The shifts as launched. -/
theorem sh_at (b : Fin 4) (d : Fin 2048) : (W1 m ρ c main_v1 : Vec Ideal S4x1x2048 .f32) (ix3 b 0 d)
    = (m ((c : Thread nD τ).loc main_arg2) : Vec Ideal S4x2048 .f32) (ix2 b d) := by
  unfold W1 W0
  after_reads_at

/-- The scales as launched. -/
theorem sc_at (b : Fin 4) (d : Fin 2048) : (W1 m ρ c main_v2 : Vec Ideal S4x1x2048 .f32) (ix3 b 0 d)
    = (m ((c : Thread nD τ).loc main_arg3) : Vec Ideal S4x2048 .f32) (ix2 b d) := by
  unfold W1 W0
  after_reads_at

/-- The key and value projection reads what the normalization left. -/
theorem h_at (R : Fin 8192) (d : Fin 2048) : (W3 m ρ c main_v4 : Vec Ideal S8192x2048 .bf16) (ix2 R d)
    = normRow (W1 m ρ c main_v0) (W1 m ρ c main_v3) (W1 m ρ c main_v1) (W1 m ρ c main_v2) R d :=
  congrFun ((W3_of m ρ c main_v4 (by decide)).trans ((W2_arr m ρ c 4).trans (norm_array (V1 m ρ) c))) (ix2 R d)

/-- Two matrices side by side, at row `k` and lane `j`. -/
def joined (wk wv : Vec Ideal S2048x2048 .f32) (k : Fin 2048) (j : Fin 4096) : EReal :=
  if h : (j : ℕ) < 2048 then wk (ix2 k ⟨j, h⟩) else wv (ix2 k ⟨(j : ℕ) - 2048, by omega⟩)

/-- A lane of the first matrix. -/
theorem joined_low (wk wv : Vec Ideal S2048x2048 .f32) (k : Fin 2048) (j : Fin 4096) (h : (j : ℕ) < 2048) :
    joined wk wv k j = wk (ix2 k ⟨j, h⟩) := dif_pos h

/-- A lane of the second matrix. -/
theorem joined_high (wk wv : Vec Ideal S2048x2048 .f32) (k : Fin 2048) (j : Fin 4096) (h : ¬(j : ℕ) < 2048) :
    joined wk wv k j = wv (ix2 k ⟨(j : ℕ) - 2048, by omega⟩) := dif_neg h

/-- The weights as launched: the keys' then the values'. -/
theorem w_at (k : Fin 2048) (j : Fin 4096) : (W3 m ρ c main_v6 : Vec Ideal S2048x4096 .bf16) (ix2 k j)
    = joined (m ((c : Thread nD τ).loc main_arg4)) (m ((c : Thread nD τ).loc main_arg5)) k j := by
  unfold W3
  after_reads_at
  exact congrArg₂ (fun a b => joined a b k j) (W2_args m ρ c main_arg4 (by decide)) (W2_args m ρ c main_arg5 (by decide))

/-- The result of the program at row `R` and lane `j`, from its arguments. -/
def kvOut (x : Vec Ideal S4x2048x2048 .f32) (g : Vec Ideal S2048 .f32) (sh sc : Vec Ideal S4x2048 .f32)
    (wk wv : Vec Ideal S2048x2048 .f32) (R : Fin 8192) (j : Fin 4096) : EReal :=
  ∑ k : Fin 2048, modulated (fun d => x (ix3 ⟨(R : ℕ) / 2048, by omega⟩ ⟨(R : ℕ) % 2048, by omega⟩ d)) (fun d => g (ix1 d))
    (fun d => sh (ix2 ⟨(R : ℕ) / 2048, by omega⟩ d)) (fun d => sc (ix2 ⟨(R : ℕ) / 2048, by omega⟩ d)) k * joined wk wv k j

/-- The key and value projection's row, from the arguments. -/
theorem kvRow_eq (R : Fin 8192) (j : Fin 4096) : kvRow (W3 m ρ c main_v4) (W3 m ρ c main_v6) R j
    = kvOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R j := by
  unfold kvRow kvOut
  refine Finset.sum_congr rfl fun k _ => ?_
  rw [h_at, w_at]
  exact congrArg (· * _) (modulated_congr (x_at m ρ c R) (g_at m ρ c) (sh_at m ρ c _) (sc_at m ρ c _) k)

/-- What the program leaves in its result array. -/
theorem result : (dat1 (V3 m ρ) c).arrAt 2 cfg1.N = fun y : S8192x4096.Idx =>
    kvOut (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (y 0) (y 1) :=
  (kv_array (V3 m ρ) c).trans (funext fun y => kvRow_eq m ρ c (y 0) (y 1))

end Cert.KeyValue
-- ==== Proof.KeyValueRef.lean ====
module

public import proofs.«01_k».proof.Proof.Gen.Reference6Ideal.Read
public import proofs.«01_k».proof.Proof.Layer

/-!
# The reference of the key and value projection, at an index
-/

@[expose] public section

set_option maxRecDepth 16384

noncomputable section

namespace Cert.KeyValue

open Cert.Reference6Ideal Cert.Reference6Ideal.Read Cert.Layer
open Idealize.ShloMosaic Idealize.ShloMosaic.TcCoe Idealize.ShloMosaic.Tactic

variable (x0 : Vec Ideal S4x2048x2048 .f32) (x1 : Vec Ideal S2048 .f32) (x2 x3 : Vec Ideal S4x2048 .f32)
  (x4 x5 : Vec Ideal S2048x2048 .f32)

/-- The reference's normalized and modulated stream. -/
theorem ref_norm (b : Fin 4) (t d : Fin 2048) : val_main_v20 x0 x1 x2 x3 (ix3 b t d)
    = modulated (fun d => x0 (ix3 b t d)) (fun d => x1 (ix1 d)) (fun d => x2 (ix2 b d)) (fun d => x3 (ix2 b d)) d := by
  pointwise [val_main_v20, val_main_v19, val_main_v18, val_main_v17, val_main_v16, val_main_v15, val_main_v14, val_main_cst_2,
    val_main_v13, val_main_v12, val_main_v11, val_main_v10, val_main_v9, val_main_v8, val_main_v7, val_main_v6, val_main_v5,
    val_main_cst_1, val_main_v4, val_main_v3, val_main_cst_0, val_main_v2, val_main_v1, val_main_cst, val_main_v0, id]
  rfl

/-- The reference's result. -/
theorem ref_out (R : Fin 8192) (j : Fin 4096) : val_main_v25 x0 x1 x2 x3 x4 x5 (ix2 R j)
    = if h : (j : ℕ) < 2048 then
        ∑ k : Fin 2048, val_main_v20 x0 x1 x2 x3 (ix3 ⟨(R : ℕ) / 2048, by omega⟩ ⟨(R : ℕ) % 2048, by omega⟩ k) * x4 (ix2 k ⟨j, h⟩)
      else
        ∑ k : Fin 2048, val_main_v20 x0 x1 x2 x3 (ix3 ⟨(R : ℕ) / 2048, by omega⟩ ⟨(R : ℕ) % 2048, by omega⟩ k)
          * x5 (ix2 k ⟨(j : ℕ) - 2048, by omega⟩) := by
  unfold val_main_v25 val_main_v24 val_main_v23 val_main_v22 val_main_v21
  generalize val_main_v20 (F := Ideal) x0 x1 x2 x3 = y
  pointwise [id]

end Cert.KeyValue
-- ==== Proof.KeyValueLaunched.lean ====
module

public import proofs.«01_k».proof.Proof.Gen.Kernel6Ideal.Frame

/-!
# The run of the key and value projection program

The program from launch to exit, with what its result array holds at the end.
-/

@[expose] public section

set_option maxRecDepth 16384

noncomputable section

namespace Cert.KeyValue

open Cert.Kernel6Ideal Cert.Kernel6Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every execution ends, with the arguments unchanged and the result
array at the contents that the two calls leave in it. -/
theorem run_kv : θ_run defs (onTc (τ := τ) (main (F := F))) ⟨m, fun _ => 0, ρ⟩ (fun r => ∀ c : Dev nD,
      r.2.mem ((c.tc : Thread nD τ).loc main_v7) = (dat1 (V3 m ρ) c).arrAt 2 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz c =>
      ⟨(h c _ (mem_uc main_v7 (by decide))).trans (W4_arr m ρ c 2),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KeyValue
-- ==== Proof.KeyValueClaims.lean ====
module

public import proofs.«01_k».proof.Defs
public import proofs.«01_k».proof.Proof.Gen.Kernel6
public import proofs.«01_k».proof.Proof.Gen.Kernel6.Frame
public import proofs.«01_k».proof.Proof.KeyValue
public import proofs.«01_k».proof.Proof.KeyValueRef
public import proofs.«01_k».proof.Proof.KeyValueLaunched
public import Idealize.ShloMosaic.Lib.Claim

/-!
# The claims about the key and value projection
-/

@[expose] public section

set_option maxRecDepth 16384

noncomputable section

namespace Cert.Proof.KeyValueClaims

open Idealize.ShloMosaic Idealize.SL.Sem Idealize.ShloMosaic.Tactic

/-- The kernel runs, leaves its arguments unchanged and every counter at zero. -/
theorem frame_p : Cert.quiescent_Kernel6 := fun m ρ _ => Cert.Kernel6.Gen.frame m ρ

/-- So does the ideal kernel. -/
theorem frame_pi : Cert.quiescent_Kernel6Ideal := fun m ρ _ => Cert.Kernel6Ideal.Gen.frame m ρ

/-- So does the ideal reference. -/
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- No constant is named and no operation is rewritten. -/
theorem preserves : Cert.preserves_Kernel6_Kernel6Ideal := trivial

/-- Of arguments that agree the ideal kernel and the ideal reference compute the same array. -/
theorem algebraic : Cert.algebraic_Kernel6Ideal_Reference6Ideal := by
  pair_intro
  · run_from Cert.KeyValue.run_kv m g
  · run_from Cert.Reference6Ideal.Value.run m' g'
    rw [Cert.Reference6Ideal.Read.val_main_v25_eq]
    obtain ⟨-, -, -, -, h4, h5⟩ := hagree c
    rw [h4, h5]
    refine Eq.trans (funext fun y => ?_) (Cert.KeyValue.result m g c).symm
    obtain ⟨R, J, rfl⟩ : ∃ (R : Fin 8192) (J : Fin 4096), y = ix2 R J := ⟨y 0, y 1, by funext i; fin_cases i <;> rfl⟩
    refine (Cert.KeyValue.ref_out _ _ _ _ _ _ R J).trans ?_
    split
    · next hj =>
      exact Finset.sum_congr rfl fun k _ => congrArg₂ (· * ·) (Cert.KeyValue.ref_norm _ _ _ _ _ _ k) (Cert.KeyValue.joined_low _ _ k J hj).symm
    · next hj =>
      exact Finset.sum_congr rfl fun k _ => congrArg₂ (· * ·) (Cert.KeyValue.ref_norm _ _ _ _ _ _ k) (Cert.KeyValue.joined_high _ _ k J hj).symm

end Cert.Proof.KeyValueClaims

end
-- ==== Proof.Output.lean ====
module

public import proofs.«01_k».proof.Proof.Gen.Kernel7Ideal.Value
public import proofs.«01_k».proof.Proof.Layer
public import Idealize.ShloMosaic.Lib.StableHlo.ReadAt
public import Idealize.ShloMosaic.Lib.Pipeline.ValueKit

/-!
# The attention's output projection

What the output projection, gated and added to the residual stream, leaves in its array.
-/

@[expose] public section

set_option maxRecDepth 16384

noncomputable section

namespace Cert.Output

open Cert.Kernel7Ideal Cert.Kernel7Ideal.Gen Cert.Layer
open Idealize.ShloMosaic Idealize.ShloMosaic.TcCoe Idealize.ShloMosaic.Tactic
open Idealize.ShloMosaic.Pipeline (Dat)

/-- What a point stores at a row and a lane. -/
theorem pay_apply (w : Vec Ideal S2048x2048 .bf16) (h : Vec Ideal S512x2048 .bf16) (x : Vec Ideal S512x2048 .f32)
    (gt : Vec Ideal S1x1x2048 .f32) (r : Fin 512) (j : Fin 2048) :
    k0_pay1 w h x gt (ix2 r j) = gated (x (ix2 r j)) (gt (ix3 0 0 j)) (∑ k : Fin 2048, h (ix2 r k) * w (ix2 k j)) := by
  unfold gated
  pointwise [k0_pay1]

/-- What a point leaves at a row and a lane. -/
theorem out0_apply (c i arg3 harg3 arg4 harg4 arg5 harg5 arg6 harg6 arg7 harg7 arg8 harg8) (h : Vec Ideal S512x2048 .bf16)
    (w : Vec Ideal S2048x2048 .bf16) (x : Vec Ideal S512x2048 .f32) (gt : Vec Ideal S1x1x2048 .f32) (r : Fin 512) (j : Fin 2048) :
    out0_A_4 (F := Ideal) c i arg3 harg3 arg4 harg4 arg5 harg5 arg6 harg6 arg7 harg7 arg8 harg8 h w x gt (ix2 r j)
      = gated (x (ix2 r j)) (gt (ix3 0 0 j)) (∑ k : Fin 2048, h (ix2 r k) * w (ix2 k j)) := by
  unfold out0_A_4 kernelRun0_A
  frame_out
  exact pay_apply w h x gt r j

/-- The block of rows of a point. -/
def pr (t : Fin cfg0.N) : Fin 16 := grid0.coords t 0

/-- The blocks at each point. -/
theorem idx0 : ∀ t : Fin cfg0.N, win0_0.index t = ![(pr t : ℕ), 0] ∧ win0_1.index t = ![0, 0] ∧ win0_2.index t = ![(pr t : ℕ), 0]
    ∧ win0_3.index t = ![(pr t : ℕ) / 4, 0, 0] ∧ win0_4.index t = ![(pr t : ℕ), 0] :=
  (by decide +kernel : ∀ t : Fin grid0.N, _)

variable (m : (ℓ : Loc nD τ sig) → Buf (Elt Ideal) ℓ) (c : Dev nD)

/-- A point's rows of the attention. -/
theorem blk0_0 (t : Fin cfg0.N) (r : Fin 512) (k : Fin 2048) :
    iblk m c 0 t (ix2 r k) = V m c main_v0 (ix2 ⟨512 * pr t + r, by omega⟩ k) := by
  blk_ext [iblk, (idx0 t).1]

/-- The weights. -/
theorem blk0_1 (t : Fin cfg0.N) (k j : Fin 2048) : iblk m c 1 t (ix2 k j) = V m c main_v1 (ix2 k j) := by
  blk_ext [iblk, (idx0 t).2.1]

/-- A point's rows of the residual stream. -/
theorem blk0_2 (t : Fin cfg0.N) (r : Fin 512) (j : Fin 2048) :
    iblk m c 2 t (ix2 r j) = V m c main_v2 (ix2 ⟨512 * pr t + r, by omega⟩ j) := by
  blk_ext [iblk, (idx0 t).2.2.1]

/-- A point's gates. -/
theorem blk0_3 (t : Fin cfg0.N) (j : Fin 2048) :
    iblk m c 3 t (ix3 0 0 j) = V m c main_v3 (ix3 ⟨(pr t : ℕ) / 4, by omega⟩ 0 j) := by
  blk_ext [iblk, (idx0 t).2.2.2.1]

/-- Where a point writes. -/
theorem emb0_4 (t : Fin cfg0.N) (r : Fin 512) (j : Fin 2048) :
    (win0_4.blk t).view.emb (ix2 r j) = (ix2 ⟨512 * pr t + r, by omega⟩ j : S8192x2048.Idx) := by
  blk_ext [(idx0 t).2.2.2.2]

/-- The residual stream plus the gated product, at row `R` and lane `J`. -/
def outRow (h : Vec Ideal S8192x2048 .bf16) (w : Vec Ideal S2048x2048 .bf16) (x : Vec Ideal S8192x2048 .f32)
    (gt : Vec Ideal S4x1x2048 .f32) (R : Fin 8192) (J : Fin 2048) : EReal :=
  gated (x (ix2 R J)) (gt (ix3 ⟨(R : ℕ) / 2048, by omega⟩ 0 J)) (∑ k : Fin 2048, h (ix2 R k) * w (ix2 k J))

/-- After the program its result array holds every row's. -/
theorem out_array : (dats m 0 c).arrAt 4 cfg0.N = fun y : S8192x2048.Idx =>
    outRow (V m c main_v0) (V m c main_v1) (V m c main_v2) (V m c main_v3) (y 0) (y 1) := by
  refine (dats m 0 c).arrAt_eq_of_covers 4 _ (by decide +kernel) fun t hf y => ?_
  blk_simp
  rw [after0_4]
  unfold outsAt0
  obtain ⟨r, j, rfl⟩ : ∃ (r : Fin 512) (j : Fin 2048), y = ix2 r j := ⟨y 0, y 1, by funext a; fin_cases a <;> rfl⟩
  rw [emb0_4]
  refine (out0_apply _ _ _ _ _ _ _ _ _ _ _ _ _ _ _ _ _ _ r j).trans ?_
  have e : ∀ n, (⟨(512 * (pr t : ℕ) + r) / 2048, n⟩ : Fin 4) = ⟨(pr t : ℕ) / 4, by omega⟩ := fun n => Fin.ext (by dsimp only; omega)
  show _ = outRow _ _ _ _ ⟨512 * pr t + r, _⟩ j
  unfold outRow
  simp only [blk0_0, blk0_1, blk0_2, blk0_3, e]

/-- The attention's rows: sequence after sequence. -/
theorem y_at (R : Fin 8192) (d : Fin 2048) : (V m c main_v0 : Vec Ideal S8192x2048 .bf16) (ix2 R d)
    = (m ((c : Thread nD τ).loc main_arg0) : Vec Ideal S4x2048x2048 .bf16) (ix3 ⟨(R : ℕ) / 2048, by omega⟩ ⟨(R : ℕ) % 2048, by omega⟩ d) := by
  unfold V
  after_reads_at

/-- The weights as launched. -/
theorem w_at (k j : Fin 2048) : (V m c main_v1 : Vec Ideal S2048x2048 .bf16) (ix2 k j)
    = (m ((c : Thread nD τ).loc main_arg1) : Vec Ideal S2048x2048 .f32) (ix2 k j) := by
  unfold V
  after_reads_at

/-- The residual stream's rows: sequence after sequence. -/
theorem x_at (R : Fin 8192) (d : Fin 2048) : (V m c main_v2 : Vec Ideal S8192x2048 .f32) (ix2 R d)
    = (m ((c : Thread nD τ).loc main_arg2) : Vec Ideal S4x2048x2048 .f32) (ix3 ⟨(R : ℕ) / 2048, by omega⟩ ⟨(R : ℕ) % 2048, by omega⟩ d) := by
  unfold V
  after_reads_at

/-- The gates as launched. -/
theorem gt_at (b : Fin 4) (d : Fin 2048) : (V m c main_v3 : Vec Ideal S4x1x2048 .f32) (ix3 b 0 d)
    = (m ((c : Thread nD τ).loc main_arg3) : Vec Ideal S4x2048 .f32) (ix2 b d) := by
  unfold V
  after_reads_at

/-- The result of the program at row `R` and lane `J`, from its arguments. -/
def outOut (h : Vec Ideal S4x2048x2048 .bf16) (w : Vec Ideal S2048x2048 .f32) (x : Vec Ideal S4x2048x2048 .f32)
    (gt : Vec Ideal S4x2048 .f32) (R : Fin 8192) (J : Fin 2048) : EReal :=
  gated (x (ix3 ⟨(R : ℕ) / 2048, by omega⟩ ⟨(R : ℕ) % 2048, by omega⟩ J)) (gt (ix2 ⟨(R : ℕ) / 2048, by omega⟩ J))
    (∑ k : Fin 2048, h (ix3 ⟨(R : ℕ) / 2048, by omega⟩ ⟨(R : ℕ) % 2048, by omega⟩ k) * w (ix2 k J))

/-- The output projection's row, from the arguments. -/
theorem outRow_eq (R : Fin 8192) (J : Fin 2048) : outRow (V m c main_v0) (V m c main_v1) (V m c main_v2) (V m c main_v3) R J
    = outOut (m ((c : Thread nD τ).loc main_arg0)) (m ((c : Thread nD τ).loc main_arg1)) (m ((c : Thread nD τ).loc main_arg2))
      (m ((c : Thread nD τ).loc main_arg3)) R J := by
  unfold outRow outOut
  rw [x_at, gt_at]
  exact congrArg _ (Finset.sum_congr rfl fun k _ => congrArg₂ (· * ·) (y_at m c R k) (w_at m c k J))

/-- What the program leaves in its result array. -/
theorem result : (dats m 0 c).arrAt 4 cfg0.N = fun y : S8192x2048.Idx =>
    outOut (m ((c : Thread nD τ).loc main_arg0)) (m ((c : Thread nD τ).loc main_arg1)) (m ((c : Thread nD τ).loc main_arg2))
      (m ((c : Thread nD τ).loc main_arg3)) (y 0) (y 1) :=
  (out_array m c).trans (funext fun y => outRow_eq m c (y 0) (y 1))

end Cert.Output
-- ==== Proof.OutputRef.lean ====
module

public import proofs.«01_k».proof.Proof.Gen.Reference7Ideal.Read
public import Idealize.ShloMosaic.Lib.Pointwise

/-!
# The reference of the attention's output projection, at an index
-/

@[expose] public section

set_option maxRecDepth 16384

noncomputable section

namespace Cert.Output

open Cert.Reference7Ideal Cert.Reference7Ideal.Read
open Idealize.ShloMosaic Idealize.ShloMosaic.TcCoe Idealize.ShloMosaic.Tactic

/-- The reference's result. -/
theorem ref_out (x0 : Vec Ideal S4x2048x2048 .bf16) (x1 : Vec Ideal S2048x2048 .f32) (x2 : Vec Ideal S4x2048x2048 .f32)
    (x3 : Vec Ideal S4x2048 .f32) (R : Fin 8192) (J : Fin 2048) : val_main_v6 x0 x1 x2 x3 (ix2 R J)
    = x2 (ix3 ⟨(R : ℕ) / 2048, by omega⟩ ⟨(R : ℕ) % 2048, by omega⟩ J) + x3 (ix2 ⟨(R : ℕ) / 2048, by omega⟩ J)
      * ∑ k : Fin 2048, x0 (ix3 ⟨(R : ℕ) / 2048, by omega⟩ ⟨(R : ℕ) % 2048, by omega⟩ k) * x1 (ix2 k J) := by
  pointwise [val_main_v6, val_main_v5, val_main_v4, val_main_v3, val_main_v2, val_main_v1, val_main_v0, id]

end Cert.Output
-- ==== Proof.OutputClaims.lean ====
module

public import proofs.«01_k».proof.Defs
public import proofs.«01_k».proof.Proof.Gen.Kernel7
public import proofs.«01_k».proof.Proof.Gen.Kernel7.Frame
public import proofs.«01_k».proof.Proof.Output
public import proofs.«01_k».proof.Proof.OutputRef
public import Idealize.ShloMosaic.Lib.Claim

/-!
# The claims about the attention's output projection
-/

@[expose] public section

set_option maxRecDepth 16384

noncomputable section

namespace Cert.Proof.OutputClaims

open Idealize.ShloMosaic Idealize.SL.Sem Idealize.ShloMosaic.Tactic

/-- The kernel runs, leaves its arguments unchanged and every counter at zero. -/
theorem frame_p : Cert.quiescent_Kernel7 := fun m ρ _ => Cert.Kernel7.Gen.frame m ρ

/-- So does the ideal kernel. -/
theorem frame_pi : Cert.quiescent_Kernel7Ideal := fun m ρ _ => Cert.Kernel7Ideal.Gen.frame m ρ

/-- So does the ideal reference. -/
theorem frame_ri : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- No constant is named and no operation is rewritten. -/
theorem preserves : Cert.preserves_Kernel7_Kernel7Ideal := trivial

/-- Of arguments that agree the ideal kernel and the ideal reference compute the same array. -/
theorem algebraic : Cert.algebraic_Kernel7Ideal_Reference7Ideal := by
  pair_intro
  · run_from Cert.Kernel7Ideal.Value.run_blocks m g
  · run_from Cert.Reference7Ideal.Value.run m' g'
    rw [Cert.Reference7Ideal.Read.val_main_v6_eq]
    refine Eq.trans (funext fun y => ?_) (Cert.Output.result m c).symm
    obtain ⟨R, J, rfl⟩ : ∃ (R : Fin 8192) (J : Fin 2048), y = ix2 R J := ⟨y 0, y 1, by funext i; fin_cases i <;> rfl⟩
    exact Cert.Output.ref_out _ _ _ _ R J

end Cert.Proof.OutputClaims

end
-- ==== Proof.Lanes.lean ====
module

public import Idealize.ShloMosaic.Lib.Pointwise
public import Idealize.ShloMosaic.Lib.Pipeline.ValueKit

/-!
# The exchange of batches and lane groups

Four arrays of 128 lanes each, one per batch, against four arrays of 128 lanes each, one per group of 32
lanes: array `c` of the second kind holds, in its group of lanes `b`, group `c` of batch `b`. The kernels make it of
rotations along the lanes and selections by the number of the group.
-/

@[expose] public section

set_option maxRecDepth 16384

noncomputable section

namespace Cert.Lanes

open Idealize.ShloMosaic Idealize.ShloMosaic.TcCoe Idealize.ShloMosaic.Tactic

/-- Rows of 128 lanes. -/
abbrev L (n : ℕ) : Shape := ⟨2, ![n, 128]⟩

/-- Rotated by `k` groups. -/
def rot {n : ℕ} (hr : (L n).Rotates 1 none) (x : FVec Ideal (L n) .f32) : ℕ → FVec Ideal (L n) .f32
  | 0 => x
  | k + 1 => dynamicRotate 1 (BitVec.ofNat 32 (32 * (k + 1))) none x hr

/-- The number of each lane's group, as the kernels compute it on words. -/
def group (n : ℕ) (hi : (L n).Iotas .tc 32 [1]) : IVec (L n) 32 :=
  select (andi
      (cmpi .ne (subi (extui 32 (cmpi .sgt (iota .tc (L n) 32 [1] hi) (broadcast (L n) 0#32)) (by decide))
          (extui 32 (cmpi .slt (iota .tc (L n) 32 [1] hi) (broadcast (L n) 0#32)) (by decide)))
        (broadcast (L n) (Scalar.subi (Scalar.extui (Scalar.cmpi .sgt 32#32 0#32)) (Scalar.extui (Scalar.cmpi .slt 32#32 0#32)))))
      (cmpi .ne (remsi (iota .tc (L n) 32 [1] hi) (broadcast (L n) 32#32)) (broadcast (L n) 0#32)))
    (subi (divsi (iota .tc (L n) 32 [1] hi) (broadcast (L n) 32#32)) (broadcast (L n) 1#32))
    (divsi (iota .tc (L n) 32 [1] hi) (broadcast (L n) 32#32))

/-- The array of group `c`. -/
def lane {n : ℕ} (hr : (L n).Rotates 1 none) (hi : (L n).Iotas .tc 32 [1]) (c : Fin 4) (x0 x1 x2 x3 : FVec Ideal (L n) .f32) :
    FVec Ideal (L n) .f32 :=
  select (cmpi .eq (group n hi) (broadcast (L n) 3#32)) (rot hr x3 ((7 - c) % 4))
    (select (cmpi .eq (group n hi) (broadcast (L n) 2#32)) (rot hr x2 ((6 - c) % 4))
      (select (cmpi .eq (group n hi) (broadcast (L n) 1#32)) (rot hr x1 ((5 - c) % 4)) (rot hr x0 ((4 - c) % 4))))

/-- The one of four that has the number `b`. -/
def pick {α : Type} (x0 x1 x2 x3 : α) (b : Fin 4) : α := ![x0, x1, x2, x3] b

/-- The quotient by 32 that the kernels compute on words. -/
theorem div_word (j : Fin 128) :
    Scalar.select
        (IntOp.andi
          (IntOp.cmpi .ne
            (IntOp.subi (BitVec.setWidth 32 (IntOp.cmpi .sgt (BitVec.ofNat 32 (j : ℕ)) 0#32))
              (BitVec.setWidth 32 (IntOp.cmpi .slt (BitVec.ofNat 32 (j : ℕ)) 0#32)))
            (Scalar.subi (Scalar.extui (Scalar.cmpi .sgt 32#32 0#32)) (Scalar.extui (Scalar.cmpi .slt 32#32 0#32))))
          (IntOp.cmpi .ne (IntOp.remsi .vector (BitVec.ofNat 32 (j : ℕ)) 32#32) 0#32))
        (IntOp.subi (IntOp.divsi .vector (BitVec.ofNat 32 (j : ℕ)) 32#32) 1#32)
        (IntOp.divsi .vector (BitVec.ofNat 32 (j : ℕ)) 32#32)
      = BitVec.ofNat 32 ((j : ℕ) / 32) := by
  revert j; decide +kernel

/-- The number of a lane's group. -/
theorem group_apply {n : ℕ} (hi : (L n).Iotas .tc 32 [1]) (t : Fin n) (l : Fin 128) :
    group n hi (ix2 t l) = BitVec.ofNat 32 ((l : ℕ) / 32) := by
  refine Eq.trans ?_ (div_word l)
  pointwise [group]

/-- A rotation by groups of lanes. -/
theorem rot_apply {n : ℕ} (hr : (L n).Rotates 1 none) (x : FVec Ideal (L n) .f32) (k : ℕ) (hk : k < 4) (t : Fin n) (l : Fin 128) :
    rot hr x k (ix2 t l) = x (ix2 t ⟨((l : ℕ) + 128 - 32 * k) % 128, Nat.mod_lt _ (by norm_num)⟩) := by
  match k, hk with
  | 0, _ => exact congrArg x (congrArg (ix2 t) (Fin.ext (by simp; omega)))
  | 1, _ =>
    unfold rot; pointwise
    refine congrArg x (funext fun b => ?_); fin_cases b <;> rfl
  | 2, _ =>
    unfold rot; pointwise
    refine congrArg x (funext fun b => ?_); fin_cases b <;> rfl
  | 3, _ =>
    unfold rot; pointwise
    refine congrArg x (funext fun b => ?_); fin_cases b <;> rfl

/-- Three selections by the number of the group pick the array of that number. -/
theorem select_pick (w : BitVec 32) (b : Fin 4) (hw : w = BitVec.ofNat 32 (b : ℕ)) (a0 a1 a2 a3 : EReal) :
    Scalar.select (IntOp.cmpi .eq w 3#32) a3 (Scalar.select (IntOp.cmpi .eq w 2#32) a2 (Scalar.select (IntOp.cmpi .eq w 1#32) a1 a0))
      = pick a0 a1 a2 a3 b := by
  subst hw
  fin_cases b <;> rfl

/-- The array of group `c` holds, in its group of lanes `b`, group `c` of batch `b`. -/
theorem lane_apply {n : ℕ} (hr : (L n).Rotates 1 none) (hi : (L n).Iotas .tc 32 [1]) (c : Fin 4) (x0 x1 x2 x3 : FVec Ideal (L n) .f32)
    (t : Fin n) (l : Fin 128) : lane hr hi c x0 x1 x2 x3 (ix2 t l)
      = pick x0 x1 x2 x3 ⟨(l : ℕ) / 32, by omega⟩ (ix2 t ⟨32 * c + (l : ℕ) % 32, by omega⟩) := by
  have e : lane hr hi c x0 x1 x2 x3 (ix2 t l)
      = Scalar.select (IntOp.cmpi .eq (group n hi (ix2 t l)) 3#32) (rot hr x3 ((7 - c) % 4) (ix2 t l))
          (Scalar.select (IntOp.cmpi .eq (group n hi (ix2 t l)) 2#32) (rot hr x2 ((6 - c) % 4) (ix2 t l))
            (Scalar.select (IntOp.cmpi .eq (group n hi (ix2 t l)) 1#32) (rot hr x1 ((5 - c) % 4) (ix2 t l)) (rot hr x0 ((4 - c) % 4) (ix2 t l)))) := rfl
  rw [e, select_pick _ ⟨(l : ℕ) / 32, by omega⟩ (group_apply hi t l), rot_apply _ _ _ (Nat.mod_lt _ (by norm_num)),
    rot_apply _ _ _ (Nat.mod_lt _ (by norm_num)), rot_apply _ _ _ (Nat.mod_lt _ (by norm_num)), rot_apply _ _ _ (Nat.mod_lt _ (by norm_num))]
  have hb : (l : ℕ) / 32 < 4 := by omega
  generalize hq : (⟨(l : ℕ) / 32, hb⟩ : Fin 4) = b
  have hb' : (l : ℕ) / 32 = b := congrArg Fin.val hq
  have key : ∀ (x : FVec Ideal (L n) .f32) (k : ℕ), (b : ℕ) + 4 - c = k →
      x (ix2 t ⟨((l : ℕ) + 128 - 32 * (k % 4)) % 128, Nat.mod_lt _ (by norm_num)⟩) = x (ix2 t ⟨32 * c + (l : ℕ) % 32, by omega⟩) :=
    fun x k hk => congrArg x (congrArg (ix2 t) (Fin.ext (by dsimp only; omega)))
  fin_cases b
  · exact key x0 _ (by simp)
  · exact key x1 _ (by simp)
  · exact key x2 _ (by simp)
  · exact key x3 _ (by simp)

/-- Rows and lanes of a product: 128 rows of each batch, a head lane group after the other. -/
abbrev Rows : Shape := ⟨2, ![512, 2048]⟩

/-- Planes of head lanes, of 128 rows each. -/
abbrev Planes : Shape := ⟨3, ![64, 128, 128]⟩

/-- The channel that the kernels put at lane `j`: head `j % 32`, group of four `j / 128`, channel `j / 32 % 4` of it. -/
def channel (j : Fin 2048) : Fin 2048 := ⟨(j : ℕ) % 32 * 64 + (j : ℕ) / 128 * 4 + (j : ℕ) / 32 % 4, by omega⟩

/-- One plane of head lanes. -/
abbrev Plane : Shape := ⟨3, ![1, 128, 128]⟩

/-- The lane groups `g` of batch `b`. -/
def cut (acc : FVec Ideal Rows .f32) (b g : ℕ) (h : Rows.Slices ![128 * b, 128 * g] (L 128)) : FVec Ideal (L 128) .f32 :=
  extractStridedSlice (L 128) ![128 * b, 128 * g] acc h

/-- Every cut fits. -/
theorem cut_fits {b g : ℕ} (hb : b < 4) (hg : g < 16) : Rows.Slices ![128 * b, 128 * g] (L 128) := by
  refine ⟨rfl, fun a => ?_⟩
  fin_cases a <;> simp [Rows, L] <;> omega

/-- Every plane fits. -/
theorem plane_fits (g : Fin 16) (c : Fin 4) : ∀ a, (![16 * (c : ℕ) + g, 0, 0] : Fin 3 → ℕ) a + Plane.size a ≤ Planes.size a := by
  intro a
  fin_cases a <;> simp [Plane, Planes] <;> omega

/-- The plane of head lanes of lane groups `g` and channel `c` in a group of four. -/
def plane (acc : FVec Ideal Rows .f32) (g : Fin 16) (c : Fin 4) : FVec Ideal Plane .f32 :=
  shapeCast Plane (lane (n := 128) (by decide) (by decide) c (cut acc 0 g (cut_fits (by norm_num) g.2)) (cut acc 1 g (cut_fits (by norm_num) g.2))
    (cut acc 2 g (cut_fits (by norm_num) g.2)) (cut acc 3 g (cut_fits (by norm_num) g.2))) (by decide)

/-- Its store. -/
def store (acc : FVec Ideal Rows .f32) (g : Fin 16) (c : Fin 4) : View.Piece (Elt Ideal) Planes .f32 :=
  ⟨Rect.unit ![16 * (c : ℕ) + g, 0, 0] Plane.size (plane_fits g c), plane acc g c⟩

/-- The stores of all planes, the last one first. -/
def stores (acc : FVec Ideal Rows .f32) : List (View.Piece (Elt Ideal) Planes .f32) :=
  ([15, 14, 13, 12, 11, 10, 9, 8, 7, 6, 5, 4, 3, 2, 1, 0] : List (Fin 16)).flatMap fun g =>
    ([3, 2, 1, 0] : List (Fin 4)).map (store acc g)

/-- Where head lane `l` of plane `p` lies among the rows: its row. -/
theorem row_lt (t : Fin 128) (l : Fin 128) : 128 * ((l : ℕ) / 32) + t < 512 := by omega

/-- Where head lane `l` of plane `p` lies among the lanes. -/
theorem lane_lt (p : Fin 64) (l : Fin 128) : 128 * ((p : ℕ) % 16) + (32 * ((p : ℕ) / 16) + (l : ℕ) % 32) < 2048 := by omega

/-- The lane of the product that plane `p` holds at head lane `l`. -/
def laneOf (p : Fin 64) (l : Fin 128) : Fin 2048 := ⟨128 * ((p : ℕ) % 16) + (32 * ((p : ℕ) / 16) + (l : ℕ) % 32), lane_lt p l⟩

/-- The channel that plane `p` holds at head lane `l`: head `l % 32`, group of four `p % 16`, channel `p / 16` of it. -/
def channelOf (p : Fin 64) (l : Fin 128) : Fin 2048 := ⟨(l : ℕ) % 32 * 64 + (p : ℕ) % 16 * 4 + (p : ℕ) / 16, by omega⟩

/-- The batch of head lane `l`. -/
def batchOf (l : Fin 128) : Fin 4 := ⟨(l : ℕ) / 32, by omega⟩

/-- The channels of the kernels' lanes. -/
theorem channel_laneOf (p : Fin 64) (l : Fin 128) : channel (laneOf p l) = channelOf p l := by
  refine Fin.ext ?_
  unfold channel laneOf channelOf
  dsimp only
  omega

/-- A projection, given by head lanes: at plane `p`, time `T` and head lane `l`. -/
def project (x : FVec Ideal ⟨3, ![4, 2048, 2048]⟩ .bf16) (w : FVec Ideal ⟨2, ![2048, 2048]⟩ .f32) (p : Fin 64) (T : Fin 2048) (l : Fin 128) :
    EReal := ∑ k : Fin 2048, x (ix3 (batchOf l) T k) * w (ix2 k (channelOf p l))

/-- A low-rank projection with a bias, given by head lanes, `act` applied between its two factors. -/
def lowRank (act : EReal → EReal) (x : FVec Ideal ⟨3, ![4, 2048, 2048]⟩ .bf16) (w1 : FVec Ideal ⟨2, ![2048, 96]⟩ .f32)
    (w2 : FVec Ideal ⟨2, ![96, 2048]⟩ .f32) (bias : FVec Ideal ⟨1, ![2048]⟩ .f32) (p : Fin 64) (T : Fin 2048) (l : Fin 128) : EReal :=
  bias (ix1 (channelOf p l)) + ∑ r : Fin 96, act (∑ k : Fin 2048, x (ix3 (batchOf l) T k) * w1 (ix2 k r)) * w2 (ix2 r (channelOf p l))

/-- A sum over a rank padded with zeros. -/
theorem sum_padded (f : Fin 128 → EReal) (h : ∀ r : Fin 128, 96 ≤ (r : ℕ) → f r = 0) :
    ∑ r : Fin 128, f r = ∑ r : Fin 96, f ⟨r, by omega⟩ := by
  refine (Fin.sum_univ_add (a := 96) (b := 32) f).trans ?_
  rw [Finset.sum_eq_zero (s := (Finset.univ : Finset (Fin 32))) fun r _ => h _ (Nat.le_add_right 96 r), add_zero]
  rfl

/-- A vector regrouped to the kernels' lanes, as one row. -/
theorem regrouped_apply (x : FVec Ideal ⟨1, ![2048]⟩ .f32) (h1 : (⟨1, ![2048]⟩ : Shape).ShapeCasts ⟨3, ![32, 16, 4]⟩)
    (h2 : (⟨3, ![32, 16, 4]⟩ : Shape).Transposes [1, 2, 0] ⟨3, ![16, 4, 32]⟩) (h3 : (⟨3, ![16, 4, 32]⟩ : Shape).ShapeCasts ⟨1, ![2048]⟩)
    (h4 : (⟨1, ![2048]⟩ : Shape).ShapeCasts ⟨2, ![1, 2048]⟩) (j : Fin 2048) :
    shapeCast ⟨2, ![1, 2048]⟩ (shapeCast ⟨1, ![2048]⟩ (transpose ⟨3, ![16, 4, 32]⟩ [1, 2, 0] (shapeCast ⟨3, ![32, 16, 4]⟩ x h1) h2) h3) h4 (ix2 0 j)
      = x (ix1 (channel j)) := by
  refine (shapeCast_apply _ _ (ix2 0 j) (ix1 j) ?_).trans ?_
  · rw [Shape.rowMajor_val_one, Shape.rowMajor_val_two]
    show (j : ℕ) = 0 * 2048 + j
    omega
  refine (shapeCast_apply _ _ (ix1 j) (ix3 ⟨(j : ℕ) / 128, by omega⟩ ⟨(j : ℕ) / 32 % 4, by omega⟩ ⟨(j : ℕ) % 32, by omega⟩) ?_).trans ?_
  · rw [Shape.rowMajor_val_one, Shape.rowMajor_val_three]
    show ((j : ℕ) / 128 * 4 + (j : ℕ) / 32 % 4) * 32 + (j : ℕ) % 32 = j
    omega
  refine (transpose_apply _ _ _ _ (ix3 ⟨(j : ℕ) % 32, by omega⟩ ⟨(j : ℕ) / 128, by omega⟩ ⟨(j : ℕ) / 32 % 4, by omega⟩) ?_).trans ?_
  · intro a; fin_cases a <;> rfl
  refine shapeCast_apply _ _ _ (ix1 (channel j)) ?_
  rw [Shape.rowMajor_val_one, Shape.rowMajor_val_three]
  show (j : ℕ) % 32 * 64 + (j : ℕ) / 128 * 4 + (j : ℕ) / 32 % 4 = ((j : ℕ) % 32 * 16 + (j : ℕ) / 128) * 4 + (j : ℕ) / 32 % 4
  omega

/-- All planes, from the product's rows. -/
def headLanes (acc : FVec Ideal Rows .f32) : FVec Ideal Planes .f32 := fun y =>
  acc (ix2 ⟨128 * (((y 2 : Fin 128) : ℕ) / 32) + ((y 1 : Fin 128) : ℕ), row_lt (y 1) (y 2)⟩
    ⟨128 * (((y 0 : Fin 64) : ℕ) % 16) + (32 * (((y 0 : Fin 64) : ℕ) / 16) + ((y 2 : Fin 128) : ℕ) % 32), lane_lt (y 0) (y 2)⟩)

/-- A cut at a row and a lane. -/
theorem cut_apply (acc : FVec Ideal Rows .f32) (b : Fin 4) (g : Fin 16) (h) (t l : Fin 128) : cut acc b g h (ix2 t l)
    = acc (ix2 ⟨128 * b + t, by omega⟩ ⟨128 * g + l, by omega⟩) := by
  unfold cut
  refine congrArg acc (funext fun a => ?_)
  fin_cases a <;> rfl

/-- A plane at a row and a lane. -/
theorem plane_apply (acc : FVec Ideal Rows .f32) (g : Fin 16) (c : Fin 4) (t l : Fin 128) : plane acc g c (ix3 0 t l)
    = acc (ix2 ⟨128 * ((l : ℕ) / 32) + t, row_lt t l⟩ ⟨128 * g + (32 * c + (l : ℕ) % 32), by omega⟩) := by
  have e : plane acc g c (ix3 0 t l) = lane (n := 128) (by decide) (by decide) c (cut acc 0 g (cut_fits (by norm_num) g.2))
      (cut acc 1 g (cut_fits (by norm_num) g.2)) (cut acc 2 g (cut_fits (by norm_num) g.2)) (cut acc 3 g (cut_fits (by norm_num) g.2))
      (ix2 t l) := by
    unfold plane
    pointwise
  rw [e, lane_apply]
  have hb : (l : ℕ) / 32 < 4 := by omega
  have key : ∀ b : Fin 4, pick (cut acc 0 g (cut_fits (by norm_num) g.2)) (cut acc 1 g (cut_fits (by norm_num) g.2))
      (cut acc 2 g (cut_fits (by norm_num) g.2)) (cut acc 3 g (cut_fits (by norm_num) g.2)) b = cut acc b g (cut_fits b.2 g.2) := by
    intro b; fin_cases b <;> rfl
  rw [key ⟨(l : ℕ) / 32, hb⟩]
  exact cut_apply acc ⟨(l : ℕ) / 32, hb⟩ g _ t _

/-- A store stores its plane of the head lanes. -/
theorem store_apply (acc : FVec Ideal Rows .f32) (g : Fin 16) (c : Fin 4) (x : (store acc g c).1.shape.Idx) :
    (store acc g c).2 x = headLanes acc ((store acc g c).1.emb x) := by
  obtain ⟨t, l, rfl⟩ : ∃ (t l : Fin 128), x = (ix3 0 t l : Plane.Idx) := ⟨x 1, x 2, by
    funext a
    fin_cases a
    · exact Fin.ext (Nat.lt_one_iff.mp (x 0).2)
    · rfl
    · rfl⟩
  refine (plane_apply acc g c t l).trans ?_
  unfold headLanes
  refine congrArg acc ?_
  have h0 : ((((store acc g c).1.emb (ix3 0 t l : Plane.Idx)) 0 : Fin 64) : ℕ) = 16 * c + g := by
    show 16 * (c : ℕ) + g + 1 * 0 = _; omega
  have h1 : ((((store acc g c).1.emb (ix3 0 t l : Plane.Idx)) 1 : Fin 128) : ℕ) = t := by
    show 0 + 1 * (t : ℕ) = t; omega
  have h2 : ((((store acc g c).1.emb (ix3 0 t l : Plane.Idx)) 2 : Fin 128) : ℕ) = l := by
    show 0 + 1 * (l : ℕ) = l; omega
  refine congrArg₂ ix2 (Fin.ext ?_) (Fin.ext ?_)
  · dsimp only; rw [h1, h2]
  · dsimp only; rw [h0, h2]; omega

/-- Every plane is stored. -/
theorem stores_cover (acc : FVec Ideal Rows .f32) (y : Planes.Idx) : ∃ p ∈ stores acc, y ∈ p.1.set :=
  View.cover_of_tiled (stores acc) Plane.size (by rfl) y

/-- Together the stores leave the head lanes. -/
theorem canon_stores (acc : FVec Ideal Rows .f32) : View.canon (stores acc) = headLanes acc :=
  funext fun y => View.canon_apply_of_pieces _ _ (fun p hp => by
    obtain ⟨g, -, hp⟩ := List.mem_flatMap.mp hp
    obtain ⟨c, -, rfl⟩ := List.mem_map.mp hp
    exact store_apply acc g c) y (stores_cover acc y)

end Cert.Lanes
-- ==== Proof.Receptance.lean ====
module

public import proofs.«01_k».proof.Proof.Gen.Kernel10Ideal.Value
public import proofs.«01_k».proof.Proof.Lanes
public import Idealize.ShloMosaic.Lib.StableHlo.ReadAt

/-!
# The time mixing's receptances and gates

What the projection to receptances, given by head lanes, and the low-rank projection to gates leave in their arrays.
-/

@[expose] public section

set_option maxRecDepth 16384

noncomputable section

namespace Cert.Receptance

open Cert.Kernel10Ideal Cert.Kernel10Ideal.Gen Cert.Lanes
open Idealize.ShloMosaic Idealize.ShloMosaic.TcCoe Idealize.ShloMosaic.Tactic
open Idealize.ShloMosaic.Pipeline (Dat)

/-- The product at a row and a lane. -/
theorem product_apply (x : Vec Ideal S4x128x2048 .bf16) (w : Vec Ideal S2048x2048 .bf16) (r : Fin 512) (j : Fin 2048) :
    k0_pay3 x w (ix2 r j) = ∑ k : Fin 2048, x (ix3 ⟨(r : ℕ) / 128, by omega⟩ ⟨(r : ℕ) % 128, by omega⟩ k) * w (ix2 k j) := by
  pointwise [k0_pay3]

/-- The stores of the first result are those of the product's planes of head lanes. -/
theorem out0_6_eq (x0 : Vec Ideal S4x128x2048 .bf16) (x1 : Vec Ideal S2048x2048 .bf16) (x2 x3 x4 x5) :
    out0_6 (F := Ideal) x0 x1 x2 x3 x4 x5 = View.canon (stores (k0_pay3 (View.ld x0 r0_0) (View.ld x1 r0_1))) := rfl

/-- What a point stores of the second result. -/
theorem gate_apply (x : Vec Ideal S4x128x2048 .bf16) (w1 : Vec Ideal S2048x256 .bf16) (w2 : Vec Ideal S256x2048 .bf16)
    (bias : Vec Ideal S1x2048 .f32) (b : Fin 4) (t : Fin 128) (j : Fin 2048) :
    k0_pay2 x w1 w2 bias (ix3 b t j)
      = (∑ r : Fin 256, Ideal.logistic (∑ k : Fin 2048, x (ix3 b t k) * w1 (ix2 k r)) * w2 (ix2 r j)) + bias (ix2 0 j) := by
  pointwise [k0_pay2]

/-- What a point leaves of the first result, at a plane, a row and a head lane. -/
theorem out0_6_apply (x0 : Vec Ideal S4x128x2048 .bf16) (x1 : Vec Ideal S2048x2048 .bf16) (x2 x3 x4 x5) (p : Fin 64) (t l : Fin 128) :
    out0_6 (F := Ideal) x0 x1 x2 x3 x4 x5 (ix3 p t l) = ∑ k : Fin 2048, x0 (ix3 (batchOf l) t k)
      * x1 (ix2 k (laneOf p l)) := by
  rw [out0_6_eq, canon_stores, View.ld_unit_lit (h := by decide), View.ld_unit_lit (h := by decide)]
  refine (product_apply x0 x1 ⟨128 * ((l : ℕ) / 32) + t, row_lt t l⟩ _).trans (Finset.sum_congr rfl fun k _ => ?_)
  refine congrArg (· * _) (congrArg x0 ?_)
  exact congrArg₂ (fun a b => ix3 a b k) (Fin.ext (by unfold batchOf; dsimp only; omega)) (Fin.ext (by dsimp only; omega))

/-- What a point leaves of the second result. -/
theorem out0_7_apply (x0 x1) (x2 : Vec Ideal S4x128x2048 .bf16) (x3 : Vec Ideal S2048x256 .bf16) (x4 : Vec Ideal S256x2048 .bf16)
    (x5 : Vec Ideal S1x2048 .f32) (b : Fin 4) (t : Fin 128) (j : Fin 2048) : out0_7 (F := Ideal) x0 x1 x2 x3 x4 x5 (ix3 b t j)
      = (∑ r : Fin 256, Ideal.logistic (∑ k : Fin 2048, x2 (ix3 b t k) * x3 (ix2 k r)) * x4 (ix2 r j)) + x5 (ix2 0 j) := by
  unfold out0_7
  rw [View.canon_cons_unit_lit (h := by decide), View.ld_unit_lit (h := by decide), View.ld_unit_lit (h := by decide),
    View.ld_unit_lit (h := by decide), View.ld_unit_lit (h := by decide)]
  exact gate_apply x2 x3 x4 x5 b t j

/-- The block of times of a point. -/
def pt (t : Fin cfg0.N) : Fin 16 := grid0.coords t 0

/-- The blocks at each point. -/
theorem idx0 : ∀ t : Fin cfg0.N, win0_0.index t = ![0, (pt t : ℕ), 0] ∧ win0_1.index t = ![0, 0] ∧ win0_2.index t = ![0, (pt t : ℕ), 0]
    ∧ win0_3.index t = ![0, 0] ∧ win0_4.index t = ![0, 0] ∧ win0_5.index t = ![0, 0] ∧ win0_6.index t = ![0, (pt t : ℕ), 0]
    ∧ win0_7.index t = ![0, (pt t : ℕ), 0] :=
  (by decide +kernel : ∀ t : Fin grid0.N, _)

variable (m : (ℓ : Loc nD τ sig) → Buf (Elt Ideal) ℓ) (c : Dev nD)

/-- A point's rows of the receptances' inputs. -/
theorem blk0_0 (t : Fin cfg0.N) (b : Fin 4) (r : Fin 128) (k : Fin 2048) :
    iblk m c 0 t (ix3 b r k) = V m c main_arg0 (ix3 b ⟨128 * pt t + r, by omega⟩ k) := by
  blk_ext [iblk, (idx0 t).1]

/-- The weights, by head lanes. -/
theorem blk0_1 (t : Fin cfg0.N) (k j : Fin 2048) : iblk m c 1 t (ix2 k j) = V m c main_v3 (ix2 k j) := by
  blk_ext [iblk, (idx0 t).2.1]

/-- A point's rows of the gates' inputs. -/
theorem blk0_2 (t : Fin cfg0.N) (b : Fin 4) (r : Fin 128) (k : Fin 2048) :
    iblk m c 2 t (ix3 b r k) = V m c main_arg2 (ix3 b ⟨128 * pt t + r, by omega⟩ k) := by
  blk_ext [iblk, (idx0 t).2.2.1]

/-- The first low-rank factor. -/
theorem blk0_3 (t : Fin cfg0.N) (k : Fin 2048) (r : Fin 256) : iblk m c 3 t (ix2 k r) = V m c main_v7 (ix2 k r) := by
  blk_ext [iblk, (idx0 t).2.2.2.1]

/-- The second low-rank factor. -/
theorem blk0_4 (t : Fin cfg0.N) (r : Fin 256) (j : Fin 2048) : iblk m c 4 t (ix2 r j) = V m c main_v8 (ix2 r j) := by
  blk_ext [iblk, (idx0 t).2.2.2.2.1]

/-- The bias. -/
theorem blk0_5 (t : Fin cfg0.N) (j : Fin 2048) : iblk m c 5 t (ix2 0 j) = V m c main_v10 (ix2 0 j) := by
  blk_ext [iblk, (idx0 t).2.2.2.2.2.1]

/-- Where a point writes the first result. -/
theorem emb0_6 (t : Fin cfg0.N) (p : Fin 64) (r l : Fin 128) :
    (win0_6.blk t).view.emb (ix3 p r l) = (ix3 p ⟨128 * pt t + r, by omega⟩ l : S64x2048x128.Idx) := by
  blk_ext [(idx0 t).2.2.2.2.2.2.1]

/-- Where a point writes the second result. -/
theorem emb0_7 (t : Fin cfg0.N) (b : Fin 4) (r : Fin 128) (j : Fin 2048) :
    (win0_7.blk t).view.emb (ix3 b r j) = (ix3 b ⟨128 * pt t + r, by omega⟩ j : S4x2048x2048.Idx) := by
  blk_ext [(idx0 t).2.2.2.2.2.2.2]

/-- The receptances, by head lanes. -/
def lanes (x : Vec Ideal S4x2048x2048 .bf16) (w : Vec Ideal S2048x2048 .bf16) (p : Fin 64) (T : Fin 2048) (l : Fin 128) : EReal :=
  ∑ k : Fin 2048, x (ix3 (batchOf l) T k)
    * w (ix2 k (laneOf p l))

/-- The gates. -/
def gates (x : Vec Ideal S4x2048x2048 .bf16) (w1 : Vec Ideal S2048x256 .bf16) (w2 : Vec Ideal S256x2048 .bf16)
    (bias : Vec Ideal S1x2048 .f32) (b : Fin 4) (T j : Fin 2048) : EReal :=
  (∑ r : Fin 256, Ideal.logistic (∑ k : Fin 2048, x (ix3 b T k) * w1 (ix2 k r)) * w2 (ix2 r j)) + bias (ix2 0 j)

/-- After the program its first result holds all receptances. -/
theorem lanes_array : (dats m 0 c).arrAt 6 cfg0.N = fun y : S64x2048x128.Idx =>
    lanes (V m c main_arg0) (V m c main_v3) (y 0) (y 1) (y 2) := by
  refine (dats m 0 c).arrAt_eq_of_covers 6 _ (by decide +kernel) fun t hf y => ?_
  blk_simp
  rw [after0_6]
  obtain ⟨p, r, l, rfl⟩ : ∃ (p : Fin 64) (r l : Fin 128), y = ix3 p r l := ⟨y 0, y 1, y 2, by funext a; fin_cases a <;> rfl⟩
  rw [emb0_6]
  refine (out0_6_apply _ _ _ _ _ _ p r l).trans ?_
  show _ = lanes _ _ p ⟨128 * pt t + r, _⟩ l
  unfold lanes
  simp only [blk0_0, blk0_1]

/-- After the program its second result holds all gates. -/
theorem gates_array : (dats m 0 c).arrAt 7 cfg0.N = fun y : S4x2048x2048.Idx =>
    gates (V m c main_arg2) (V m c main_v7) (V m c main_v8) (V m c main_v10) (y 0) (y 1) (y 2) := by
  refine (dats m 0 c).arrAt_eq_of_covers 7 _ (by decide +kernel) fun t hf y => ?_
  blk_simp
  rw [after0_7]
  obtain ⟨b, r, j, rfl⟩ : ∃ (b : Fin 4) (r : Fin 128) (j : Fin 2048), y = ix3 b r j := ⟨y 0, y 1, y 2, by funext a; fin_cases a <;> rfl⟩
  rw [emb0_7]
  refine (out0_7_apply _ _ _ _ _ _ b r j).trans ?_
  show _ = gates _ _ _ _ b ⟨128 * pt t + r, _⟩ j
  unfold gates
  simp only [blk0_2, blk0_3, blk0_4, blk0_5]

/-- The weights as launched. -/
theorem w_at (k j : Fin 2048) : (V m c main_v3 : Vec Ideal S2048x2048 .bf16) (ix2 k j)
    = (m ((c : Thread nD τ).loc main_arg1) : Vec Ideal S2048x2048 .f32) (ix2 k (channel j)) := by
  unfold V
  after_reads_at
  rfl

/-- The first factor as launched. -/
theorem w1_at (k : Fin 2048) (r : Fin 256) : (V m c main_v7 : Vec Ideal S2048x256 .bf16) (ix2 k r)
    = (m ((c : Thread nD τ).loc main_arg3) : Vec Ideal S2048x256 .f32) (ix2 k r) := by
  unfold V
  after_reads_at

/-- The second factor as launched. -/
theorem w2_at (r : Fin 256) (j : Fin 2048) : (V m c main_v8 : Vec Ideal S256x2048 .bf16) (ix2 r j)
    = (m ((c : Thread nD τ).loc main_arg4) : Vec Ideal S256x2048 .f32) (ix2 r (channel j)) := by
  unfold V
  after_reads_at
  rfl

/-- The bias is zero. -/
theorem bias_at (j : Fin 2048) : @Eq EReal ((V m c main_v10 : Vec Ideal S1x2048 .f32) (ix2 0 j)) 0 := by
  unfold V
  after_reads_at

/-- The gates, from the arguments. -/
def gatesOut (x : Vec Ideal S4x2048x2048 .bf16) (w1 : Vec Ideal S2048x256 .f32) (w2 : Vec Ideal S256x2048 .f32) (b : Fin 4) (T j : Fin 2048) :
    EReal := ∑ r : Fin 256, Ideal.logistic (∑ k : Fin 2048, x (ix3 b T k) * w1 (ix2 k r)) * w2 (ix2 r (channel j))

/-- The receptances, from the arguments. -/
theorem lanes_eq (p : Fin 64) (T : Fin 2048) (l : Fin 128) : lanes (V m c main_arg0) (V m c main_v3) p T l
    = project (m ((c : Thread nD τ).loc main_arg0)) (m ((c : Thread nD τ).loc main_arg1)) p T l := by
  unfold lanes project
  refine Finset.sum_congr rfl fun k _ => ?_
  rw [w_at, channel_laneOf, V_main_arg0]

/-- The gates, from the arguments. -/
theorem gates_eq (b : Fin 4) (T j : Fin 2048) : gates (V m c main_arg2) (V m c main_v7) (V m c main_v8) (V m c main_v10) b T j
    = gatesOut (m ((c : Thread nD τ).loc main_arg2)) (m ((c : Thread nD τ).loc main_arg3)) (m ((c : Thread nD τ).loc main_arg4)) b T j := by
  unfold gates gatesOut
  rw [bias_at, V_main_arg2]
  refine (add_zero _).trans (Finset.sum_congr rfl fun r _ => ?_)
  exact congrArg₂ (fun a b => Ideal.logistic a * b) (Finset.sum_congr rfl fun k _ => congrArg _ (w1_at m c k r)) (w2_at m c r j)

/-- What the program leaves in its first result. -/
theorem result : (dats m 0 c).arrAt 6 cfg0.N = fun y : S64x2048x128.Idx =>
    project (m ((c : Thread nD τ).loc main_arg0)) (m ((c : Thread nD τ).loc main_arg1)) (y 0) (y 1) (y 2) :=
  (lanes_array m c).trans (funext fun y => lanes_eq m c (y 0) (y 1) (y 2))

/-- What the program leaves in its second result. -/
theorem result_gates : (dats m 0 c).arrAt 7 cfg0.N = fun y : S4x2048x2048.Idx =>
    gatesOut (m ((c : Thread nD τ).loc main_arg2)) (m ((c : Thread nD τ).loc main_arg3)) (m ((c : Thread nD τ).loc main_arg4)) (y 0) (y 1) (y 2) :=
  (gates_array m c).trans (funext fun y => gates_eq m c (y 0) (y 1) (y 2))

end Cert.Receptance
-- ==== Proof.ReceptanceRef.lean ====
module

public import proofs.«01_k».proof.Proof.Gen.Reference10Ideal.Read
public import proofs.«01_k».proof.Proof.Lanes

/-!
# The reference's receptances and gates
-/

@[expose] public section

set_option maxRecDepth 16384

noncomputable section

namespace Cert.Receptance

open Cert.Reference10Ideal Cert.Reference10Ideal.Gen Cert.Reference10Ideal.Read Cert.Lanes
open Idealize.ShloMosaic Idealize.ShloMosaic.TcCoe Idealize.ShloMosaic.Tactic

/-- The reference's receptances. -/
theorem ref_lanes (x0 : Vec Ideal S4x2048x2048 .bf16) (x1 : Vec Ideal S2048x2048 .f32) (p : Fin 64) (T : Fin 2048) (l : Fin 128) :
    val_main_v13 x0 x1 (ix3 p T l) = project x0 x1 p T l := by
  pointwise [val_main_v13, val_main_v12, val_main_v11, val_main_v1, val_main_v0, id]
  rfl

/-- The reference's gates. -/
theorem ref_gates (x2 : Vec Ideal S4x2048x2048 .bf16) (x3 : Vec Ideal S2048x256 .f32) (x4 : Vec Ideal S256x2048 .f32)
    (b : Fin 4) (T j : Fin 2048) : val_main_v16 x2 x3 x4 (ix3 b T j)
      = ∑ r : Fin 256, Ideal.logistic (∑ k : Fin 2048, x2 (ix3 b T k) * x3 (ix2 k r)) * x4 (ix2 r (channel j)) := by
  pointwise [val_main_v16, val_main_v15, val_main_v14, val_main_v10, val_main_v9, val_main_v8, val_main_v7, val_main_v6, val_main_v5,
    val_main_v4, val_main_v3, val_main_v2, val_main_cst, val_main_cst_0, id]
  rfl

end Cert.Receptance
-- ==== Proof.ReceptanceClaims.lean ====
module

public import proofs.«01_k».proof.Defs
public import proofs.«01_k».proof.Proof.Gen.Kernel10
public import proofs.«01_k».proof.Proof.Gen.Kernel10.Frame
public import proofs.«01_k».proof.Proof.Receptance
public import proofs.«01_k».proof.Proof.ReceptanceRef
public import Idealize.ShloMosaic.Lib.Claim

/-!
# The claims about the time mixing's receptances and gates
-/

@[expose] public section

set_option maxRecDepth 16384

noncomputable section

namespace Cert.Proof.ReceptanceClaims

open Idealize.ShloMosaic Idealize.SL.Sem Idealize.ShloMosaic.Tactic

/-- The kernel runs, leaves its arguments unchanged and every counter at zero. -/
theorem frame_p : Cert.quiescent_Kernel10 := fun m ρ _ => Cert.Kernel10.Gen.frame m ρ

/-- So does the ideal kernel. -/
theorem frame_pi : Cert.quiescent_Kernel10Ideal := fun m ρ _ => Cert.Kernel10Ideal.Gen.frame m ρ

/-- So does the ideal reference. -/
theorem frame_ri : Cert.quiescent_Reference10Ideal := fun m ρ _ =>
  (θ_run Cert.Reference10Ideal.defs _ _).mono (fun r h => ⟨fun c => (h c).2.2, sem_eq_zero_of_no_sems (by decide) r.2⟩)
    (Cert.Reference10Ideal.Value.run (F := Ideal) m ρ)

/-- No constant is named and no operation is rewritten. -/
theorem preserves : Cert.preserves_Kernel10_Kernel10Ideal := trivial

/-- Of arguments that agree the ideal kernel and the ideal reference compute the same array. -/
theorem algebraic : Cert.algebraic_Kernel10Ideal_Reference10Ideal := by
  pair_intro
  · run_from Cert.Kernel10Ideal.Value.run_blocks m g
  · run_from Cert.Reference10Ideal.Value.run m' g'
    · rw [Cert.Reference10Ideal.Read.val_main_v13_eq]
      refine Eq.trans (funext fun y => ?_) (Cert.Receptance.result m c).symm
      obtain ⟨p, T, l, rfl⟩ : ∃ (p : Fin 64) (T : Fin 2048) (l : Fin 128), y = ix3 p T l := ⟨y 0, y 1, y 2, by funext i; fin_cases i <;> rfl⟩
      exact Cert.Receptance.ref_lanes _ _ p T l
    · rw [Cert.Reference10Ideal.Read.val_main_v16_eq]
      refine Eq.trans (funext fun y => ?_) (Cert.Receptance.result_gates m c).symm
      obtain ⟨b, T, j, rfl⟩ : ∃ (b : Fin 4) (T j : Fin 2048), y = ix3 b T j := ⟨y 0, y 1, y 2, by funext i; fin_cases i <;> rfl⟩
      exact Cert.Receptance.ref_gates _ _ _ b T j

end Cert.Proof.ReceptanceClaims

end
-- ==== Proof.Decay.lean ====
module

public import proofs.«01_k».proof.Proof.Gen.Kernel11Ideal.Value
public import proofs.«01_k».proof.Proof.Lanes
public import Idealize.ShloMosaic.Lib.StableHlo.ReadAt
public import Idealize.ShloMosaic.Lib.KernelVsHost

/-!
# The time mixing's keys and decays

What the projection to keys and the low-rank projection to decays, both given by head lanes, leave in their arrays.
-/

@[expose] public section

set_option maxRecDepth 16384

noncomputable section

namespace Cert.Decay

open Cert.Kernel11Ideal Cert.Kernel11Ideal.Gen Cert.Lanes
open Idealize.ShloMosaic Idealize.ShloMosaic.TcCoe Idealize.ShloMosaic.Tactic
open Idealize.ShloMosaic.Pipeline (Dat)

/-- The product at a row and a lane. -/
theorem product_apply (x : Vec Ideal S4x128x2048 .bf16) (w : Vec Ideal S2048x2048 .bf16) (r : Fin 512) (j : Fin 2048) :
    k0_pay3 x w (ix2 r j) = ∑ k : Fin 2048, x (ix3 ⟨(r : ℕ) / 128, by omega⟩ ⟨(r : ℕ) % 128, by omega⟩ k) * w (ix2 k j) := by
  pointwise [k0_pay3]

/-- The stores of the first result are those of the product's planes of head lanes. -/
theorem out0_6_eq (x0 : Vec Ideal S4x128x2048 .bf16) (x1 : Vec Ideal S2048x2048 .bf16) (x2 x3 x4 x5) :
    out0_6 (F := Ideal) x0 x1 x2 x3 x4 x5 = View.canon (stores (k0_pay3 (View.ld x0 r0_0) (View.ld x1 r0_1))) := rfl

/-- The stores of the second result are those of the decays' planes of head lanes. -/
theorem out0_7_eq (x0 x1) (x2 : Vec Ideal S4x128x2048 .bf16) (x3 x4 x5) : out0_7 (F := Ideal) x0 x1 x2 x3 x4 x5
    = View.canon (stores (k0_pay241 (View.ld x2 r0_0) (View.ld x3 r0_66) (View.ld x4 r0_67) (View.ld x5 r0_68))) := rfl

/-- The decays of a point's rows. -/
theorem rate_apply (x : Vec Ideal S4x128x2048 .bf16) (w1 : Vec Ideal S2048x128 .bf16) (w2 : Vec Ideal S128x2048 .bf16)
    (bias : Vec Ideal S1x2048 .f32) (i : Fin 512) (j : Fin 2048) : k0_pay241 x w1 w2 bias (ix2 i j)
      = (∑ r : Fin 128, Ideal.tanh (∑ k : Fin 2048, x (ix3 ⟨(i : ℕ) / 128, by omega⟩ ⟨(i : ℕ) % 128, by omega⟩ k) * w1 (ix2 k r)) * w2 (ix2 r j))
        + bias (ix2 0 j) := by
  pointwise [k0_pay241]

/-- What a point leaves of the first result, at a plane, a row and a head lane. -/
theorem out0_6_apply (x0 : Vec Ideal S4x128x2048 .bf16) (x1 : Vec Ideal S2048x2048 .bf16) (x2 x3 x4 x5) (p : Fin 64) (t l : Fin 128) :
    out0_6 (F := Ideal) x0 x1 x2 x3 x4 x5 (ix3 p t l) = ∑ k : Fin 2048, x0 (ix3 (batchOf l) t k)
      * x1 (ix2 k (laneOf p l)) := by
  rw [out0_6_eq, canon_stores, View.ld_unit_lit (h := by decide), View.ld_unit_lit (h := by decide)]
  refine (product_apply x0 x1 ⟨128 * ((l : ℕ) / 32) + t, row_lt t l⟩ _).trans (Finset.sum_congr rfl fun k _ => ?_)
  refine congrArg (· * _) (congrArg x0 ?_)
  exact congrArg₂ (fun a b => ix3 a b k) (Fin.ext (by unfold batchOf; dsimp only; omega)) (Fin.ext (by dsimp only; omega))

/-- What a point leaves of the second result, at a plane, a row and a head lane. -/
theorem out0_7_apply (x0 x1) (x2 : Vec Ideal S4x128x2048 .bf16) (x3 : Vec Ideal S2048x128 .bf16) (x4 : Vec Ideal S128x2048 .bf16)
    (x5 : Vec Ideal S1x2048 .f32) (p : Fin 64) (t l : Fin 128) : out0_7 (F := Ideal) x0 x1 x2 x3 x4 x5 (ix3 p t l)
      = (∑ r : Fin 128, Ideal.tanh (∑ k : Fin 2048, x2 (ix3 (batchOf l) t k) * x3 (ix2 k r)) * x4 (ix2 r (laneOf p l))) + x5 (ix2 0 (laneOf p l)) := by
  rw [out0_7_eq, canon_stores, View.ld_unit_lit (h := by decide), View.ld_unit_lit (h := by decide), View.ld_unit_lit (h := by decide),
    View.ld_unit_lit (h := by decide)]
  refine (rate_apply x2 x3 x4 x5 ⟨128 * ((l : ℕ) / 32) + t, row_lt t l⟩ _).trans (congrArg (· + _) (Finset.sum_congr rfl fun r _ => ?_))
  refine congrArg (fun z => Ideal.tanh (z) * _) (Finset.sum_congr rfl fun k _ => congrArg (· * _) (congrArg x2 ?_))
  exact congrArg₂ (fun a b => ix3 a b k) (Fin.ext (by unfold batchOf; dsimp only; omega)) (Fin.ext (by dsimp only; omega))

/-- The block of times of a point. -/
def pt (t : Fin cfg0.N) : Fin 16 := grid0.coords t 0

/-- The blocks at each point. -/
theorem idx0 : ∀ t : Fin cfg0.N, win0_0.index t = ![0, (pt t : ℕ), 0] ∧ win0_1.index t = ![0, 0] ∧ win0_2.index t = ![0, (pt t : ℕ), 0]
    ∧ win0_3.index t = ![0, 0] ∧ win0_4.index t = ![0, 0] ∧ win0_5.index t = ![0, 0] ∧ win0_6.index t = ![0, (pt t : ℕ), 0]
    ∧ win0_7.index t = ![0, (pt t : ℕ), 0] :=
  (by decide +kernel : ∀ t : Fin grid0.N, _)

variable (m : (ℓ : Loc nD τ sig) → Buf (Elt Ideal) ℓ) (c : Dev nD)

/-- A point's rows of the keys' inputs. -/
theorem blk0_0 (t : Fin cfg0.N) (b : Fin 4) (r : Fin 128) (k : Fin 2048) :
    iblk m c 0 t (ix3 b r k) = V m c main_arg0 (ix3 b ⟨128 * pt t + r, by omega⟩ k) := by
  blk_ext [iblk, (idx0 t).1]

/-- The weights, by head lanes. -/
theorem blk0_1 (t : Fin cfg0.N) (k j : Fin 2048) : iblk m c 1 t (ix2 k j) = V m c main_v3 (ix2 k j) := by
  blk_ext [iblk, (idx0 t).2.1]

/-- A point's rows of the decays' inputs. -/
theorem blk0_2 (t : Fin cfg0.N) (b : Fin 4) (r : Fin 128) (k : Fin 2048) :
    iblk m c 2 t (ix3 b r k) = V m c main_arg2 (ix3 b ⟨128 * pt t + r, by omega⟩ k) := by
  blk_ext [iblk, (idx0 t).2.2.1]

/-- The first low-rank factor. -/
theorem blk0_3 (t : Fin cfg0.N) (k : Fin 2048) (r : Fin 128) : iblk m c 3 t (ix2 k r) = V m c main_v9 (ix2 k r) := by
  blk_ext [iblk, (idx0 t).2.2.2.1]

/-- The second low-rank factor. -/
theorem blk0_4 (t : Fin cfg0.N) (r : Fin 128) (j : Fin 2048) : iblk m c 4 t (ix2 r j) = V m c main_v10 (ix2 r j) := by
  blk_ext [iblk, (idx0 t).2.2.2.2.1]

/-- The bias. -/
theorem blk0_5 (t : Fin cfg0.N) (j : Fin 2048) : iblk m c 5 t (ix2 0 j) = V m c main_v14 (ix2 0 j) := by
  blk_ext [iblk, (idx0 t).2.2.2.2.2.1]

/-- Where a point writes the first result. -/
theorem emb0_6 (t : Fin cfg0.N) (p : Fin 64) (r l : Fin 128) :
    (win0_6.blk t).view.emb (ix3 p r l) = (ix3 p ⟨128 * pt t + r, by omega⟩ l : S64x2048x128.Idx) := by
  blk_ext [(idx0 t).2.2.2.2.2.2.1]

/-- Where a point writes the second result. -/
theorem emb0_7 (t : Fin cfg0.N) (p : Fin 64) (r l : Fin 128) :
    (win0_7.blk t).view.emb (ix3 p r l) = (ix3 p ⟨128 * pt t + r, by omega⟩ l : S64x2048x128.Idx) := by
  blk_ext [(idx0 t).2.2.2.2.2.2.2]

/-- The keys, by head lanes. -/
def lanes (x : Vec Ideal S4x2048x2048 .bf16) (w : Vec Ideal S2048x2048 .bf16) (p : Fin 64) (T : Fin 2048) (l : Fin 128) : EReal :=
  ∑ k : Fin 2048, x (ix3 (batchOf l) T k)
    * w (ix2 k (laneOf p l))

/-- The decays, by head lanes. -/
def rates (x : Vec Ideal S4x2048x2048 .bf16) (w1 : Vec Ideal S2048x128 .bf16) (w2 : Vec Ideal S128x2048 .bf16)
    (bias : Vec Ideal S1x2048 .f32) (p : Fin 64) (T : Fin 2048) (l : Fin 128) : EReal :=
  (∑ r : Fin 128, Ideal.tanh (∑ k : Fin 2048, x (ix3 (batchOf l) T k) * w1 (ix2 k r)) * w2 (ix2 r (laneOf p l))) + bias (ix2 0 (laneOf p l))

/-- After the program its first result holds all keys. -/
theorem lanes_array : (dats m 0 c).arrAt 6 cfg0.N = fun y : S64x2048x128.Idx =>
    lanes (V m c main_arg0) (V m c main_v3) (y 0) (y 1) (y 2) := by
  refine (dats m 0 c).arrAt_eq_of_covers 6 _ (by decide +kernel) fun t hf y => ?_
  blk_simp
  rw [after0_6]
  obtain ⟨p, r, l, rfl⟩ : ∃ (p : Fin 64) (r l : Fin 128), y = ix3 p r l := ⟨y 0, y 1, y 2, by funext a; fin_cases a <;> rfl⟩
  rw [emb0_6]
  refine (out0_6_apply _ _ _ _ _ _ p r l).trans ?_
  show _ = lanes _ _ p ⟨128 * pt t + r, _⟩ l
  unfold lanes
  simp only [blk0_0, blk0_1]

/-- After the program its second result holds all decays. -/
theorem rates_array : (dats m 0 c).arrAt 7 cfg0.N = fun y : S64x2048x128.Idx =>
    rates (V m c main_arg2) (V m c main_v9) (V m c main_v10) (V m c main_v14) (y 0) (y 1) (y 2) := by
  refine (dats m 0 c).arrAt_eq_of_covers 7 _ (by decide +kernel) fun t hf y => ?_
  blk_simp
  rw [after0_7]
  obtain ⟨p, r, l, rfl⟩ : ∃ (p : Fin 64) (r l : Fin 128), y = ix3 p r l := ⟨y 0, y 1, y 2, by funext a; fin_cases a <;> rfl⟩
  rw [emb0_7]
  refine (out0_7_apply _ _ _ _ _ _ p r l).trans ?_
  show _ = rates _ _ _ _ p ⟨128 * pt t + r, _⟩ l
  unfold rates
  simp only [blk0_2, blk0_3, blk0_4, blk0_5]

/-- The weights as launched. -/
theorem w_at (k j : Fin 2048) : (V m c main_v3 : Vec Ideal S2048x2048 .bf16) (ix2 k j)
    = (m ((c : Thread nD τ).loc main_arg1) : Vec Ideal S2048x2048 .f32) (ix2 k (channel j)) := by
  unfold V
  after_reads_at
  rfl

/-- The first factor as launched. -/
theorem w1_at (k : Fin 2048) (r : Fin 96) : (V m c main_v9 : Vec Ideal S2048x128 .bf16) (ix2 k ⟨r, by omega⟩)
    = (m ((c : Thread nD τ).loc main_arg3) : Vec Ideal S2048x96 .f32) (ix2 k r) := by
  unfold V
  after_reads_at

/-- The second factor as launched. -/
theorem w2_at (r : Fin 96) (j : Fin 2048) : (V m c main_v10 : Vec Ideal S128x2048 .bf16) (ix2 ⟨r, by omega⟩ j)
    = (m ((c : Thread nD τ).loc main_arg4) : Vec Ideal S96x2048 .f32) (ix2 r (channel j)) := by
  unfold V
  after_reads_at
  rfl

/-- Beyond the rank the second factor is zero. -/
theorem w2_zero (r : Fin 128) (hr : 96 ≤ (r : ℕ)) (j : Fin 2048) : @Eq EReal ((V m c main_v10 : Vec Ideal S128x2048 .bf16) (ix2 r j)) 0 := by
  unfold V
  after_reads_at
  rw [dif_neg (by omega)]
  show (((0#32 : BitVec 32).toInt : ℝ) : EReal) = 0
  simp

/-- The bias as launched. -/
theorem bias_at (j : Fin 2048) : (V m c main_v14 : Vec Ideal S1x2048 .f32) (ix2 0 j)
    = (m ((c : Thread nD τ).loc main_arg5) : Vec Ideal S2048 .f32) (ix1 (channel j)) := by
  unfold V
  after_reads_simp
  clean_types
  exact regrouped_apply _ _ _ _ _ j

/-- The keys, from the arguments. -/
theorem lanes_eq (p : Fin 64) (T : Fin 2048) (l : Fin 128) : lanes (V m c main_arg0) (V m c main_v3) p T l
    = project (m ((c : Thread nD τ).loc main_arg0)) (m ((c : Thread nD τ).loc main_arg1)) p T l := by
  unfold lanes project
  refine Finset.sum_congr rfl fun k _ => ?_
  rw [w_at, channel_laneOf, V_main_arg0]

/-- The decays, from the arguments. -/
theorem rates_eq (p : Fin 64) (T : Fin 2048) (l : Fin 128) :
    rates (V m c main_arg2) (V m c main_v9) (V m c main_v10) (V m c main_v14) p T l
      = lowRank (Ideal.tanh) (m ((c : Thread nD τ).loc main_arg2)) (m ((c : Thread nD τ).loc main_arg3)) (m ((c : Thread nD τ).loc main_arg4))
        (m ((c : Thread nD τ).loc main_arg5)) p T l := by
  unfold rates lowRank
  rw [bias_at, channel_laneOf, V_main_arg2, add_comm]
  refine congrArg₂ (fun a b : EReal => a + b) rfl ((sum_padded _ fun r hr => ?_).trans (Finset.sum_congr rfl fun r _ => ?_))
  · exact (congrArg (_ * ·) (w2_zero m c r hr _)).trans (mul_zero _)
  · refine congrArg₂ (fun a b => Ideal.tanh (a) * b) (Finset.sum_congr rfl fun k _ => congrArg _ (w1_at m c k r)) ((w2_at m c r _).trans ?_)
    rw [channel_laneOf]

/-- What the program leaves in its first result. -/
theorem result : (dats m 0 c).arrAt 6 cfg0.N = fun y : S64x2048x128.Idx =>
    project (m ((c : Thread nD τ).loc main_arg0)) (m ((c : Thread nD τ).loc main_arg1)) (y 0) (y 1) (y 2) :=
  (lanes_array m c).trans (funext fun y => lanes_eq m c (y 0) (y 1) (y 2))

/-- What the program leaves in its second result. -/
theorem result_rates : (dats m 0 c).arrAt 7 cfg0.N = fun y : S64x2048x128.Idx =>
    lowRank (Ideal.tanh) (m ((c : Thread nD τ).loc main_arg2)) (m ((c : Thread nD τ).loc main_arg3)) (m ((c : Thread nD τ).loc main_arg4))
      (m ((c : Thread nD τ).loc main_arg5)) (y 0) (y 1) (y 2) :=
  (rates_array m c).trans (funext fun y => rates_eq m c (y 0) (y 1) (y 2))

end Cert.Decay
-- ==== Proof.DecayRef.lean ====
module

public import proofs.«01_k».proof.Proof.Gen.Reference11Ideal.Read
public import proofs.«01_k».proof.Proof.Lanes

/-!
# The reference's keys and decays
-/

@[expose] public section

set_option maxRecDepth 16384

noncomputable section

namespace Cert.Decay

open Cert.Reference11Ideal Cert.Reference11Ideal.Gen Cert.Reference11Ideal.Read Cert.Lanes
open Idealize.ShloMosaic Idealize.ShloMosaic.TcCoe Idealize.ShloMosaic.Tactic

/-- The reference's keys. -/
theorem ref_lanes (x0 : Vec Ideal S4x2048x2048 .bf16) (x1 : Vec Ideal S2048x2048 .f32) (p : Fin 64) (T : Fin 2048) (l : Fin 128) :
    val_main_v11 x0 x1 (ix3 p T l) = project x0 x1 p T l := by
  pointwise [val_main_v11, val_main_v10, val_main_v9, val_main_v1, val_main_v0, id]
  rfl

/-- The reference's decays. -/
theorem ref_rates (x2 : Vec Ideal S4x2048x2048 .bf16) (x3 : Vec Ideal S2048x96 .f32) (x4 : Vec Ideal S96x2048 .f32)
    (x5 : Vec Ideal S2048 .f32) (p : Fin 64) (T : Fin 2048) (l : Fin 128) :
    val_main_v14 x2 x3 x4 x5 (ix3 p T l) = lowRank (Ideal.tanh) x2 x3 x4 x5 p T l := by
  pointwise [val_main_v14, val_main_v13, val_main_v12, val_main_v8, val_main_v7, val_main_v6, val_main_v5, val_main_v4, val_main_v3, val_main_v2, id]
  rfl

end Cert.Decay
-- ==== Proof.DecayClaims.lean ====
module

public import proofs.«01_k».proof.Defs
public import proofs.«01_k».proof.Proof.Gen.Kernel11
public import proofs.«01_k».proof.Proof.Gen.Kernel11.Frame
public import proofs.«01_k».proof.Proof.Decay
public import proofs.«01_k».proof.Proof.DecayRef
public import Idealize.ShloMosaic.Lib.Claim

/-!
# The claims about the time mixing's keys and decays
-/

@[expose] public section

set_option maxRecDepth 16384

noncomputable section

namespace Cert.Proof.DecayClaims

open Idealize.ShloMosaic Idealize.SL.Sem Idealize.ShloMosaic.Tactic

/-- The kernel runs, leaves its arguments unchanged and every counter at zero. -/
theorem frame_p : Cert.quiescent_Kernel11 := fun m ρ _ => Cert.Kernel11.Gen.frame m ρ

/-- So does the ideal kernel. -/
theorem frame_pi : Cert.quiescent_Kernel11Ideal := fun m ρ _ => Cert.Kernel11Ideal.Gen.frame m ρ

/-- So does the ideal reference. -/
theorem frame_ri : Cert.quiescent_Reference11Ideal := fun m ρ _ =>
  (θ_run Cert.Reference11Ideal.defs _ _).mono (fun r h => ⟨fun c => (h c).2.2, sem_eq_zero_of_no_sems (by decide) r.2⟩)
    (Cert.Reference11Ideal.Value.run (F := Ideal) m ρ)

/-- No constant is named and no operation is rewritten. -/
theorem preserves : Cert.preserves_Kernel11_Kernel11Ideal := trivial

/-- Of arguments that agree the ideal kernel and the ideal reference compute the same array. -/
theorem algebraic : Cert.algebraic_Kernel11Ideal_Reference11Ideal := by
  pair_intro
  · run_from Cert.Kernel11Ideal.Value.run_blocks m g
  · run_from Cert.Reference11Ideal.Value.run m' g'
    · rw [Cert.Reference11Ideal.Read.val_main_v11_eq]
      refine Eq.trans (funext fun y => ?_) (Cert.Decay.result m c).symm
      obtain ⟨p, T, l, rfl⟩ : ∃ (p : Fin 64) (T : Fin 2048) (l : Fin 128), y = ix3 p T l := ⟨y 0, y 1, y 2, by funext i; fin_cases i <;> rfl⟩
      exact Cert.Decay.ref_lanes _ _ p T l
    · rw [Cert.Reference11Ideal.Read.val_main_v14_eq]
      refine Eq.trans (funext fun y => ?_) (Cert.Decay.result_rates m c).symm
      obtain ⟨p, T, l, rfl⟩ : ∃ (p : Fin 64) (T : Fin 2048) (l : Fin 128), y = ix3 p T l := ⟨y 0, y 1, y 2, by funext i; fin_cases i <;> rfl⟩
      exact Cert.Decay.ref_rates _ _ _ _ p T l

end Cert.Proof.DecayClaims

end
-- ==== Proof.Rate.lean ====
module

public import proofs.«01_k».proof.Proof.Gen.Kernel12Ideal.Value
public import proofs.«01_k».proof.Proof.Lanes
public import Idealize.ShloMosaic.Lib.StableHlo.ReadAt
public import Idealize.ShloMosaic.Lib.KernelVsHost

/-!
# The time mixing's values and rates

What the projection to values and the low-rank projection to rates, both given by head lanes, leave in their arrays.
-/

@[expose] public section

set_option maxRecDepth 16384

noncomputable section

namespace Cert.Rate

open Cert.Kernel12Ideal Cert.Kernel12Ideal.Gen Cert.Lanes
open Idealize.ShloMosaic Idealize.ShloMosaic.TcCoe Idealize.ShloMosaic.Tactic
open Idealize.ShloMosaic.Pipeline (Dat)

/-- The product at a row and a lane. -/
theorem product_apply (x : Vec Ideal S4x128x2048 .bf16) (w : Vec Ideal S2048x2048 .bf16) (r : Fin 512) (j : Fin 2048) :
    k0_pay2 x w (ix2 r j) = ∑ k : Fin 2048, x (ix3 ⟨(r : ℕ) / 128, by omega⟩ ⟨(r : ℕ) % 128, by omega⟩ k) * w (ix2 k j) := by
  pointwise [k0_pay2]

/-- The stores of the first result are those of the product's planes of head lanes. -/
theorem out0_6_eq (x0 : Vec Ideal S4x128x2048 .bf16) (x1 : Vec Ideal S2048x2048 .bf16) (x2 x3 x4 x5) :
    out0_6 (F := Ideal) x0 x1 x2 x3 x4 x5 = View.canon (stores (k0_pay2 (View.ld x0 r0_0) (View.ld x1 r0_1))) := rfl

/-- The stores of the second result are those of the rates' planes of head lanes. -/
theorem out0_7_eq (x0 x1) (x2 : Vec Ideal S4x128x2048 .bf16) (x3 x4 x5) : out0_7 (F := Ideal) x0 x1 x2 x3 x4 x5
    = View.canon (stores (k0_pay240 (View.ld x2 r0_0) (View.ld x3 r0_66) (View.ld x4 r0_67) (View.ld x5 r0_68))) := rfl

/-- The rates of a point's rows. -/
theorem rate_apply (x : Vec Ideal S4x128x2048 .bf16) (w1 : Vec Ideal S2048x128 .bf16) (w2 : Vec Ideal S128x2048 .bf16)
    (bias : Vec Ideal S1x2048 .f32) (i : Fin 512) (j : Fin 2048) : k0_pay240 x w1 w2 bias (ix2 i j)
      = (∑ r : Fin 128, (∑ k : Fin 2048, x (ix3 ⟨(i : ℕ) / 128, by omega⟩ ⟨(i : ℕ) % 128, by omega⟩ k) * w1 (ix2 k r)) * w2 (ix2 r j))
        + bias (ix2 0 j) := by
  pointwise [k0_pay240]

/-- What a point leaves of the first result, at a plane, a row and a head lane. -/
theorem out0_6_apply (x0 : Vec Ideal S4x128x2048 .bf16) (x1 : Vec Ideal S2048x2048 .bf16) (x2 x3 x4 x5) (p : Fin 64) (t l : Fin 128) :
    out0_6 (F := Ideal) x0 x1 x2 x3 x4 x5 (ix3 p t l) = ∑ k : Fin 2048, x0 (ix3 (batchOf l) t k)
      * x1 (ix2 k (laneOf p l)) := by
  rw [out0_6_eq, canon_stores, View.ld_unit_lit (h := by decide), View.ld_unit_lit (h := by decide)]
  refine (product_apply x0 x1 ⟨128 * ((l : ℕ) / 32) + t, row_lt t l⟩ _).trans (Finset.sum_congr rfl fun k _ => ?_)
  refine congrArg (· * _) (congrArg x0 ?_)
  exact congrArg₂ (fun a b => ix3 a b k) (Fin.ext (by unfold batchOf; dsimp only; omega)) (Fin.ext (by dsimp only; omega))

/-- What a point leaves of the second result, at a plane, a row and a head lane. -/
theorem out0_7_apply (x0 x1) (x2 : Vec Ideal S4x128x2048 .bf16) (x3 : Vec Ideal S2048x128 .bf16) (x4 : Vec Ideal S128x2048 .bf16)
    (x5 : Vec Ideal S1x2048 .f32) (p : Fin 64) (t l : Fin 128) : out0_7 (F := Ideal) x0 x1 x2 x3 x4 x5 (ix3 p t l)
      = (∑ r : Fin 128, (∑ k : Fin 2048, x2 (ix3 (batchOf l) t k) * x3 (ix2 k r)) * x4 (ix2 r (laneOf p l))) + x5 (ix2 0 (laneOf p l)) := by
  rw [out0_7_eq, canon_stores, View.ld_unit_lit (h := by decide), View.ld_unit_lit (h := by decide), View.ld_unit_lit (h := by decide),
    View.ld_unit_lit (h := by decide)]
  refine (rate_apply x2 x3 x4 x5 ⟨128 * ((l : ℕ) / 32) + t, row_lt t l⟩ _).trans (congrArg (· + _) (Finset.sum_congr rfl fun r _ => ?_))
  refine congrArg (fun z => (z) * _) (Finset.sum_congr rfl fun k _ => congrArg (· * _) (congrArg x2 ?_))
  exact congrArg₂ (fun a b => ix3 a b k) (Fin.ext (by unfold batchOf; dsimp only; omega)) (Fin.ext (by dsimp only; omega))

/-- The block of times of a point. -/
def pt (t : Fin cfg0.N) : Fin 16 := grid0.coords t 0

/-- The blocks at each point. -/
theorem idx0 : ∀ t : Fin cfg0.N, win0_0.index t = ![0, (pt t : ℕ), 0] ∧ win0_1.index t = ![0, 0] ∧ win0_2.index t = ![0, (pt t : ℕ), 0]
    ∧ win0_3.index t = ![0, 0] ∧ win0_4.index t = ![0, 0] ∧ win0_5.index t = ![0, 0] ∧ win0_6.index t = ![0, (pt t : ℕ), 0]
    ∧ win0_7.index t = ![0, (pt t : ℕ), 0] :=
  (by decide +kernel : ∀ t : Fin grid0.N, _)

variable (m : (ℓ : Loc nD τ sig) → Buf (Elt Ideal) ℓ) (c : Dev nD)

/-- A point's rows of the values' inputs. -/
theorem blk0_0 (t : Fin cfg0.N) (b : Fin 4) (r : Fin 128) (k : Fin 2048) :
    iblk m c 0 t (ix3 b r k) = V m c main_arg0 (ix3 b ⟨128 * pt t + r, by omega⟩ k) := by
  blk_ext [iblk, (idx0 t).1]

/-- The weights, by head lanes. -/
theorem blk0_1 (t : Fin cfg0.N) (k j : Fin 2048) : iblk m c 1 t (ix2 k j) = V m c main_v3 (ix2 k j) := by
  blk_ext [iblk, (idx0 t).2.1]

/-- A point's rows of the rates' inputs. -/
theorem blk0_2 (t : Fin cfg0.N) (b : Fin 4) (r : Fin 128) (k : Fin 2048) :
    iblk m c 2 t (ix3 b r k) = V m c main_arg2 (ix3 b ⟨128 * pt t + r, by omega⟩ k) := by
  blk_ext [iblk, (idx0 t).2.2.1]

/-- The first low-rank factor. -/
theorem blk0_3 (t : Fin cfg0.N) (k : Fin 2048) (r : Fin 128) : iblk m c 3 t (ix2 k r) = V m c main_v9 (ix2 k r) := by
  blk_ext [iblk, (idx0 t).2.2.2.1]

/-- The second low-rank factor. -/
theorem blk0_4 (t : Fin cfg0.N) (r : Fin 128) (j : Fin 2048) : iblk m c 4 t (ix2 r j) = V m c main_v10 (ix2 r j) := by
  blk_ext [iblk, (idx0 t).2.2.2.2.1]

/-- The bias. -/
theorem blk0_5 (t : Fin cfg0.N) (j : Fin 2048) : iblk m c 5 t (ix2 0 j) = V m c main_v14 (ix2 0 j) := by
  blk_ext [iblk, (idx0 t).2.2.2.2.2.1]

/-- Where a point writes the first result. -/
theorem emb0_6 (t : Fin cfg0.N) (p : Fin 64) (r l : Fin 128) :
    (win0_6.blk t).view.emb (ix3 p r l) = (ix3 p ⟨128 * pt t + r, by omega⟩ l : S64x2048x128.Idx) := by
  blk_ext [(idx0 t).2.2.2.2.2.2.1]

/-- Where a point writes the second result. -/
theorem emb0_7 (t : Fin cfg0.N) (p : Fin 64) (r l : Fin 128) :
    (win0_7.blk t).view.emb (ix3 p r l) = (ix3 p ⟨128 * pt t + r, by omega⟩ l : S64x2048x128.Idx) := by
  blk_ext [(idx0 t).2.2.2.2.2.2.2]

/-- The values, by head lanes. -/
def lanes (x : Vec Ideal S4x2048x2048 .bf16) (w : Vec Ideal S2048x2048 .bf16) (p : Fin 64) (T : Fin 2048) (l : Fin 128) : EReal :=
  ∑ k : Fin 2048, x (ix3 (batchOf l) T k)
    * w (ix2 k (laneOf p l))

/-- The rates, by head lanes. -/
def rates (x : Vec Ideal S4x2048x2048 .bf16) (w1 : Vec Ideal S2048x128 .bf16) (w2 : Vec Ideal S128x2048 .bf16)
    (bias : Vec Ideal S1x2048 .f32) (p : Fin 64) (T : Fin 2048) (l : Fin 128) : EReal :=
  (∑ r : Fin 128, (∑ k : Fin 2048, x (ix3 (batchOf l) T k) * w1 (ix2 k r)) * w2 (ix2 r (laneOf p l))) + bias (ix2 0 (laneOf p l))

/-- After the program its first result holds all values. -/
theorem lanes_array : (dats m 0 c).arrAt 6 cfg0.N = fun y : S64x2048x128.Idx =>
    lanes (V m c main_arg0) (V m c main_v3) (y 0) (y 1) (y 2) := by
  refine (dats m 0 c).arrAt_eq_of_covers 6 _ (by decide +kernel) fun t hf y => ?_
  blk_simp
  rw [after0_6]
  obtain ⟨p, r, l, rfl⟩ : ∃ (p : Fin 64) (r l : Fin 128), y = ix3 p r l := ⟨y 0, y 1, y 2, by funext a; fin_cases a <;> rfl⟩
  rw [emb0_6]
  refine (out0_6_apply _ _ _ _ _ _ p r l).trans ?_
  show _ = lanes _ _ p ⟨128 * pt t + r, _⟩ l
  unfold lanes
  simp only [blk0_0, blk0_1]

/-- After the program its second result holds all rates. -/
theorem rates_array : (dats m 0 c).arrAt 7 cfg0.N = fun y : S64x2048x128.Idx =>
    rates (V m c main_arg2) (V m c main_v9) (V m c main_v10) (V m c main_v14) (y 0) (y 1) (y 2) := by
  refine (dats m 0 c).arrAt_eq_of_covers 7 _ (by decide +kernel) fun t hf y => ?_
  blk_simp
  rw [after0_7]
  obtain ⟨p, r, l, rfl⟩ : ∃ (p : Fin 64) (r l : Fin 128), y = ix3 p r l := ⟨y 0, y 1, y 2, by funext a; fin_cases a <;> rfl⟩
  rw [emb0_7]
  refine (out0_7_apply _ _ _ _ _ _ p r l).trans ?_
  show _ = rates _ _ _ _ p ⟨128 * pt t + r, _⟩ l
  unfold rates
  simp only [blk0_2, blk0_3, blk0_4, blk0_5]

/-- The weights as launched. -/
theorem w_at (k j : Fin 2048) : (V m c main_v3 : Vec Ideal S2048x2048 .bf16) (ix2 k j)
    = (m ((c : Thread nD τ).loc main_arg1) : Vec Ideal S2048x2048 .f32) (ix2 k (channel j)) := by
  unfold V
  after_reads_at
  rfl

/-- The first factor as launched. -/
theorem w1_at (k : Fin 2048) (r : Fin 96) : (V m c main_v9 : Vec Ideal S2048x128 .bf16) (ix2 k ⟨r, by omega⟩)
    = (m ((c : Thread nD τ).loc main_arg3) : Vec Ideal S2048x96 .f32) (ix2 k r) := by
  unfold V
  after_reads_at

/-- The second factor as launched. -/
theorem w2_at (r : Fin 96) (j : Fin 2048) : (V m c main_v10 : Vec Ideal S128x2048 .bf16) (ix2 ⟨r, by omega⟩ j)
    = (m ((c : Thread nD τ).loc main_arg4) : Vec Ideal S96x2048 .f32) (ix2 r (channel j)) := by
  unfold V
  after_reads_at
  rfl

/-- Beyond the rank the second factor is zero. -/
theorem w2_zero (r : Fin 128) (hr : 96 ≤ (r : ℕ)) (j : Fin 2048) : @Eq EReal ((V m c main_v10 : Vec Ideal S128x2048 .bf16) (ix2 r j)) 0 := by
  unfold V
  after_reads_at
  rw [dif_neg (by omega)]
  show (((0#32 : BitVec 32).toInt : ℝ) : EReal) = 0
  simp

/-- The bias as launched. -/
theorem bias_at (j : Fin 2048) : (V m c main_v14 : Vec Ideal S1x2048 .f32) (ix2 0 j)
    = (m ((c : Thread nD τ).loc main_arg5) : Vec Ideal S2048 .f32) (ix1 (channel j)) := by
  unfold V
  after_reads_simp
  clean_types
  exact regrouped_apply _ _ _ _ _ j

/-- The values, from the arguments. -/
theorem lanes_eq (p : Fin 64) (T : Fin 2048) (l : Fin 128) : lanes (V m c main_arg0) (V m c main_v3) p T l
    = project (m ((c : Thread nD τ).loc main_arg0)) (m ((c : Thread nD τ).loc main_arg1)) p T l := by
  unfold lanes project
  refine Finset.sum_congr rfl fun k _ => ?_
  rw [w_at, channel_laneOf, V_main_arg0]

/-- The rates, from the arguments. -/
theorem rates_eq (p : Fin 64) (T : Fin 2048) (l : Fin 128) :
    rates (V m c main_arg2) (V m c main_v9) (V m c main_v10) (V m c main_v14) p T l
      = lowRank (fun z => z) (m ((c : Thread nD τ).loc main_arg2)) (m ((c : Thread nD τ).loc main_arg3)) (m ((c : Thread nD τ).loc main_arg4))
        (m ((c : Thread nD τ).loc main_arg5)) p T l := by
  unfold rates lowRank
  rw [bias_at, channel_laneOf, V_main_arg2, add_comm]
  refine congrArg₂ (fun a b : EReal => a + b) rfl ((sum_padded _ fun r hr => ?_).trans (Finset.sum_congr rfl fun r _ => ?_))
  · exact (congrArg (_ * ·) (w2_zero m c r hr _)).trans (mul_zero _)
  · refine congrArg₂ (fun a b => (a) * b) (Finset.sum_congr rfl fun k _ => congrArg _ (w1_at m c k r)) ((w2_at m c r _).trans ?_)
    rw [channel_laneOf]

/-- What the program leaves in its first result. -/
theorem result : (dats m 0 c).arrAt 6 cfg0.N = fun y : S64x2048x128.Idx =>
    project (m ((c : Thread nD τ).loc main_arg0)) (m ((c : Thread nD τ).loc main_arg1)) (y 0) (y 1) (y 2) :=
  (lanes_array m c).trans (funext fun y => lanes_eq m c (y 0) (y 1) (y 2))

/-- What the program leaves in its second result. -/
theorem result_rates : (dats m 0 c).arrAt 7 cfg0.N = fun y : S64x2048x128.Idx =>
    lowRank (fun z => z) (m ((c : Thread nD τ).loc main_arg2)) (m ((c : Thread nD τ).loc main_arg3)) (m ((c : Thread nD τ).loc main_arg4))
      (m ((c : Thread nD τ).loc main_arg5)) (y 0) (y 1) (y 2) :=
  (rates_array m c).trans (funext fun y => rates_eq m c (y 0) (y 1) (y 2))

end Cert.Rate
-- ==== Proof.RateRef.lean ====
module

public import proofs.«01_k».proof.Proof.Gen.Reference12Ideal.Read
public import proofs.«01_k».proof.Proof.Lanes

/-!
# The reference's values and rates
-/

@[expose] public section

set_option maxRecDepth 16384

noncomputable section

namespace Cert.Rate

open Cert.Reference12Ideal Cert.Reference12Ideal.Gen Cert.Reference12Ideal.Read Cert.Lanes
open Idealize.ShloMosaic Idealize.ShloMosaic.TcCoe Idealize.ShloMosaic.Tactic

/-- The reference's values. -/
theorem ref_lanes (x0 : Vec Ideal S4x2048x2048 .bf16) (x1 : Vec Ideal S2048x2048 .f32) (p : Fin 64) (T : Fin 2048) (l : Fin 128) :
    val_main_v10 x0 x1 (ix3 p T l) = project x0 x1 p T l := by
  pointwise [val_main_v10, val_main_v9, val_main_v8, val_main_v1, val_main_v0, id]
  rfl

/-- The reference's rates. -/
theorem ref_rates (x2 : Vec Ideal S4x2048x2048 .bf16) (x3 : Vec Ideal S2048x96 .f32) (x4 : Vec Ideal S96x2048 .f32)
    (x5 : Vec Ideal S2048 .f32) (p : Fin 64) (T : Fin 2048) (l : Fin 128) :
    val_main_v13 x2 x3 x4 x5 (ix3 p T l) = lowRank (fun z => z) x2 x3 x4 x5 p T l := by
  pointwise [val_main_v13, val_main_v12, val_main_v11, val_main_v7, val_main_v6, val_main_v5, val_main_v4, val_main_v3, val_main_v2, id]
  rfl

end Cert.Rate
-- ==== Proof.RateClaims.lean ====
module

public import proofs.«01_k».proof.Defs
public import proofs.«01_k».proof.Proof.Gen.Kernel12
public import proofs.«01_k».proof.Proof.Gen.Kernel12.Frame
public import proofs.«01_k».proof.Proof.Rate
public import proofs.«01_k».proof.Proof.RateRef
public import Idealize.ShloMosaic.Lib.Claim

/-!
# The claims about the time mixing's values and rates
-/

@[expose] public section

set_option maxRecDepth 16384

noncomputable section

namespace Cert.Proof.RateClaims

open Idealize.ShloMosaic Idealize.SL.Sem Idealize.ShloMosaic.Tactic

/-- The kernel runs, leaves its arguments unchanged and every counter at zero. -/
theorem frame_p : Cert.quiescent_Kernel12 := fun m ρ _ => Cert.Kernel12.Gen.frame m ρ

/-- So does the ideal kernel. -/
theorem frame_pi : Cert.quiescent_Kernel12Ideal := fun m ρ _ => Cert.Kernel12Ideal.Gen.frame m ρ

/-- So does the ideal reference. -/
theorem frame_ri : Cert.quiescent_Reference12Ideal := fun m ρ _ =>
  (θ_run Cert.Reference12Ideal.defs _ _).mono (fun r h => ⟨fun c => (h c).2.2, sem_eq_zero_of_no_sems (by decide) r.2⟩)
    (Cert.Reference12Ideal.Value.run (F := Ideal) m ρ)

/-- No constant is named and no operation is rewritten. -/
theorem preserves : Cert.preserves_Kernel12_Kernel12Ideal := trivial

/-- Of arguments that agree the ideal kernel and the ideal reference compute the same array. -/
theorem algebraic : Cert.algebraic_Kernel12Ideal_Reference12Ideal := by
  pair_intro
  · run_from Cert.Kernel12Ideal.Value.run_blocks m g
  · run_from Cert.Reference12Ideal.Value.run m' g'
    · rw [Cert.Reference12Ideal.Read.val_main_v10_eq]
      refine Eq.trans (funext fun y => ?_) (Cert.Rate.result m c).symm
      obtain ⟨p, T, l, rfl⟩ : ∃ (p : Fin 64) (T : Fin 2048) (l : Fin 128), y = ix3 p T l := ⟨y 0, y 1, y 2, by funext i; fin_cases i <;> rfl⟩
      exact Cert.Rate.ref_lanes _ _ p T l
    · rw [Cert.Reference12Ideal.Read.val_main_v13_eq]
      refine Eq.trans (funext fun y => ?_) (Cert.Rate.result_rates m c).symm
      obtain ⟨p, T, l, rfl⟩ : ∃ (p : Fin 64) (T : Fin 2048) (l : Fin 128), y = ix3 p T l := ⟨y 0, y 1, y 2, by funext i; fin_cases i <;> rfl⟩
      exact Cert.Rate.ref_rates _ _ _ _ p T l

end Cert.Proof.RateClaims

end
-- ==== Proof.Readout.lean ====
module

public import proofs.«01_k».proof.Proof.Gen.Kernel13Ideal.Value
public import proofs.«01_k».proof.Proof.Lanes
public import proofs.«01_k».proof.Proof.Layer
public import Idealize.ShloMosaic.Lib.StableHlo.ReadAt
public import Idealize.ShloMosaic.Lib.Pipeline.ValueKit

/-!
# The time mixing's output projection

What the output projection of gated head lanes, gated and added to the residual stream, leaves in its array.
-/

@[expose] public section

set_option maxRecDepth 16384

noncomputable section

namespace Cert.Readout

open Cert.Kernel13Ideal Cert.Kernel13Ideal.Gen Cert.Lanes Cert.Layer
open Idealize.ShloMosaic Idealize.ShloMosaic.TcCoe Idealize.ShloMosaic.Tactic
open Idealize.ShloMosaic.Pipeline (Dat)

/-- Plane `16 * c + g` fits. -/
theorem plane_inb (g : Fin 16) (c : Fin 4) : ∀ a, (![16 * (c : ℕ) + g, 0, 0] : Fin 3 → ℕ) a + S1x64x128.size a ≤ S64x64x128.size a := by
  intro a
  fin_cases a <;> simp [S1x64x128, S64x64x128] <;> omega

/-- The rows of batch `b` fit. -/
theorem batch_inb (b : Fin 4) : ∀ a, (![(b : ℕ), 0, 0] : Fin 3 → ℕ) a + S1x64x2048.size a ≤ S4x64x2048.size a := by
  intro a
  fin_cases a <;> simp [S1x64x2048, S4x64x2048] <;> omega

/-- Plane `16 * c + g` of head lanes. -/
def planeRows (y : Vec Ideal S64x64x128 .f32) (g : Fin 16) (c : Fin 4) : FVec Ideal S64x128 .f32 :=
  shapeCast S64x128 (View.ld y (Rect.unit (s := S64x64x128) ![16 * (c : ℕ) + g, 0, 0] S1x64x128.size (plane_inb g c))) shapeCasts_S1x64x128_S64x128

/-- Batch `b`'s lanes of group `g`. -/
def groupRows (y : Vec Ideal S64x64x128 .f32) (b : Fin 4) (g : Fin 16) : FVec Ideal S64x128 .f32 :=
  lane (n := 64) (by decide) (by decide) b (planeRows y g 0) (planeRows y g 1) (planeRows y g 2) (planeRows y g 3)

/-- Batch `b`'s rows. -/
def batchRows (y : Vec Ideal S64x64x128 .f32) (b : Fin 4) : FVec Ideal S64x2048 .f32 :=
  concatenate S64x2048 1 (List.ofFn fun g : Fin 16 => (⟨S64x128, groupRows y b g⟩ : (s : Shape) × (s.Idx → Elt Ideal .f32)))
    concatenates_S64x128_S64x128_S64x128_S64x128_S64x128_S64x128_S64x128_S64x128_S64x128_S64x128_S64x128_S64x128_S64x128_S64x128_S64x128_S64x128_S64x2048_d1

/-- Batch `b`'s rows, gated. -/
def gatedRows (y : Vec Ideal S64x64x128 .f32) (g : Vec Ideal S4x64x2048 .f32) (b : Fin 4) : FVec Ideal S64x2048 .bf16 :=
  truncf .bf16 (mulf (batchRows y b) (shapeCast S64x2048 (View.ld g (Rect.unit (s := S4x64x2048) ![(b : ℕ), 0, 0] S1x64x2048.size (batch_inb b)))
    shapeCasts_S1x64x2048_S64x2048)) bitsLt_bf16_f32

/-- All batches' rows, gated. -/
def allRows (y : Vec Ideal S64x64x128 .f32) (g : Vec Ideal S4x64x2048 .f32) : FVec Ideal S256x2048 .bf16 :=
  concatenate S256x2048 0 (List.ofFn fun b : Fin 4 => (⟨S64x2048, gatedRows y g b⟩ : (s : Shape) × (s.Idx → Elt Ideal .bf16)))
    concatenates_S64x2048_S64x2048_S64x2048_S64x2048_S256x2048_d0

/-- The projection of rows, gated and added to the residual stream. -/
def projected (h : FVec Ideal S256x2048 .bf16) (w : Vec Ideal S2048x2048 .bf16) (x : Vec Ideal S4x64x2048 .f32) (gt : Vec Ideal S4x1x2048 .f32) :
    FVec Ideal S4x64x2048 .f32 :=
  addf x (mulf (broadcastTo S4x64x2048 (shapeCast S4x1x2048 gt shapeCasts_S4x1x2048_S4x1x2048) broadcasts_S4x1x2048_S4x64x2048)
    (shapeCast S4x64x2048 (matmul dot_S256x2048_S2048x2048_S256x2048_1_0_0_1_n_n none h
      (φ₂ := .bf16) (shapeCast S2048x2048 w shapeCasts_S2048x2048_S2048x2048) (constant S256x2048 .f32 0x00000000#32)) shapeCasts_S256x2048_S4x64x2048))

set_option maxHeartbeats 400000 in
/-- The one store. -/
theorem out0_5_eq (x0 : Vec Ideal S64x64x128 .f32) (x1 : Vec Ideal S4x64x2048 .f32) (x2 x3 x4) : out0_5 (F := Ideal) x0 x1 x2 x3 x4
    = View.canon [⟨r0_69, projected (allRows x0 x1) (View.ld x2 r0_68) (View.ld x3 r0_69) (View.ld x4 r0_70)⟩] := rfl

/-- A plane at a row and a lane. -/
theorem planeRows_apply (y : Vec Ideal S64x64x128 .f32) (g : Fin 16) (c : Fin 4) (t : Fin 64) (l : Fin 128) :
    planeRows y g c (ix2 t l) = y (ix3 ⟨16 * c + g, by omega⟩ t l) := by
  unfold planeRows
  refine (shapeCast_apply _ _ (ix2 t l) (ix3 0 t l) ?_).trans ?_
  · rw [Shape.rowMajor_val_two, Shape.rowMajor_val_three]
    show (0 * 64 + (t : ℕ)) * 128 + l = t * 128 + l
    omega
  · refine congrArg y (funext fun a => Fin.ext ?_)
    fin_cases a
    · show 16 * (c : ℕ) + g + 1 * 0 = 16 * c + g; omega
    · show 0 + 1 * (t : ℕ) = t; omega
    · show 0 + 1 * (l : ℕ) = l; omega

/-- Batch `b`'s lanes of group `g`, at a row and a lane. -/
theorem groupRows_apply (y : Vec Ideal S64x64x128 .f32) (b : Fin 4) (g : Fin 16) (t : Fin 64) (l : Fin 128) :
    groupRows y b g (ix2 t l) = y (ix3 ⟨16 * ((l : ℕ) / 32) + g, by omega⟩ t ⟨32 * b + (l : ℕ) % 32, by omega⟩) := by
  unfold groupRows
  rw [lane_apply]
  have hb : (l : ℕ) / 32 < 4 := by omega
  have key : ∀ c : Fin 4, pick (planeRows y g 0) (planeRows y g 1) (planeRows y g 2) (planeRows y g 3) c = planeRows y g c := by
    intro c; fin_cases c <;> rfl
  rw [key ⟨(l : ℕ) / 32, hb⟩]
  exact planeRows_apply y g ⟨(l : ℕ) / 32, hb⟩ t _

/-- Batch `b`'s rows at a time and a lane. -/
theorem batchRows_apply (y : Vec Ideal S64x64x128 .f32) (b : Fin 4) (t : Fin 64) (j : Fin 2048) : batchRows y b (ix2 t j)
    = y (ix3 ⟨16 * ((j : ℕ) % 128 / 32) + (j : ℕ) / 128, by omega⟩ t ⟨32 * b + (j : ℕ) % 32, by omega⟩) := by
  refine (concatenate_ofFn_apply (t := S64x2048) (s₁ := S64x128) 1 (groupRows y b) _ rfl 128 rfl (ix2 t j) ⟨(j : ℕ) / 128, by omega⟩ rfl
    (ix2 t ⟨(j : ℕ) % 128, by omega⟩) rfl ?_).trans ?_
  · intro a ha
    fin_cases a
    · rfl
    · exact absurd rfl ha
  · refine (groupRows_apply y b _ t _).trans (congrArg (fun i => y (ix3 _ t i)) (Fin.ext ?_))
    dsimp only; omega

/-- Batch `b`'s gated rows at a time and a lane. -/
theorem gatedRows_apply (y : Vec Ideal S64x64x128 .f32) (g : Vec Ideal S4x64x2048 .f32) (b : Fin 4) (t : Fin 64) (j : Fin 2048) :
    gatedRows y g b (ix2 t j)
      = (y (ix3 ⟨16 * ((j : ℕ) % 128 / 32) + (j : ℕ) / 128, by omega⟩ t ⟨32 * b + (j : ℕ) % 32, by omega⟩) * g (ix3 b t j) : EReal) := by
  refine congrArg₂ (fun a b : EReal => a * b) (batchRows_apply y b t j) ?_
  refine (shapeCast_apply _ _ (ix2 t j) (ix3 0 t j) ?_).trans ?_
  · rw [Shape.rowMajor_val_two, Shape.rowMajor_val_three]
    show (0 * 64 + (t : ℕ)) * 2048 + j = t * 2048 + j
    omega
  · refine congrArg g (funext fun a => Fin.ext ?_)
    fin_cases a
    · show (b : ℕ) + 1 * 0 = b; omega
    · show 0 + 1 * (t : ℕ) = t; omega
    · show 0 + 1 * (j : ℕ) = j; omega

/-- All gated rows at a batch, a time and a lane. -/
theorem allRows_apply (y : Vec Ideal S64x64x128 .f32) (g : Vec Ideal S4x64x2048 .f32) (b : Fin 4) (t : Fin 64) (j : Fin 2048)
    (h : (b : ℕ) * 64 + t < 256) : allRows y g (ix2 ⟨b * 64 + t, h⟩ j)
      = (y (ix3 ⟨16 * ((j : ℕ) % 128 / 32) + (j : ℕ) / 128, by omega⟩ t ⟨32 * b + (j : ℕ) % 32, by omega⟩) * g (ix3 b t j) : EReal) := by
  refine (concatenate_ofFn_apply (t := S256x2048) (s₁ := S64x2048) 0 (gatedRows y g) _ rfl 64 rfl (ix2 ⟨b * 64 + t, h⟩ j) b ?_
    (ix2 t j) ?_ ?_).trans (gatedRows_apply y g b t j)
  · show ((b : ℕ) * 64 + t) / 64 = b
    omega
  · show (t : ℕ) = ((b : ℕ) * 64 + t) % 64
    omega
  · intro a ha
    fin_cases a
    · exact absurd rfl ha
    · rfl

/-- The projection at a batch, a time and a channel. -/
theorem projected_apply (h : FVec Ideal S256x2048 .bf16) (w : Vec Ideal S2048x2048 .bf16) (x : Vec Ideal S4x64x2048 .f32)
    (gt : Vec Ideal S4x1x2048 .f32) (b : Fin 4) (t : Fin 64) (J : Fin 2048) : projected h w x gt (ix3 b t J)
      = gated (x (ix3 b t J)) (gt (ix3 b 0 J)) (∑ j : Fin 2048, h (ix2 ⟨b * 64 + t, by omega⟩ j) * w (ix2 j J)) := by
  unfold gated
  pointwise [projected]

/-- The sum over the kernel's lanes. -/
def dotLanes {n : ℕ} (y : FVec Ideal ⟨3, ![64, n, 128]⟩ .f32) (g : FVec Ideal ⟨3, ![4, n, 2048]⟩ .f32) (w : FVec Ideal ⟨2, ![2048, 2048]⟩ .bf16)
    (b : Fin 4) (t : Fin n) (J : Fin 2048) : EReal :=
  ∑ j : Fin 2048, y (ix3 ⟨16 * ((j : ℕ) % 128 / 32) + (j : ℕ) / 128, by omega⟩ t ⟨32 * b + (j : ℕ) % 32, by omega⟩) * g (ix3 b t j) * w (ix2 j J)

/-- What a point leaves at a batch, a time and a channel. -/
theorem out0_5_apply (y : Vec Ideal S64x64x128 .f32) (g : Vec Ideal S4x64x2048 .f32) (w : Vec Ideal S2048x2048 .bf16)
    (x : Vec Ideal S4x64x2048 .f32) (gt : Vec Ideal S4x1x2048 .f32) (b : Fin 4) (t : Fin 64) (J : Fin 2048) :
    out0_5 (F := Ideal) y g w x gt (ix3 b t J) = gated (x (ix3 b t J)) (gt (ix3 b 0 J)) (dotLanes y g w b t J) := by
  rw [out0_5_eq, View.canon_cons_unit_lit (h := by decide), View.ld_unit_lit (h := by decide), View.ld_unit_lit (h := by decide),
    View.ld_unit_lit (h := by decide)]
  refine (projected_apply _ w x gt b t J).trans (congrArg (gated _ _) ?_)
  exact Finset.sum_congr rfl fun j _ => congrArg (fun a : EReal => a * w (ix2 j J)) (allRows_apply y g b t j _)

/-- The block of times of a point. -/
def pt (t : Fin cfg0.N) : Fin 32 := grid0.coords t 0

/-- The blocks at each point. -/
theorem idx0 : ∀ t : Fin cfg0.N, win0_0.index t = ![0, (pt t : ℕ), 0] ∧ win0_1.index t = ![0, (pt t : ℕ), 0] ∧ win0_2.index t = ![0, 0]
    ∧ win0_3.index t = ![0, (pt t : ℕ), 0] ∧ win0_4.index t = ![0, 0, 0] ∧ win0_5.index t = ![0, (pt t : ℕ), 0] :=
  (by decide +kernel : ∀ t : Fin grid0.N, _)

variable (m : (ℓ : Loc nD τ sig) → Buf (Elt Ideal) ℓ) (c : Dev nD)

/-- A point's times of the head lanes. -/
theorem blk0_0 (t : Fin cfg0.N) (p : Fin 64) (r : Fin 64) (l : Fin 128) :
    iblk m c 0 t (ix3 p r l) = V m c main_arg0 (ix3 p ⟨64 * pt t + r, by omega⟩ l) := by
  blk_ext [iblk, (idx0 t).1]

/-- A point's times of the gates. -/
theorem blk0_1 (t : Fin cfg0.N) (b : Fin 4) (r : Fin 64) (j : Fin 2048) :
    iblk m c 1 t (ix3 b r j) = V m c main_arg1 (ix3 b ⟨64 * pt t + r, by omega⟩ j) := by
  blk_ext [iblk, (idx0 t).2.1]

/-- The weights, by lanes. -/
theorem blk0_2 (t : Fin cfg0.N) (j J : Fin 2048) : iblk m c 2 t (ix2 j J) = V m c main_v5 (ix2 j J) := by
  blk_ext [iblk, (idx0 t).2.2.1]

/-- A point's times of the residual stream. -/
theorem blk0_3 (t : Fin cfg0.N) (b : Fin 4) (r : Fin 64) (J : Fin 2048) :
    iblk m c 3 t (ix3 b r J) = V m c main_arg3 (ix3 b ⟨64 * pt t + r, by omega⟩ J) := by
  blk_ext [iblk, (idx0 t).2.2.2.1]

/-- The residual gates. -/
theorem blk0_4 (t : Fin cfg0.N) (b : Fin 4) (J : Fin 2048) : iblk m c 4 t (ix3 b 0 J) = V m c main_v6 (ix3 b 0 J) := by
  blk_ext [iblk, (idx0 t).2.2.2.2.1]

/-- Where a point writes. -/
theorem emb0_5 (t : Fin cfg0.N) (b : Fin 4) (r : Fin 64) (J : Fin 2048) :
    (win0_5.blk t).view.emb (ix3 b r J) = (ix3 b ⟨64 * pt t + r, by omega⟩ J : S4x2048x2048.Idx) := by
  blk_ext [(idx0 t).2.2.2.2.2]

/-- After the program its result array holds every row's. -/
theorem out_array : (dats m 0 c).arrAt 5 cfg0.N = fun z : S4x2048x2048.Idx =>
    gated ((V m c main_arg3 : Vec Ideal S4x2048x2048 .f32) (ix3 (z 0) (z 1) (z 2))) ((V m c main_v6 : Vec Ideal S4x1x2048 .f32) (ix3 (z 0) 0 (z 2)))
      (dotLanes (n := 2048) (V m c main_arg0) (V m c main_arg1) (V m c main_v5) (z 0) (z 1) (z 2)) := by
  refine (dats m 0 c).arrAt_eq_of_covers 5 _ (by decide +kernel) fun t hf z => ?_
  blk_simp
  rw [after0_5]
  obtain ⟨b, r, J, rfl⟩ : ∃ (b : Fin 4) (r : Fin 64) (J : Fin 2048), z = ix3 b r J := ⟨z 0, z 1, z 2, by funext a; fin_cases a <;> rfl⟩
  rw [emb0_5]
  refine (out0_5_apply _ _ _ _ _ b r J).trans ?_
  show _ = gated (V m c main_arg3 (ix3 b ⟨64 * pt t + r, _⟩ J)) (V m c main_v6 (ix3 b 0 J)) (dotLanes _ _ _ b ⟨64 * pt t + r, _⟩ J)
  unfold dotLanes
  simp only [blk0_0, blk0_1, blk0_2, blk0_3, blk0_4]

/-- The weights as launched. -/
theorem w_at (j J : Fin 2048) : (V m c main_v5 : Vec Ideal S2048x2048 .bf16) (ix2 j J)
    = (m ((c : Thread nD τ).loc main_arg2) : Vec Ideal S2048x2048 .f32) (ix2 (channel j) J) := by
  unfold V
  after_reads_at
  rfl

/-- The residual gates as launched. -/
theorem gt_at (b : Fin 4) (J : Fin 2048) : (V m c main_v6 : Vec Ideal S4x1x2048 .f32) (ix3 b 0 J)
    = (m ((c : Thread nD τ).loc main_arg4) : Vec Ideal S4x2048 .f32) (ix2 b J) := by
  unfold V
  after_reads_at

/-- The parts of a lane: its group of four, the channel of it, the head. -/
theorem lane_parts {g c h : ℕ} (hc : c < 4) (hh : h < 32) :
    (g * 128 + c * 32 + h) % 32 = h ∧ (g * 128 + c * 32 + h) / 128 = g ∧ (g * 128 + c * 32 + h) / 32 % 4 = c
      ∧ (g * 128 + c * 32 + h) % 128 / 32 = c := by
  omega

/-- The parts of a channel. -/
theorem channel_parts {g c h : ℕ} (hg : g < 16) (hc : c < 4) :
    (h * 64 + g * 4 + c) / 64 = h ∧ (h * 64 + g * 4 + c) / 4 % 16 = g ∧ (h * 64 + g * 4 + c) % 4 = c := by
  omega

/-- The lane of a channel, and back. -/
def laneOfChannel : Fin 2048 ≃ Fin 2048 where
  toFun d := ⟨(d : ℕ) / 4 % 16 * 128 + (d : ℕ) % 4 * 32 + (d : ℕ) / 64, by omega⟩
  invFun := channel
  left_inv d := by
    obtain ⟨e1, e2, e3, -⟩ := lane_parts (g := (d : ℕ) / 4 % 16) (c := (d : ℕ) % 4) (h := (d : ℕ) / 64) (by omega) (by omega)
    refine Fin.ext ?_
    unfold channel
    dsimp only
    rw [e1, e2, e3]
    omega
  right_inv j := by
    obtain ⟨e1, e2, e3⟩ := channel_parts (g := (j : ℕ) / 128) (c := (j : ℕ) / 32 % 4) (h := (j : ℕ) % 32) (by omega) (by omega)
    refine Fin.ext ?_
    unfold channel
    dsimp only
    rw [e1, e2, e3]
    omega

/-- The sum over the channels. -/
def dotChannels (y : Vec Ideal S64x2048x128 .f32) (g : Vec Ideal S4x2048x2048 .f32) (w : Vec Ideal S2048x2048 .f32) (b : Fin 4)
    (T J : Fin 2048) : EReal :=
  ∑ d : Fin 2048, y (ix3 ⟨(d : ℕ) % 4 * 16 + (d : ℕ) / 4 % 16, by omega⟩ T ⟨(b : ℕ) * 32 + (d : ℕ) / 64, by omega⟩)
    * g (ix3 b T (laneOfChannel d)) * w (ix2 d J)

/-- The sum over the lanes is the sum over the channels. -/
theorem dotLanes_eq (b : Fin 4) (T J : Fin 2048) : dotLanes (n := 2048) (V m c main_arg0) (V m c main_arg1) (V m c main_v5) b T J
    = dotChannels (m ((c : Thread nD τ).loc main_arg0)) (m ((c : Thread nD τ).loc main_arg1)) (m ((c : Thread nD τ).loc main_arg2)) b T J := by
  unfold dotLanes dotChannels
  rw [V_main_arg0, V_main_arg1]
  refine (Equiv.sum_comp laneOfChannel _).symm.trans (Finset.sum_congr rfl fun d _ => ?_)
  rw [w_at]
  obtain ⟨-, e2, -, e1⟩ := lane_parts (g := (d : ℕ) / 4 % 16) (c := (d : ℕ) % 4) (h := (d : ℕ) / 64) (by omega) (by omega)
  refine congrArg₂ (fun a b : EReal => a * b) (congrArg (fun a : EReal => a * _) (congrArg _ (congrArg₂ (fun p l => ix3 p T l) (Fin.ext ?_) (Fin.ext ?_)))) ?_
  · show 16 * (((d : ℕ) / 4 % 16 * 128 + (d : ℕ) % 4 * 32 + (d : ℕ) / 64) % 128 / 32)
      + ((d : ℕ) / 4 % 16 * 128 + (d : ℕ) % 4 * 32 + (d : ℕ) / 64) / 128 = (d : ℕ) % 4 * 16 + (d : ℕ) / 4 % 16
    rw [e1, e2]
    omega
  · show 32 * (b : ℕ) + ((d : ℕ) / 4 % 16 * 128 + (d : ℕ) % 4 * 32 + (d : ℕ) / 64) % 32 = (b : ℕ) * 32 + (d : ℕ) / 64
    omega
  · exact congrArg (fun k => (m ((c : Thread nD τ).loc main_arg2) : Vec Ideal S2048x2048 .f32) (ix2 k J)) (laneOfChannel.left_inv d)

/-- The result of the program at a batch, a time and a channel. -/
def outOut (y : Vec Ideal S64x2048x128 .f32) (g : Vec Ideal S4x2048x2048 .f32) (w : Vec Ideal S2048x2048 .f32)
    (x : Vec Ideal S4x2048x2048 .f32) (gt : Vec Ideal S4x2048 .f32) (b : Fin 4) (T J : Fin 2048) : EReal :=
  gated (x (ix3 b T J)) (gt (ix2 b J)) (dotChannels y g w b T J)

/-- The result from the arguments. -/
theorem out_eq (b : Fin 4) (T J : Fin 2048) :
    gated ((V m c main_arg3 : Vec Ideal S4x2048x2048 .f32) (ix3 b T J)) ((V m c main_v6 : Vec Ideal S4x1x2048 .f32) (ix3 b 0 J))
      (dotLanes (n := 2048) (V m c main_arg0) (V m c main_arg1) (V m c main_v5) b T J)
    = outOut (m ((c : Thread nD τ).loc main_arg0)) (m ((c : Thread nD τ).loc main_arg1)) (m ((c : Thread nD τ).loc main_arg2))
      (m ((c : Thread nD τ).loc main_arg3)) (m ((c : Thread nD τ).loc main_arg4)) b T J := by
  unfold outOut
  rw [dotLanes_eq, gt_at, V_main_arg3]

/-- What the program leaves in its result array. -/
theorem result : (dats m 0 c).arrAt 5 cfg0.N = fun z : S4x2048x2048.Idx =>
    outOut (m ((c : Thread nD τ).loc main_arg0)) (m ((c : Thread nD τ).loc main_arg1)) (m ((c : Thread nD τ).loc main_arg2))
      (m ((c : Thread nD τ).loc main_arg3)) (m ((c : Thread nD τ).loc main_arg4)) (z 0) (z 1) (z 2) :=
  (out_array m c).trans (funext fun z => out_eq m c (z 0) (z 1) (z 2))

end Cert.Readout

end
-- ==== Proof.ReadoutRef.lean ====
module

public import proofs.«01_k».proof.Proof.Gen.Reference13Ideal.Read
public import Idealize.ShloMosaic.Lib.Pointwise

/-!
# The reference of the time mixing's output projection, at an index
-/

@[expose] public section

set_option maxRecDepth 16384

noncomputable section

namespace Cert.Readout

open Cert.Reference13Ideal Cert.Reference13Ideal.Gen Cert.Reference13Ideal.Read
open Idealize.ShloMosaic Idealize.ShloMosaic.TcCoe Idealize.ShloMosaic.Tactic

/-- The reference's result. -/
theorem ref_out (x0 : Vec Ideal S64x2048x128 .f32) (x1 : Vec Ideal S4x2048x2048 .f32) (x2 : Vec Ideal S2048x2048 .f32)
    (x3 : Vec Ideal S4x2048x2048 .f32) (x4 : Vec Ideal S4x2048 .f32) (b : Fin 4) (T J : Fin 2048) :
    val_main_v11 x0 x1 x2 x3 x4 (ix3 b T J) = x3 (ix3 b T J) + x4 (ix2 b J) * ∑ d : Fin 2048,
      x0 (ix3 ⟨(d : ℕ) % 4 * 16 + (d : ℕ) / 4 % 16, by omega⟩ T ⟨(b : ℕ) * 32 + (d : ℕ) / 64, by omega⟩)
        * x1 (ix3 b T ⟨(d : ℕ) / 4 % 16 * 128 + (d : ℕ) % 4 * 32 + (d : ℕ) / 64, by omega⟩) * x2 (ix2 d J) := by
  pointwise [val_main_v11, val_main_v10, val_main_v9, val_main_v8, val_main_v7, val_main_v6, val_main_v5, val_main_v4, val_main_v3,
    val_main_v2, val_main_v1, val_main_v0, id]

end Cert.Readout
-- ==== Proof.ReadoutClaims.lean ====
module

public import proofs.«01_k».proof.Defs
public import proofs.«01_k».proof.Proof.Gen.Kernel13
public import proofs.«01_k».proof.Proof.Gen.Kernel13.Frame
public import proofs.«01_k».proof.Proof.Readout
public import proofs.«01_k».proof.Proof.ReadoutRef
public import Idealize.ShloMosaic.Lib.Claim

/-!
# The claims about the time mixing's output projection
-/

@[expose] public section

set_option maxRecDepth 16384

noncomputable section

namespace Cert.Proof.ReadoutClaims

open Idealize.ShloMosaic Idealize.SL.Sem Idealize.ShloMosaic.Tactic

/-- The kernel runs, leaves its arguments unchanged and every counter at zero. -/
theorem frame_p : Cert.quiescent_Kernel13 := fun m ρ _ => Cert.Kernel13.Gen.frame m ρ

/-- So does the ideal kernel. -/
theorem frame_pi : Cert.quiescent_Kernel13Ideal := fun m ρ _ => Cert.Kernel13Ideal.Gen.frame m ρ

/-- So does the ideal reference. -/
theorem frame_ri : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- No constant is named and no operation is rewritten. -/
theorem preserves : Cert.preserves_Kernel13_Kernel13Ideal := trivial

/-- Of arguments that agree the ideal kernel and the ideal reference compute the same array. -/
theorem algebraic : Cert.algebraic_Kernel13Ideal_Reference13Ideal := by
  pair_intro
  · run_from Cert.Kernel13Ideal.Value.run_blocks m g
  · run_from Cert.Reference13Ideal.Value.run m' g'
    rw [Cert.Reference13Ideal.Read.val_main_v11_eq]
    refine Eq.trans (funext fun z => ?_) (Cert.Readout.result m c).symm
    obtain ⟨b, T, J, rfl⟩ : ∃ (b : Fin 4) (T J : Fin 2048), z = ix3 b T J := ⟨z 0, z 1, z 2, by funext i; fin_cases i <;> rfl⟩
    exact Cert.Readout.ref_out _ _ _ _ _ b T J

end Cert.Proof.ReadoutClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Claims
public import proofs.«01_k».proof.Proof.UpClaims
public import proofs.«01_k».proof.Proof.DownClaims
public import proofs.«01_k».proof.Proof.FinalClaims
public import proofs.«01_k».proof.Proof.QueryClaims
public import proofs.«01_k».proof.Proof.KeyValueClaims
public import proofs.«01_k».proof.Proof.OutputClaims
public import proofs.«01_k».proof.Proof.ReceptanceClaims
public import proofs.«01_k».proof.Proof.DecayClaims
public import proofs.«01_k».proof.Proof.RateClaims
public import proofs.«01_k».proof.Proof.ReadoutClaims
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Pre_finite.Gen.facts,
    AttnClaims.frame_p, AttnClaims.frame_pi, fun m g _ => AttnClaims.frame_pi m g trivial, AttnClaims.frame_ri,
    fun m g _ => AttnClaims.frame_ri m g trivial,
    UpClaims.frame_p, UpClaims.frame_pi, UpClaims.frame_ri,
    DownClaims.frame_p, DownClaims.frame_pi, DownClaims.frame_ri,
    FinalClaims.frame_p, FinalClaims.frame_pi, FinalClaims.frame_ri,
    QueryClaims.frame_p, QueryClaims.frame_pi, QueryClaims.frame_ri,
    KeyValueClaims.frame_p, KeyValueClaims.frame_pi, KeyValueClaims.frame_ri,
    OutputClaims.frame_p, OutputClaims.frame_pi, OutputClaims.frame_ri,
    ReceptanceClaims.frame_p, ReceptanceClaims.frame_pi, ReceptanceClaims.frame_ri,
    DecayClaims.frame_p, DecayClaims.frame_pi, DecayClaims.frame_ri,
    RateClaims.frame_p, RateClaims.frame_pi, RateClaims.frame_ri,
    ReadoutClaims.frame_p, ReadoutClaims.frame_pi, ReadoutClaims.frame_ri,
    AttnClaims.preserves, AttnClaims.algebraic,
    UpClaims.preserves, UpClaims.algebraic,
    DownClaims.preserves, DownClaims.algebraic,
    FinalClaims.preserves, FinalClaims.algebraic,
    QueryClaims.preserves, QueryClaims.algebraic,
    KeyValueClaims.preserves, KeyValueClaims.algebraic,
    OutputClaims.preserves, OutputClaims.algebraic,
    ReceptanceClaims.preserves, ReceptanceClaims.algebraic,
    DecayClaims.preserves, DecayClaims.algebraic,
    RateClaims.preserves, RateClaims.algebraic,
    ReadoutClaims.preserves, ReadoutClaims.algebraic⟩

end Cert.Proof

end
